-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "slope0" .f32 0xBF38AA3B#32 ((-((1 / 2) * (Real.log 2)⁻¹) : ℝ) : EReal)
  ∧ IdealRules.named_const.Statement Cert.KernelIdeal.κ "slope1" .f32 0xBEB8AA3B#32 ((-((1 / 4) * (Real.log 2)⁻¹) : ℝ) : EReal)
  ∧ IdealRules.named_const.Statement Cert.KernelIdeal.κ "slope2" .f32 0xBE38AA3B#32 ((-((1 / 8) * (Real.log 2)⁻¹) : ℝ) : EReal)
  ∧ IdealRules.named_const.Statement Cert.KernelIdeal.κ "slope3" .f32 0xBDB8AA3B#32 ((-((1 / 16) * (Real.log 2)⁻¹) : ℝ) : EReal)
  ∧ IdealRules.named_const.Statement Cert.KernelIdeal.κ "slope4" .f32 0xBD38AA3B#32 ((-((1 / 32) * (Real.log 2)⁻¹) : ℝ) : EReal)
  ∧ IdealRules.named_const.Statement Cert.KernelIdeal.κ "slope5" .f32 0xBCB8AA3B#32 ((-((1 / 64) * (Real.log 2)⁻¹) : ℝ) : EReal)
  ∧ IdealRules.named_const.Statement Cert.KernelIdeal.κ "slope6" .f32 0xBC38AA3B#32 ((-((1 / 128) * (Real.log 2)⁻¹) : ℝ) : EReal)
  ∧ IdealRules.named_const.Statement Cert.KernelIdeal.κ "slope7" .f32 0xBBB8AA3B#32 ((-((1 / 256) * (Real.log 2)⁻¹) : ℝ) : EReal)
  ∧ IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S8x8192x1024 : Shape := ⟨3, ![8, 8192, 1024]⟩
abbrev S1x1024x1792 : Shape := ⟨3, ![1, 1024, 1792]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8x8192x1024 : S_.BroadcastsInDim S8x8192x1024 (![] : Fin 0 → Fin S8x8192x1024.rank)
  bcast_S_S1x1024x1792 : S_.BroadcastsInDim S1x1024x1792 (![] : Fin 0 → Fin S1x1024x1792.rank)
  bcast_S_S1x8 : S_.BroadcastsInDim S1x8 (![] : Fin 0 → Fin S1x8.rank)

variable [Facts]

def fn {F : FTy → Type} [FloatOps F] (main_arg0 : FVec F S8x8192x1024 .f32) (main_arg1 : FVec F S1x1024x1792 .f32) (main_arg2 : FVec F S1x8 .f32) (main_arg3 : FVec F S1x512 .f32) (main_arg4 : FVec F S1x512 .f32) (main_arg5 : FVec F S1x8x128x128 .f32) (main_arg6 : FVec F S1x8x128 .f32) (main_arg7 : FVec F S1x512 .f32) (main_arg8 : FVec F S1x512 .f32) (main_arg9 : FVec F S1x1024x1024 .f32) (main_arg10 : FVec F S1x1024 .f32) (main_arg11 : FVec F S1x1024 .f32) (main_arg12 : FVec F S1x1024x4096 .f32) (main_arg13 : FVec F S1x4096x1024 .f32) (main_arg14 : FVec F S1x1024 .f32) (main_arg15 : FVec F S1x1024 .f32) : IVec S8x8192x1024 1 × IVec S1x1024x1792 1 × IVec S1x8 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1x1024x1792 .f32 := Host.absf main_arg1
  let main_cst_0 : FVec F S_ .f32 := constant S_ .f32 0x7F800000#32
  let main_v4 : FVec F S1x1024x1792 .f32 := broadcastInDim S1x1024x1792 ![] bcast_S_S1x1024x1792 main_cst_0
  let main_v5 : IVec S1x1024x1792 1 := cmpf .olt main_v3 main_v4
  let main_v6 : FVec F S1x8 .f32 := Host.absf main_arg2
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S8x8192x1024 : Shape := ⟨3, ![8, 8192, 1024]⟩
abbrev S1x1024x1792 : Shape := ⟨3, ![1, 1024, 1792]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8x128x128 : Shape := ⟨3, ![8, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S512 : Shape := ⟨1, ![512]⟩
abbrev S1024 : Shape := ⟨1, ![1024]⟩
abbrev S1024x1792 : Shape := ⟨2, ![1024, 1792]⟩
abbrev S1024x1024 : Shape := ⟨2, ![1024, 1024]⟩
abbrev S1024x4096 : Shape := ⟨2, ![1024, 4096]⟩
abbrev S4096x1024 : Shape := ⟨2, ![4096, 1024]⟩
abbrev S8 : Shape := ⟨1, ![8]⟩
abbrev S1x512x1024 : Shape := ⟨3, ![1, 512, 1024]⟩
abbrev S1x128x1024 : Shape := ⟨3, ![1, 128, 1024]⟩
abbrev S512x512 : Shape := ⟨2, ![512, 512]⟩
abbrev S4x768x128 : Shape := ⟨3, ![4, 768, 128]⟩
abbrev S4x128x768 : Shape := ⟨3, ![4, 128, 768]⟩
abbrev S8x384x128 : Shape := ⟨3, ![8, 384, 128]⟩
abbrev S512x1024 : Shape := ⟨2, ![512, 1024]⟩
abbrev S384x128 : Shape := ⟨2, ![384, 128]⟩
abbrev S1x384x128 : Shape := ⟨3, ![1, 384, 128]⟩
abbrev S1024x256 : Shape := ⟨2, ![1024, 256]⟩
abbrev S512x256 : Shape := ⟨2, ![512, 256]⟩
abbrev S128x1024 : Shape := ⟨2, ![128, 1024]⟩
abbrev S128x256 : Shape := ⟨2, ![128, 256]⟩
abbrev S1024x512 : Shape := ⟨2, ![1024, 512]⟩
abbrev S4x128x128 : Shape := ⟨3, ![4, 128, 128]⟩
abbrev S512x128 : Shape := ⟨2, ![512, 128]⟩
abbrev S1x512x128 : Shape := ⟨3, ![1, 512, 128]⟩
abbrev S1x128x512 : Shape := ⟨3, ![1, 128, 512]⟩
abbrev S128x128 : Shape := ⟨2, ![128, 128]⟩
abbrev S1x128x128 : Shape := ⟨3, ![1, 128, 128]⟩
abbrev S512x1 : Shape := ⟨2, ![512, 1]⟩
abbrev S256x128 : Shape := ⟨2, ![256, 128]⟩
abbrev S768x128 : Shape := ⟨2, ![768, 128]⟩
abbrev S768x256 : Shape := ⟨2, ![768, 256]⟩
abbrev S1 : Shape := ⟨1, ![1]⟩
abbrev S128 : Shape := ⟨1, ![128]⟩
abbrev S1x128 : Shape := ⟨2, ![1, 128]⟩
abbrev S384x256 : Shape := ⟨2, ![384, 256]⟩
abbrev S1x128x384 : Shape := ⟨3, ![1, 128, 384]⟩
abbrev S128x384 : Shape := ⟨2, ![128, 384]⟩
abbrev S128x768 : Shape := ⟨2, ![128, 768]⟩
abbrev S128x1 : Shape := ⟨2, ![128, 1]⟩
abbrev S1x128x256 : Shape := ⟨3, ![1, 128, 256]⟩

abbrev nBuf : Space → Nat
  | .hbm => 51
  | .vmem => 30
  | .smem => 1
  | _ => 0

abbrev bufTy : (tb : Table) → Fin (tcTables nBuf tb) → BufTy
  | .hbm, ⟨0, _⟩ => ⟨S8x8192x1024, .f32⟩
  | .hbm, ⟨1, _⟩ => ⟨S1x1024x1792, .f32⟩
  | .hbm, ⟨2, _⟩ => ⟨S1x8, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1x512, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1x1024, .f32⟩
  | .hbm, ⟨15, _⟩ => ⟨S1x1024, .f32⟩
  | .hbm, ⟨16, _⟩ => ⟨S8x128x128, .f32⟩
  | .hbm, ⟨17, _⟩ => ⟨S4x2x128x128, .f32⟩
  | .hbm, ⟨18, _⟩ => ⟨S4x128x2x128, .f32⟩
  | .hbm, ⟨19, _⟩ => ⟨S4x128x256, .f32⟩
  | .hbm, ⟨20, _⟩ => ⟨S4x128x256, .bf16⟩
  | .hbm, ⟨21, _⟩ => ⟨S8x128, .f32⟩
  | .hbm, ⟨22, _⟩ => ⟨S128x8, .f32⟩
  | .hbm, ⟨23, _⟩ => ⟨S128x8x64, .f32⟩
  | .hbm, ⟨24, _⟩ => ⟨S128x512, .f32⟩
  | .hbm, ⟨25, _⟩ => ⟨S512, .f32⟩
  | .hbm, ⟨26, _⟩ => ⟨S512, .f32⟩
  | .hbm, ⟨27, _⟩ => ⟨S1024, .f32⟩
  | .hbm, ⟨28, _⟩ => ⟨S1x1024, .f32⟩
  | .hbm, ⟨29, _⟩ => ⟨S1024x1792, .f32⟩
  | .hbm, ⟨30, _⟩ => ⟨S1024x1792, .bf16⟩
  | .hbm, ⟨31, _⟩ => ⟨S512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S1024x1024, .f32⟩
  | .hbm, ⟨36, _⟩ => ⟨S1024x1024, .bf16⟩
  | .hbm, ⟨37, _⟩ => ⟨S1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024x4096, .f32⟩
  | .hbm, ⟨42, _⟩ => ⟨S1024x4096, .bf16⟩
  | .hbm, ⟨43, _⟩ => ⟨S4096x1024, .f32⟩
  | .hbm, ⟨44, _⟩ => ⟨S4096x1024, .bf16⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S8, .f32⟩
  | .hbm, ⟨50, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x1792, .bf16⟩
  | .local _ .vmem, ⟨5, _⟩ => ⟨S1x512, .f32⟩
  | .local _ .vmem, ⟨6, _⟩ => ⟨S1x512, .f32⟩
  | .local _ .vmem, ⟨7, _⟩ => ⟨S4x128x256, .bf16⟩
  | .local _ .vmem, ⟨8, _⟩ => ⟨S128x512, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x512, .bf16⟩
  | .local _ .vmem, ⟨20, _⟩ => ⟨S4x768x128, .bf16⟩
  | .local _ .vmem, ⟨21, _⟩ => ⟨S4x128x768, .bf16⟩
  | .local _ .vmem, ⟨22, _⟩ => ⟨S512x512, .f32⟩
  | .local _ .vmem, ⟨23, _⟩ => ⟨S512x512, .f32⟩
  | .local _ .vmem, ⟨24, _⟩ => ⟨S8x384x128, .f32⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .f32⟩
  | .local _ .smem, ⟨0, _⟩ => ⟨S8, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![130], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c127_i32 : BitVec 32 := 127#32
  let v1 : BitVec 32 := Scalar.maxsi c0_i32_0 v0
  let v2 : BitVec 32 := Scalar.minsi c127_i32 v1
  let c16_i32 : BitVec 32 := 16#32
  let v3 : BitVec 32 := Scalar.divsi v2 c16_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c16_i32 c0_i32_3
  let v10 : BitVec 32 := Scalar.extui v9
  let c0_i32_4 : BitVec 32 := 0#32
  let v11 : BitVec 1 := Scalar.cmpi .slt c16_i32 c0_i32_4
  let v12 : BitVec 32 := Scalar.extui v11
  let v13 : BitVec 32 := Scalar.subi v10 v12
  let v14 : BitVec 1 := Scalar.cmpi .ne v8 v13
  let v15 : BitVec 32 := Scalar.remsi v2 c16_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c16_i32_6 : BitVec 32 := 16#32
  let c0_i32_7 : BitVec 32 := 0#32
  let v20 : BitVec 1 := Scalar.cmpi .eq c16_i32_6 c0_i32_7
  let c1_i32_8 : BitVec 32 := 1#32
  let v21 : BitVec 32 := Scalar.select v20 c1_i32_8 c16_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let v30 : BitVec 32 := Scalar.addi v29 c1_i32_12
  let c4_i32 : BitVec 32 := 4#32
  let v31 : BitVec 32 := Scalar.muli v30 c4_i32
  let c63_i32 : BitVec 32 := 63#32
  let v32 : BitVec 32 := Scalar.minsi v31 c63_i32
  let c0_i32_13 : BitVec 32 := 0#32
  let c0_i32_14 : BitVec 32 := 0#32
  ![v19.toNat, v32.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c127_i32 : BitVec 32 := 127#32
  let v1 : BitVec 32 := Scalar.maxsi c0_i32 v0
  let v2 : BitVec 32 := Scalar.minsi c127_i32 v1
  let c16_i32 : BitVec 32 := 16#32
  let v3 : BitVec 32 := Scalar.divsi v2 c16_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "q_scale" => some (((1 / 8) * (Real.log 2)⁻¹ : ℝ) : EReal)
  | "slope0" => some ((-((1 / 2) * (Real.log 2)⁻¹) : ℝ) : EReal)
  | "slope1" => some ((-((1 / 4) * (Real.log 2)⁻¹) : ℝ) : EReal)
  | "slope2" => some ((-((1 / 8) * (Real.log 2)⁻¹) : ℝ) : EReal)
  | "slope3" => some ((-((1 / 16) * (Real.log 2)⁻¹) : ℝ) : EReal)
  | "slope4" => some ((-((1 / 32) * (Real.log 2)⁻¹) : ℝ) : EReal)
  | "slope5" => some ((-((1 / 64) * (Real.log 2)⁻¹) : ℝ) : EReal)
  | "slope6" => some ((-((1 / 128) * (Real.log 2)⁻¹) : ℝ) : EReal)
  | "slope7" => some ((-((1 / 256) * (Real.log 2)⁻¹) : ℝ) : EReal)
  | _ => none
-- ==== ReferenceIdeal.lean ====
abbrev S8x8192x1024 : Shape := ⟨3, ![8, 8192, 1024]⟩
abbrev S1x1024x1792 : Shape := ⟨3, ![1, 1024, 1792]⟩
abbrev S1x8 : Shape := ⟨2, ![1, 8]⟩
abbrev S1x512 : Shape := ⟨2, ![1, 512]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1792 : Shape := ⟨2, ![1024, 1792]⟩
abbrev S8x8192x1792 : Shape := ⟨3, ![8, 8192, 1792]⟩
abbrev S8x8192x512 : Shape := ⟨3, ![8, 8192, 512]⟩
abbrev S8x8192x128 : Shape := ⟨3, ![8, 8192, 128]⟩
abbrev S8 : Shape := ⟨1, ![8]⟩
abbrev S8x64x128x2x4x64 : Shape := ⟨6, ![8, 64, 128, 2, 4, 64]⟩
abbrev S_ : Shape := ⟨0, ![]⟩
abbrev S8x8448x128 : Shape := ⟨3, ![8, 8448, 128]⟩
abbrev S8x66x128x2x64 : Shape := ⟨5, ![8, 66, 128, 2, 64]⟩
abbrev S8x64x128x2x64 : Shape := ⟨5, ![8, 64, 128, 2, 64]⟩
abbrev S8x64x384x2x64 : Shape := ⟨5, ![8, 64, 384, 2, 64]⟩
abbrev S8x64x2x384x128x4 : Shape := ⟨6, ![8, 64, 2, 384, 128, 4]⟩
abbrev S8x64x2x4x128x384 : Shape := ⟨6, ![8, 64, 2, 4, 128, 384]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S2x4 : Shape := ⟨2, ![2, 4]⟩
abbrev S1x2x4x1x1 : Shape := ⟨5, ![1, 2, 4, 1, 1]⟩
abbrev S64x1x1x128x384 : Shape := ⟨5, ![64, 1, 1, 128, 384]⟩
abbrev S64x2x4x128x384 : Shape := ⟨5, ![64, 2, 4, 128, 384]⟩
abbrev S1x64x2x4x128x384 : Shape := ⟨6, ![1, 64, 2, 4, 128, 384]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x64x4x128 : Shape := ⟨6, ![8, 64, 2, 64, 4, 128]⟩
abbrev S512 : Shape := ⟨1, ![512]⟩
abbrev S8x128x128 : Shape := ⟨3, ![8, 128, 128]⟩
abbrev S8x128 : Shape := ⟨2, ![8, 128]⟩
abbrev S8x8192 : Shape := ⟨2, ![8, 8192]⟩
abbrev S8x8192x1 : Shape := ⟨3, ![8, 8192, 1]⟩
abbrev S1x1x512 : Shape := ⟨3, ![1, 1, 512]⟩
abbrev S8x64x128x8x64 : Shape := ⟨5, ![8, 64, 128, 8, 64]⟩
abbrev S8x8x64x64x128 : Shape := ⟨5, ![8, 8, 64, 64, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S1x1x1024 : Shape := ⟨3, ![1, 1, 1024]⟩
abbrev S1024x4096 : Shape := ⟨2, ![1024, 4096]⟩
abbrev S8x8192x4096 : Shape := ⟨3, ![8, 8192, 4096]⟩
abbrev S4096x1024 : Shape := ⟨2, ![4096, 1024]⟩

abbrev nBuf : Space → Nat
  | .hbm => 311
  | .vmem => 0
  | .smem => 0
  | _ => 0

abbrev hbmTy0_0 (i : Nat) : BufTy := match i % 128 with
  | 0 => ⟨S8x8192x1024, .f32⟩
  | 1 => ⟨S1x1024x1792, .f32⟩
  | 2 => ⟨S1x8, .f32⟩
  | 3 => ⟨S1x512, .f32⟩
  | 4 => ⟨S1x512, .f32⟩
  | 5 => ⟨S1x8x128x128, .f32⟩
  | 6 => ⟨S1x8x128, .f32⟩
  | 7 => ⟨S1x512, .f32⟩
  | 8 => ⟨S1x512, .f32⟩
  | 9 => ⟨S1x1024x1024, .f32⟩
  | 10 => ⟨S1x1024, .f32⟩
  | 11 => ⟨S1x1024, .f32⟩
  | 12 => ⟨S1x1024x4096, .f32⟩
  | 13 => ⟨S1x4096x1024, .f32⟩
  | 14 => ⟨S1x1024, .f32⟩
  | 15 => ⟨S1x1024, .f32⟩
  | 16 => ⟨S1024, .f32⟩
  | 17 => ⟨S1024, .f32⟩
  | 18 => ⟨S1024, .f32⟩
  | 19 => ⟨S1024, .f32⟩
  | 20 => ⟨S1024x1792, .f32⟩
  | 21 => ⟨S8x8192x1792, .f32⟩
  | 22 => ⟨S8x8192x512, .f32⟩
  | 23 => ⟨S8x8192x128, .f32⟩
  | 24 => ⟨S8x8192x128, .f32⟩
  | 25 => ⟨S8x8192x512, .f32⟩
  | 26 => ⟨S8x8192x512, .f32⟩
  | 27 => ⟨S8, .f32⟩
  | 28 => ⟨S8x64x128x2x4x64, .f32⟩
  | 29 => ⟨S_, .i32⟩
  | 30 => ⟨S_, .f32⟩
  | 31 => ⟨S8x8448x128, .f32⟩
  | 32 => ⟨S8x66x128x2x64, .f32⟩
  | 33 => ⟨S_, .i32⟩
  | 34 => ⟨S_, .f32⟩
  | 35 => ⟨S8x8448x128, .f32⟩
  | 36 => ⟨S8x66x128x2x64, .f32⟩
  | 37 => ⟨S8x64x128x2x64, .f32⟩
  | 38 => ⟨S8x64x128x2x64, .f32⟩
  | 39 => ⟨S8x64x128x2x64, .f32⟩
  | 40 => ⟨S8x64x384x2x64, .f32⟩
  | 41 => ⟨S8x64x128x2x64, .f32⟩
  | 42 => ⟨S8x64x128x2x64, .f32⟩
  | 43 => ⟨S8x64x128x2x64, .f32⟩
  | 44 => ⟨S8x64x384x2x64, .f32⟩
  | 45 => ⟨S8x64x2x384x128x4, .f32⟩
  | 46 => ⟨S8x64x2x4x128x384, .f32⟩
  | 47 => ⟨S_, .f32⟩
  | 48 => ⟨S8x64x2x4x128x384, .f32⟩
  | 49 => ⟨S8x64x2x4x128x384, .f32⟩
  | 50 => ⟨S64, .i32⟩
  | 51 => ⟨S64x1, .i32⟩
  | 52 => ⟨S_, .i32⟩
  | 53 => ⟨S64x1, .i32⟩
  | 54 => ⟨S64x1, .i32⟩
  | 55 => ⟨S128, .i32⟩
  | 56 => ⟨S1x128, .i32⟩
  | 57 => ⟨S64x128, .i32⟩
  | 58 => ⟨S64x128, .i32⟩
  | 59 => ⟨S64x128, .i32⟩
  | 60 => ⟨S_, .i32⟩
  | 61 => ⟨S64x1, .i32⟩
  | 62 => ⟨S64x1, .i32⟩
  | 63 => ⟨S384, .i32⟩
  | 64 => ⟨S1x384, .i32⟩
  | 65 => ⟨S64x384, .i32⟩
  | 66 => ⟨S64x384, .i32⟩
  | 67 => ⟨S64x384, .i32⟩
  | 68 => ⟨S64x128x1, .i32⟩
  | 69 => ⟨S64x1x384, .i32⟩
  | 70 => ⟨S64x128x384, .i32⟩
  | 71 => ⟨S64x128x384, .i32⟩
  | 72 => ⟨S64x128x384, .i32⟩
  | 73 => ⟨S64x128x384, .i32⟩
  | 74 => ⟨S_, .i32⟩
  | 75 => ⟨S64x128x384, .i32⟩
  | 76 => ⟨S64x128x384, .i1⟩
  | 77 => ⟨S64x1x384, .i32⟩
  | 78 => ⟨S_, .i32⟩
  | 79 => ⟨S64x1x384, .i32⟩
  | 80 => ⟨S64x1x384, .i1⟩
  | 81 => ⟨S64x128x384, .i1⟩
  | 82 => ⟨S64x128x384, .i1⟩
  | 83 => ⟨S64x1x384, .i32⟩
  | 84 => ⟨S_, .i32⟩
  | 85 => ⟨S64x1x384, .i32⟩
  | 86 => ⟨S64x1x384, .i1⟩
  | 87 => ⟨S64x128x384, .i1⟩
  | 88 => ⟨S64x128x384, .i1⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S2x4, .f32⟩
  | 103 => ⟨S1x2x4x1x1, .f32⟩
  | 104 => ⟨S1x2x4x1x1, .f32⟩
  | 105 => ⟨S64x1x1x128x384, .i32⟩
  | 106 => ⟨S64x1x1x128x384, .f32⟩
  | 107 => ⟨S64x2x4x128x384, .f32⟩
  | 108 => ⟨S64x2x4x128x384, .f32⟩
  | 109 => ⟨S64x2x4x128x384, .f32⟩
  | 110 => ⟨S64x1x1x128x384, .i1⟩
  | 111 => ⟨S1x64x2x4x128x384, .f32⟩
  | 112 => ⟨S8x64x2x4x128x384, .f32⟩
  | 113 => ⟨S8x64x2x4x128x384, .f32⟩
  | 114 => ⟨S_, .f32⟩
  | 115 => ⟨S_, .f32⟩
  | 116 => ⟨S8x64x2x4x128x384, .i1⟩
  | 117 => ⟨S8x64x2x4x128x384, .f32⟩
  | 118 => ⟨S8x64x2x4x128x384, .f32⟩
  | 119 => ⟨S1x1x2x4x1x1, .f32⟩
  | 120 => ⟨S_, .f32⟩
  | 121 => ⟨S8x64x2x4x128, .f32⟩
  | 122 => ⟨S8x64x2x4x128x1, .f32⟩
  | 123 => ⟨S8x64x2x4x128x1, .f32⟩
  | 124 => ⟨S8x64x2x4x128x1, .f32⟩
  | 125 => ⟨S8x64x2x4x128x384, .f32⟩
  | 126 => ⟨S8x64x2x4x128x384, .f32⟩
  | 127 => ⟨S8x64x2x4x128x384, .f32⟩
  | _ => ⟨S8x8192x1024, .f32⟩

abbrev hbmTy0_1 (i : Nat) : BufTy := match i % 128 with
  | 0 => ⟨S_, .f32⟩
  | 1 => ⟨S8x64x2x4x128, .f32⟩
  | 2 => ⟨S8x64x2x4x128x1, .f32⟩
  | 3 => ⟨S8x64x2x4x128x1, .f32⟩
  | 4 => ⟨S8x64x2x4x128x1, .f32⟩
  | 5 => ⟨S8x64x2x4x128x1, .f32⟩
  | 6 => ⟨S8x64x2x4x128x1, .f32⟩
  | 7 => ⟨S8x64x2x4x128x384, .f32⟩
  | 8 => ⟨S8x64x2x4x128x384, .f32⟩
  | 9 => ⟨S8x64x2x64x4x128, .f32⟩
  | 10 => ⟨S8x64x128x2x4x64, .f32⟩
  | 11 => ⟨S8x8192x512, .f32⟩
  | 12 => ⟨S_, .f32⟩
  | 13 => ⟨S8x8192x512, .f32⟩
  | 14 => ⟨S8x8192x512, .f32⟩
  | 15 => ⟨S8x8192x512, .f32⟩
  | 16 => ⟨S_, .f32⟩
  | 17 => ⟨S8x8192x512, .f32⟩
  | 18 => ⟨S8x8192x512, .f32⟩
  | 19 => ⟨S8x8192x512, .f32⟩
  | 20 => ⟨S8x8192x512, .f32⟩
  | 21 => ⟨S_, .f32⟩
  | 22 => ⟨S8x8192x512, .f32⟩
  | 23 => ⟨S8x8192x512, .f32⟩
  | 24 => ⟨S8x8192x512, .f32⟩
  | 25 => ⟨S_, .f32⟩
  | 26 => ⟨S8x8192x512, .f32⟩
  | 27 => ⟨S8x8192x512, .f32⟩
  | 28 => ⟨S8x8192x512, .f32⟩
  | 29 => ⟨S8x8192x512, .f32⟩
  | 30 => ⟨S512, .f32⟩
  | 31 => ⟨S512, .f32⟩
  | 32 => ⟨S8x128x128, .f32⟩
  | 33 => ⟨S8x128, .f32⟩
  | 34 => ⟨S_, .f32⟩
  | 35 => ⟨S8x8192, .f32⟩
  | 36 => ⟨S8x8192x1, .f32⟩
  | 37 => ⟨S_, .f32⟩
  | 38 => ⟨S8x8192x1, .f32⟩
  | 39 => ⟨S8x8192x1, .f32⟩
  | 40 => ⟨S8x8192x512, .f32⟩
  | 41 => ⟨S8x8192x512, .f32⟩
  | 42 => ⟨S8x8192x512, .f32⟩
  | 43 => ⟨S_, .f32⟩
  | 44 => ⟨S8x8192, .f32⟩
  | 45 => ⟨S8x8192x1, .f32⟩
  | 46 => ⟨S_, .f32⟩
  | 47 => ⟨S8x8192x1, .f32⟩
  | 48 => ⟨S8x8192x1, .f32⟩
  | 49 => ⟨S8x8192x512, .f32⟩
  | 50 => ⟨S8x8192x512, .f32⟩
  | 51 => ⟨S_, .f32⟩
  | 52 => ⟨S8x8192x1, .f32⟩
  | 53 => ⟨S8x8192x1, .f32⟩
  | 54 => ⟨S8x8192x1, .f32⟩
  | 55 => ⟨S8x8192x512, .f32⟩
  | 56 => ⟨S8x8192x512, .f32⟩
  | 57 => ⟨S1x1x512, .f32⟩
  | 58 => ⟨S8x8192x512, .f32⟩
  | 59 => ⟨S8x8192x512, .f32⟩
  | 60 => ⟨S1x1x512, .f32⟩
  | 61 => ⟨S8x8192x512, .f32⟩
  | 62 => ⟨S8x8192x512, .f32⟩
  | 63 => ⟨S8x64x128x8x64, .f32⟩
  | 64 => ⟨S8x8x64x64x128, .f32⟩
  | 65 => ⟨S8x64x128x8x64, .f32⟩
  | 66 => ⟨S128x8, .f32⟩
  | 67 => ⟨S1x1x128x8x1, .f32⟩
  | 68 => ⟨S8x64x128x8x64, .f32⟩
  | 69 => ⟨S8x64x128x8x64, .f32⟩
  | 70 => ⟨S8x8192x512, .f32⟩
  | 71 => ⟨S8x8192x512, .f32⟩
  | 72 => ⟨S512, .f32⟩
  | 73 => ⟨S8x8192x512, .f32⟩
  | 74 => ⟨S_, .f32⟩
  | 75 => ⟨S8x8192, .f32⟩
  | 76 => ⟨S8x8192x1, .f32⟩
  | 77 => ⟨S_, .f32⟩
  | 78 => ⟨S8x8192x1, .f32⟩
  | 79 => ⟨S8x8192x1, .f32⟩
  | 80 => ⟨S_, .f32⟩
  | 81 => ⟨S8x8192x1, .f32⟩
  | 82 => ⟨S8x8192x1, .f32⟩
  | 83 => ⟨S8x8192x1, .f32⟩
  | 84 => ⟨S8x8192x512, .f32⟩
  | 85 => ⟨S8x8192x512, .f32⟩
  | 86 => ⟨S1x1x512, .f32⟩
  | 87 => ⟨S8x8192x512, .f32⟩
  | 88 => ⟨S8x8192x512, .f32⟩
  | 89 => ⟨S512, .f32⟩
  | 90 => ⟨S8x8192x512, .f32⟩
  | 91 => ⟨S_, .f32⟩
  | 92 => ⟨S8x8192, .f32⟩
  | 93 => ⟨S8x8192x1, .f32⟩
  | 94 => ⟨S_, .f32⟩
  | 95 => ⟨S8x8192x1, .f32⟩
  | 96 => ⟨S8x8192x1, .f32⟩
  | 97 => ⟨S_, .f32⟩
  | 98 => ⟨S8x8192x1, .f32⟩
  | 99 => ⟨S8x8192x1, .f32⟩
  | 100 => ⟨S8x8192x1, .f32⟩
  | 101 => ⟨S8x8192x512, .f32⟩
  | 102 => ⟨S8x8192x512, .f32⟩
  | 103 => ⟨S1x1x512, .f32⟩
  | 104 => ⟨S8x8192x512, .f32⟩
  | 105 => ⟨S8x8192x512, .f32⟩
  | 106 => ⟨S8x8192x1024, .f32⟩
  | 107 => ⟨S1024x1024, .f32⟩
  | 108 => ⟨S8x8192x1024, .f32⟩
  | 109 => ⟨S_, .f32⟩
  | 110 => ⟨S8x8192x1024, .f32⟩
  | 111 => ⟨S8x8192x1024, .f32⟩
  | 112 => ⟨S8x8192x1024, .f32⟩
  | 113 => ⟨S_, .f32⟩
  | 114 => ⟨S8x8192, .f32⟩
  | 115 => ⟨S8x8192x1, .f32⟩
  | 116 => ⟨S_, .f32⟩
  | 117 => ⟨S8x8192x1, .f32⟩
  | 118 => ⟨S8x8192x1, .f32⟩
  | 119 => ⟨S8x8192x1024, .f32⟩
  | 120 => ⟨S8x8192x1024, .f32⟩
  | 121 => ⟨S8x8192x1024, .f32⟩
  | 122 => ⟨S_, .f32⟩
  | 123 => ⟨S8x8192, .f32⟩
  | 124 => ⟨S8x8192x1, .f32⟩
  | 125 => ⟨S_, .f32⟩
  | 126 => ⟨S8x8192x1, .f32⟩
  | 127 => ⟨S8x8192x1, .f32⟩
  | _ => ⟨S8x8192x1024, .f32⟩

abbrev hbmTy0_2 (i : Nat) : BufTy := match i % 128 with
  | 0 => ⟨S8x8192x1024, .f32⟩
  | 1 => ⟨S8x8192x1024, .f32⟩
  | 2 => ⟨S_, .f32⟩
  | 3 => ⟨S8x8192x1, .f32⟩
  | 4 => ⟨S8x8192x1, .f32⟩
  | 5 => ⟨S8x8192x1, .f32⟩
  | 6 => ⟨S8x8192x1024, .f32⟩
  | 7 => ⟨S8x8192x1024, .f32⟩
  | 8 => ⟨S1x1x1024, .f32⟩
  | 9 => ⟨S8x8192x1024, .f32⟩
  | 10 => ⟨S8x8192x1024, .f32⟩
  | 11 => ⟨S1x1x1024, .f32⟩
  | 12 => ⟨S8x8192x1024, .f32⟩
  | 13 => ⟨S8x8192x1024, .f32⟩
  | 14 => ⟨S1024x4096, .f32⟩
  | 15 => ⟨S8x8192x4096, .f32⟩
  | 16 => ⟨S_, .f32⟩
  | 17 => ⟨S8x8192x4096, .f32⟩
  | 18 => ⟨S8x8192x4096, .f32⟩
  | 19 => ⟨S8x8192x4096, .f32⟩
  | 20 => ⟨S4096x1024, .f32⟩
  | 21 => ⟨S8x8192x1024, .f32⟩
  | 22 => ⟨S_, .f32⟩
  | 23 => ⟨S8x8192x1024, .f32⟩
  | 24 => ⟨S8x8192x1024, .f32⟩
  | 25 => ⟨S8x8192x1024, .f32⟩
  | 26 => ⟨S_, .f32⟩
  | 27 => ⟨S8x8192, .f32⟩
  | 28 => ⟨S8x8192x1, .f32⟩
  | 29 => ⟨S_, .f32⟩
  | 30 => ⟨S8x8192x1, .f32⟩
  | 31 => ⟨S8x8192x1, .f32⟩
  | 32 => ⟨S8x8192x1024, .f32⟩
  | 33 => ⟨S8x8192x1024, .f32⟩
  | 34 => ⟨S8x8192x1024, .f32⟩
  | 35 => ⟨S_, .f32⟩
  | 36 => ⟨S8x8192, .f32⟩
  | 37 => ⟨S8x8192x1, .f32⟩
  | 38 => ⟨S_, .f32⟩
  | 39 => ⟨S8x8192x1, .f32⟩
  | 40 => ⟨S8x8192x1, .f32⟩
  | 41 => ⟨S8x8192x1024, .f32⟩
  | 42 => ⟨S8x8192x1024, .f32⟩
  | 43 => ⟨S_, .f32⟩
  | 44 => ⟨S8x8192x1, .f32⟩
  | 45 => ⟨S8x8192x1, .f32⟩
  | 46 => ⟨S8x8192x1, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S1x1x1024, .f32⟩
  | 53 => ⟨S8x8192x1024, .f32⟩
  | 54 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_1 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_3 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_4 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_5 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_v65 : Ref sig .tc := ⟨.hbm, 92, rfl⟩
abbrev main_cst_7 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_10 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v84 : Ref sig .tc := ⟨.hbm, 118, rfl⟩
abbrev main_v85 : Ref sig .tc := ⟨.hbm, 119, rfl⟩
abbrev main_cst_11 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_13 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_14 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_15 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_16 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_17 : Ref sig .tc := ⟨.hbm, 162, rfl⟩
abbrev main_v122 : Ref sig .tc := ⟨.hbm, 163, rfl⟩
abbrev main_v123 : Ref sig .tc := ⟨.hbm, 164, rfl⟩
abbrev main_cst_18 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_19 : Ref sig .tc := ⟨.hbm, 171, rfl⟩
abbrev main_v129 : Ref sig .tc := ⟨.hbm, 172, rfl⟩
abbrev main_v130 : Ref sig .tc := ⟨.hbm, 173, rfl⟩
abbrev main_cst_20 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_21 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_22 : Ref sig .tc := ⟨.hbm, 202, rfl⟩
abbrev main_v157 : Ref sig .tc := ⟨.hbm, 203, rfl⟩
abbrev main_v158 : Ref sig .tc := ⟨.hbm, 204, rfl⟩
abbrev main_cst_23 : Ref sig .tc := ⟨.hbm, 205, rfl⟩
abbrev main_v159 : Ref sig .tc := ⟨.hbm, 206, rfl⟩
abbrev main_v160 : Ref sig .tc := ⟨.hbm, 207, rfl⟩
abbrev main_cst_24 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_25 : Ref sig .tc := ⟨.hbm, 219, rfl⟩
abbrev main_v171 : Ref sig .tc := ⟨.hbm, 220, rfl⟩
abbrev main_v172 : Ref sig .tc := ⟨.hbm, 221, rfl⟩
abbrev main_cst_26 : Ref sig .tc := ⟨.hbm, 222, rfl⟩
abbrev main_v173 : Ref sig .tc := ⟨.hbm, 223, rfl⟩
abbrev main_v174 : Ref sig .tc := ⟨.hbm, 224, rfl⟩
abbrev main_cst_27 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_28 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_29 : Ref sig .tc := ⟨.hbm, 241, rfl⟩
abbrev main_v189 : Ref sig .tc := ⟨.hbm, 242, rfl⟩
abbrev main_v190 : Ref sig .tc := ⟨.hbm, 243, rfl⟩
abbrev main_cst_30 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_31 : Ref sig .tc := ⟨.hbm, 250, rfl⟩
abbrev main_v196 : Ref sig .tc := ⟨.hbm, 251, rfl⟩
abbrev main_v197 : Ref sig .tc := ⟨.hbm, 252, rfl⟩
abbrev main_cst_32 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_cst_33 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_call3_cst : Ref sig .tc := ⟨.hbm, 272, rfl⟩
abbrev main_call3_v0 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_cst_34 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_cst_35 : Ref sig .tc := ⟨.hbm, 282, rfl⟩
abbrev main_v222 : Ref sig .tc := ⟨.hbm, 283, rfl⟩
abbrev main_v223 : Ref sig .tc := ⟨.hbm, 284, rfl⟩
abbrev main_cst_36 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_cst_37 : Ref sig .tc := ⟨.hbm, 291, rfl⟩
abbrev main_v229 : Ref sig .tc := ⟨.hbm, 292, rfl⟩
abbrev main_v230 : Ref sig .tc := ⟨.hbm, 293, rfl⟩
abbrev main_cst_38 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_39 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩

abbrev nD : Nat := 1
abbrev τ : Topo := Topo.v7x

variable {F : FTy → Type} [FloatOps F]
-- ==== Proof.Soft.lean ====
module

public import Idealize.ShloMosaic.PureOps.Ideal
public import Idealize.ShloMosaic.PureOps.Ideal.Laws

@[expose] public section

noncomputable section

namespace Cert.Proof

open Idealize.ShloMosaic

/-- A score: a real number, or −∞ where the key is masked. -/
def Score (a : EReal) : Prop := a = ⊥ ∨ ∃ r : ℝ, a = (r : EReal)

/-- The maximum of finitely many scores and a real sink is a real number. -/
theorem sup_real {n : ℕ} (a : Fin n → EReal) (ha : ∀ k, Score (a k)) (z : ℝ) :
    ∃ r : ℝ, max (Finset.univ.sup a) (z : EReal) = (r : EReal) := by
  have h1 : Finset.univ.sup a ≠ ⊤ := by
    intro h
    have hlt : Finset.univ.sup a < ⊤ := by
      rw [Finset.sup_lt_iff (by exact bot_lt_top)]
      intro k _
      rcases ha k with h | ⟨r, h⟩
      · rw [h]; exact bot_lt_top
      · rw [h]; exact EReal.coe_lt_top r
    exact hlt.ne h
  have h2 : max (Finset.univ.sup a) (z : EReal) ≠ ⊤ := by
    rw [Ne, max_eq_top]; rintro (h | h)
    · exact h1 h
    · exact EReal.coe_ne_top z h
  have h3 : max (Finset.univ.sup a) (z : EReal) ≠ ⊥ := by
    intro h
    have := le_max_right (Finset.univ.sup a) (z : EReal)
    rw [h] at this
    exact EReal.coe_ne_bot z (le_bot_iff.mp this)
  exact ⟨_, (EReal.coe_toReal h2 h3).symm⟩

/-- A positive real factor moves out of a maximum of scores. -/
theorem sup_scale {n : ℕ} (c : ℝ) (hc : 0 < c) (a : Fin n → EReal) :
    Finset.univ.sup (fun k => (c : EReal) * a k) = (c : EReal) * Finset.univ.sup a := by
  have hm : Monotone (fun x : EReal => (c : EReal) * x) := fun x y h =>
    mul_le_mul_of_nonneg_left h (by exact_mod_cast hc.le)
  have := Finset.comp_sup_eq_sup_comp_of_is_total (s := (Finset.univ : Finset (Fin n))) (f := a) (fun x : EReal => (c : EReal) * x) hm
    (EReal.coe_mul_bot_of_pos hc)
  exact this.symm

theorem max_scale (c : ℝ) (hc : 0 < c) (x y : EReal) : max ((c : EReal) * x) ((c : EReal) * y) = (c : EReal) * max x y := by
  have hm : Monotone (fun x : EReal => (c : EReal) * x) := fun x y h =>
    mul_le_mul_of_nonneg_left h (by exact_mod_cast hc.le)
  exact (hm.map_max).symm

/-- Two to the power `x / ln 2` is `e` to the power `x`, at a score less a real number. -/
theorem exp2_scale (a : EReal) (ha : Score a) (r : ℝ) :
    Ideal.exp2 ((((Real.log 2)⁻¹ : ℝ) : EReal) * a - (((Real.log 2)⁻¹ : ℝ) : EReal) * (r : EReal)) = Ideal.exp (a - (r : EReal)) := by
  have hl : 0 < Real.log 2 := Real.log_pos (by norm_num)
  rcases ha with h | ⟨s, h⟩
  · rw [h, EReal.coe_mul_bot_of_pos (inv_pos.mpr hl)]
    rw [← EReal.coe_mul, EReal.bot_sub, EReal.bot_sub]; rfl
  · rw [h, ← EReal.coe_mul, ← EReal.coe_mul, ← EReal.coe_sub, ← EReal.coe_sub, Ideal.exp2_coe, Ideal.exp_coe]
    congr 1
    rw [Real.rpow_eq_pow]
    rw [Real.rpow_def_of_pos (by norm_num)]
    congr 1
    field_simp

theorem exp_score_real (a : EReal) (ha : Score a) (r : ℝ) : ∃ e : ℝ, 0 ≤ e ∧ Ideal.exp (a - (r : EReal)) = (e : EReal) := by
  rcases ha with h | ⟨s, h⟩
  · exact ⟨0, le_rfl, by rw [h, EReal.bot_sub]; rfl⟩
  · exact ⟨Real.exp (s - r), (Real.exp_pos _).le, by rw [h, ← EReal.coe_sub, Ideal.exp_coe]⟩

/-- The softmax weight of key `k` among the scores `a` with the sink logit `z` in the denominator. -/
def weight {n : ℕ} (a : Fin n → EReal) (z : EReal) (k : Fin n) : EReal :=
  Ideal.div (Ideal.exp (a k - max (Finset.univ.sup a) z))
    ((∑ k' : Fin n, Ideal.exp (a k' - max (Finset.univ.sup a) z)) + Ideal.exp (z - max (Finset.univ.sup a) z))

/-- THE SOFTMAX IN BASE TWO: the scores and the sink scaled by `1 / ln 2`, exponentiated in base two and multiplied by the
    reciprocal of the denominator, give the weights of the softmax in base `e`. -/
theorem weight_base_two {n : ℕ} (a b : Fin n → EReal) (ha : ∀ k, Score (a k)) (z : ℝ) (zb : EReal)
    (hb : ∀ k, b k = (((Real.log 2)⁻¹ : ℝ) : EReal) * a k) (hz : zb = (((Real.log 2)⁻¹ : ℝ) : EReal) * (z : EReal)) (k : Fin n) :
    Ideal.exp2 (b k - max (Finset.univ.sup b) zb)
      * Ideal.div 1 ((∑ k' : Fin n, Ideal.exp2 (b k' - max (Finset.univ.sup b) zb)) + Ideal.exp2 (zb - max (Finset.univ.sup b) zb))
      = weight a (z : EReal) k := by
  have hl : 0 < Real.log 2 := Real.log_pos (by norm_num)
  obtain rfl : b = fun k => (((Real.log 2)⁻¹ : ℝ) : EReal) * a k := funext hb
  subst hz
  obtain ⟨m, hm⟩ := sup_real a ha z
  unfold weight
  rw [sup_scale _ (inv_pos.mpr hl), max_scale _ (inv_pos.mpr hl), hm]
  simp only [exp2_scale _ (ha _) m, exp2_scale _ (Or.inr ⟨z, rfl⟩) m]
  choose e he heq using fun k => exp_score_real (a k) (ha k) m
  obtain ⟨s, hs, hseq⟩ : ∃ s : ℝ, 0 < s ∧ Ideal.exp ((z : EReal) - (m : EReal)) = (s : EReal) :=
    ⟨Real.exp (z - m), Real.exp_pos _, by rw [← EReal.coe_sub, Ideal.exp_coe]⟩
  simp only [heq, hseq]
  have hsum : (∑ k' : Fin n, (e k' : EReal)) + (s : EReal) = ((∑ k' : Fin n, e k' + s : ℝ) : EReal) := by
    rw [EReal.coe_add]; congr 1; exact (map_sum (⟨⟨Real.toEReal, EReal.coe_zero⟩, EReal.coe_add⟩ : ℝ →+ EReal) e Finset.univ).symm
  rw [hsum]
  have hd : (∑ k' : Fin n, e k' + s : ℝ) ≠ 0 := (add_pos_of_nonneg_of_pos (Finset.sum_nonneg fun i _ => he i) hs).ne'
  rw [Ideal.div_coe hd, Ideal.div_coe hd, one_mul]

/-- A masked key has weight zero. -/
theorem weight_masked {n : ℕ} (a : Fin n → EReal) (ha : ∀ k, Score (a k)) (z : ℝ) (k : Fin n) (hk : a k = ⊥) : weight a (z : EReal) k = 0 := by
  obtain ⟨m, hm⟩ := sup_real a ha z
  unfold weight
  rw [hm]
  choose e he heq using fun k => exp_score_real (a k) (ha k) m
  obtain ⟨s, hs, hseq⟩ : ∃ s : ℝ, 0 < s ∧ Ideal.exp ((z : EReal) - (m : EReal)) = (s : EReal) :=
    ⟨Real.exp (z - m), Real.exp_pos _, by rw [← EReal.coe_sub, Ideal.exp_coe]⟩
  rw [hk, EReal.bot_sub, Ideal.exp_bot]
  simp only [heq, hseq]
  have hsum : (∑ k' : Fin n, (e k' : EReal)) + (s : EReal) = ((∑ k' : Fin n, e k' + s : ℝ) : EReal) := by
    rw [EReal.coe_add]; congr 1; exact (map_sum (⟨⟨Real.toEReal, EReal.coe_zero⟩, EReal.coe_add⟩ : ℝ →+ EReal) e Finset.univ).symm
  rw [hsum]
  have hd : (∑ k' : Fin n, e k' + s : ℝ) ≠ 0 := (add_pos_of_nonneg_of_pos (Finset.sum_nonneg fun i _ => he i) hs).ne'
  rw [Ideal.div_coe hd, zero_mul]

end Cert.Proof

end
-- ==== Proof.Spec.lean ====
module

public import proofs.«01_k».proof.Proof.Soft

@[expose] public section

noncomputable section

namespace Cert.Proof

open Idealize.ShloMosaic
open scoped BigOperators

/-- The layer's arguments, read as functions of their coordinates (the leading axis of extent one dropped). -/
structure Args where
  x : Fin 8 → Fin 8192 → Fin 1024 → EReal
  wIn : Fin 1024 → Fin 1792 → EReal
  sink : Fin 8 → EReal
  lnG : Fin 512 → EReal
  lnB : Fin 512 → EReal
  ws : Fin 8 → Fin 128 → Fin 128 → EReal
  bs : Fin 8 → Fin 128 → EReal
  attnG : Fin 512 → EReal
  gateG : Fin 512 → EReal
  wOut : Fin 1024 → Fin 1024 → EReal
  ln1G : Fin 1024 → EReal
  ln1B : Fin 1024 → EReal
  w1 : Fin 1024 → Fin 4096 → EReal
  w2 : Fin 4096 → Fin 1024 → EReal
  ln2G : Fin 1024 → EReal
  ln2B : Fin 1024 → EReal

/-- The constant added to a variance before the reciprocal square root. -/
def eps : EReal := Ideal.ofBits .f32 0x3727C5AC#32
/-- The weight of the residual stream. -/
def alpha : EReal := Ideal.ofBits .f32 0x3F9837F0#32

/-- A row normalized to mean zero and variance one, scaled by `g` and shifted by `b`; `w` is the row's width as a value. -/
def lnRow {n : ℕ} (w : EReal) (y g b : Fin n → EReal) (j : Fin n) : EReal :=
  (y j - Ideal.div (∑ k, y k) w)
      * Ideal.rsqrt (Ideal.div (∑ k, (y k - Ideal.div (∑ l, y l) w) * (y k - Ideal.div (∑ l, y l) w)) w + eps)
      * g j + b j

/-- A row divided by its root mean square, scaled by `g`. -/
def rmsRow {n : ℕ} (w : EReal) (y g : Fin n → EReal) (j : Fin n) : EReal :=
  y j * Ideal.rsqrt (Ideal.div (∑ k, y k * y k) w + eps) * g j

/-- The Gaussian-error linear unit. -/
def gelu (z : EReal) : EReal :=
  Ideal.ofBits .f32 0x3F000000#32 * z * (1 + Ideal.erf (z * Ideal.ofBits .f32 0x3F3504F3#32))

/-- Entry `(b, s, e)` of the combined projection. -/
def proj (a : Args) (b : Fin 8) (s : Fin 8192) (e : Fin 1792) : EReal := ∑ k, a.x b s k * a.wIn k e

/-- Whether key `κ` of query block `n`'s window is in the sequence and within reach of the block's query `q`. -/
def Valid (n q κ : ℕ) : Prop := κ ≤ q + 256 ∧ q ≤ κ ∧ 128 ≤ 128 * n + κ ∧ 128 * n + κ < 8320

instance (n q κ : ℕ) : Decidable (Valid n q κ) := inferInstanceAs (Decidable (_ ∧ _))

/-- The projection's column `e` at key `κ` of query block `n`'s window, zero outside the sequence. -/
def keyed (a : Args) (b : Fin 8) (n κ : ℕ) (e : Fin 1792) : EReal :=
  if h : 128 ≤ 128 * n + κ ∧ 128 * n + κ < 8320 then proj a b ⟨128 * n + κ - 128, by omega⟩ e else 0

/-- Head `h`'s slope. -/
def slope (h : ℕ) : ℝ := 1 / 2 ^ (h + 1)

/-- The distance between query `q` of a block and key `κ` of the block's window. -/
def dist (q κ : ℕ) : ℝ := (((q : ℤ) + 128 - κ).natAbs : ℝ)

/-- Column of the projection holding head `h`'s query channel `c`. -/
def qCol (h : Fin 8) (c : Fin 64) : Fin 1792 := ⟨64 * h + c, by omega⟩
/-- Column of the projection holding the key channel `c` of head `h`'s group. -/
def kCol (h : Fin 8) (c : Fin 64) : Fin 1792 := ⟨512 + 64 * (h / 4) + c, by omega⟩
/-- Column of the projection holding the value channel `c` of head `h`'s group. -/
def vCol (h : Fin 8) (c : Fin 64) : Fin 1792 := ⟨640 + 64 * (h / 4) + c, by omega⟩

/-- The score of query `q` of block `n` against key `κ` of the block's window, for head `h`. -/
def score (a : Args) (b : Fin 8) (n : Fin 64) (h : Fin 8) (q : Fin 128) (κ : Fin 384) : EReal :=
  if Valid n q κ then
    (∑ c, keyed a b n κ (kCol h c) * proj a b ⟨128 * n + q, by omega⟩ (qCol h c)) * ((1 / 8 : ℝ) : EReal)
      + ((-slope h * dist q κ : ℝ) : EReal)
  else ⊥

/-- Attention's output for query `q` of block `n`, head `h`, channel `c`. -/
def attn (a : Args) (b : Fin 8) (n : Fin 64) (h : Fin 8) (q : Fin 128) (c : Fin 64) : EReal :=
  ∑ κ : Fin 384, keyed a b n κ (vCol h c) * weight (score a b n h q) (a.sink h) κ

/-- Attention's output at position `s`, lane `l`. -/
def attnRow (a : Args) (b : Fin 8) (s : Fin 8192) (l : Fin 512) : EReal :=
  attn a b ⟨s / 128, by omega⟩ ⟨l / 64, by omega⟩ ⟨s % 128, by omega⟩ ⟨l % 64, by omega⟩

/-- The gate's normalized values at position `s`, lane `l`. -/
def gateNorm (a : Args) (b : Fin 8) (s : Fin 8192) (l : Fin 512) : EReal :=
  lnRow (Ideal.ofBits .f32 0x44000000#32) (fun j : Fin 512 => gelu (proj a b s ⟨1280 + j, by omega⟩)) a.lnG a.lnB l

/-- The gate's values mixed over the positions of the chunk of `s`. -/
def gateMix (a : Args) (b : Fin 8) (s : Fin 8192) (l : Fin 512) : EReal :=
  (∑ t : Fin 128, a.ws ⟨l / 64, by omega⟩ ⟨s % 128, by omega⟩ t * gateNorm a b ⟨s / 128 * 128 + t, by omega⟩ l)
    + a.bs ⟨l / 64, by omega⟩ ⟨s % 128, by omega⟩

/-- The spatial gating unit's output at position `s`, lane `l`. -/
def gated (a : Args) (b : Fin 8) (s : Fin 8192) (l : Fin 512) : EReal :=
  gelu (proj a b s ⟨768 + l, by omega⟩) * gateMix a b s l

/-- The two normalized head groups side by side. -/
def mixRow (a : Args) (b : Fin 8) (s : Fin 8192) (e : Fin 1024) : EReal :=
  if h : e.val < 512 then rmsRow (Ideal.ofBits .f32 0x44000000#32) (attnRow a b s) a.attnG ⟨e, h⟩
  else rmsRow (Ideal.ofBits .f32 0x44000000#32) (gated a b s) a.gateG ⟨e - 512, by omega⟩

/-- The token-mixing sublayer before its normalization. -/
def y1 (a : Args) (b : Fin 8) (s : Fin 8192) (d : Fin 1024) : EReal :=
  alpha * a.x b s d + ∑ e, mixRow a b s e * a.wOut e d

/-- The token-mixing sublayer's output row, from the row before its normalization. -/
def x1Row (a : Args) (y : Fin 1024 → EReal) : Fin 1024 → EReal :=
  lnRow (Ideal.ofBits .f32 0x44800000#32) y a.ln1G a.ln1B

/-- A hidden unit of the channel-mixing sublayer from a row: the rectified product, squared. -/
def hidden (a : Args) (x1 : Fin 1024 → EReal) (f : Fin 4096) : EReal :=
  max (∑ d, x1 d * a.w1 d f) 0 * max (∑ d, x1 d * a.w1 d f) 0

/-- The channel-mixing sublayer before its normalization, from a row. -/
def y2Row (a : Args) (x1 : Fin 1024 → EReal) (d : Fin 1024) : EReal :=
  alpha * x1 d + ∑ f, hidden a x1 f * a.w2 f d

/-- The layer's output row, from the channel-mixing row before its normalization. -/
def outRow (a : Args) (y : Fin 1024 → EReal) : Fin 1024 → EReal :=
  lnRow (Ideal.ofBits .f32 0x44800000#32) y a.ln2G a.ln2B

/-- The layer at batch entry `b`, position `s`, channel `d`. -/
def layer (a : Args) (b : Fin 8) (s : Fin 8192) (d : Fin 1024) : EReal :=
  outRow a (y2Row a (x1Row a (y1 a b s))) d

/-- What the precondition says of the arguments: the activations, the combined projection and the sinks are real. -/
structure Args.Real (a : Args) : Prop where
  x : ∀ b s k, ∃ r : ℝ, a.x b s k = r
  wIn : ∀ k e, ∃ r : ℝ, a.wIn k e = r
  sink : ∀ h, ∃ r : ℝ, a.sink h = r

/-- A finite sum of real entries is real. -/
theorem sum_real {n : ℕ} (f : Fin n → EReal) (hf : ∀ i, ∃ r : ℝ, f i = r) : ∃ r : ℝ, ∑ i, f i = r := by
  refine Finset.sum_induction f (fun e => ∃ r : ℝ, e = r) ?_ ⟨0, rfl⟩ fun i _ => hf i
  rintro _ _ ⟨r, rfl⟩ ⟨t, rfl⟩
  exact ⟨r + t, (EReal.coe_add r t).symm⟩

/-- The projection is real. -/
theorem proj_real {a : Args} (ha : a.Real) (b : Fin 8) (s : Fin 8192) (e : Fin 1792) : ∃ r : ℝ, proj a b s e = r :=
  sum_real _ fun k => by
    obtain ⟨r, hr⟩ := ha.x b s k
    obtain ⟨t, ht⟩ := ha.wIn k e
    exact ⟨r * t, by rw [hr, ht, EReal.coe_mul]⟩

/-- A key's entry is real. -/
theorem keyed_real {a : Args} (ha : a.Real) (b : Fin 8) (n κ : ℕ) (e : Fin 1792) : ∃ r : ℝ, keyed a b n κ e = r := by
  unfold keyed
  split
  · exact proj_real ha ..
  · exact ⟨0, rfl⟩

/-- The key-query product is real. -/
theorem dot_real {a : Args} (ha : a.Real) (b : Fin 8) (n : Fin 64) (h : Fin 8) (q : Fin 128) (κ : ℕ) :
    ∃ r : ℝ, (∑ c, keyed a b n κ (kCol h c) * proj a b ⟨128 * n + q, by omega⟩ (qCol h c)) = r :=
  sum_real _ fun c => by
    obtain ⟨r, hr⟩ := keyed_real ha b n κ (kCol h c)
    obtain ⟨t, ht⟩ := proj_real ha b ⟨128 * n + q, by omega⟩ (qCol h c)
    exact ⟨r * t, by rw [hr, ht, EReal.coe_mul]⟩

/-- A score is real where the key is valid, bottom elsewhere. -/
theorem score_score {a : Args} (ha : a.Real) (b : Fin 8) (n : Fin 64) (h : Fin 8) (q : Fin 128) (κ : Fin 384) :
    Score (score a b n h q κ) := by
  unfold score
  split
  · right
    obtain ⟨r, hr⟩ := dot_real ha b n h q κ
    exact ⟨r * (1 / 8) + -slope h * dist q κ, by rw [hr, ← EReal.coe_mul, ← EReal.coe_add]⟩
  · exact Or.inl rfl

end Cert.Proof

end
-- ==== Proof.Args.lean ====
module

public import proofs.«01_k».proof.Proof.Spec
public import proofs.«01_k».proof.KernelIdeal
public import Idealize.ShloMosaic.Lib.Pointwise

/-! The layer's arguments read off the arrays that hold them. -/

@[expose] public section

noncomputable section

namespace Cert.Proof

open Idealize.ShloMosaic
open Cert.KernelIdeal

/-- The layer's arguments as functions of their coordinates. -/
def argsOf (x0 : Vec Ideal S8x8192x1024 .f32) (x1 : Vec Ideal S1x1024x1792 .f32) (x2 : Vec Ideal S1x8 .f32) (x3 x4 : Vec Ideal S1x512 .f32)
    (x5 : Vec Ideal S1x8x128x128 .f32) (x6 : Vec Ideal S1x8x128 .f32) (x7 x8 : Vec Ideal S1x512 .f32) (x9 : Vec Ideal S1x1024x1024 .f32)
    (x10 x11 : Vec Ideal S1x1024 .f32) (x12 : Vec Ideal S1x1024x4096 .f32) (x13 : Vec Ideal S1x4096x1024 .f32) (x14 x15 : Vec Ideal S1x1024 .f32) : Args where
  x := fun b s d => x0 (ix3 b s d)
  wIn := fun k e => x1 (ix3 0 k e)
  sink := fun h => x2 (ix2 0 h)
  lnG := fun j => x3 (ix2 0 j)
  lnB := fun j => x4 (ix2 0 j)
  ws := fun h i s => x5 (ix4 0 h i s)
  bs := fun h i => x6 (ix3 0 h i)
  attnG := fun j => x7 (ix2 0 j)
  gateG := fun j => x8 (ix2 0 j)
  wOut := fun k e => x9 (ix3 0 k e)
  ln1G := fun j => x10 (ix2 0 j)
  ln1B := fun j => x11 (ix2 0 j)
  w1 := fun k e => x12 (ix3 0 k e)
  w2 := fun k e => x13 (ix3 0 k e)
  ln2G := fun j => x14 (ix2 0 j)
  ln2B := fun j => x15 (ix2 0 j)

end Cert.Proof

end
-- ==== Proof.RefA.lean ====
module

public import proofs.«01_k».proof.Proof.Args
public import proofs.«01_k».proof.Proof.Gen.ReferenceIdeal.Read
public import Idealize.ShloMosaic.PureOps.Ideal.Laws
public import Idealize.ShloMosaic.Lib.Pointwise

/-! The reference's keys, values, scores and attention at an index. -/

@[expose] public section

set_option maxRecDepth 16384

noncomputable section

namespace Cert.Proof

open Idealize.ShloMosaic
open Cert.ReferenceIdeal Cert.ReferenceIdeal.Read

/-- The reference's keys with zeros before and after the sequence. -/
theorem ref_key_pad (x0 : Vec Ideal S8x8192x1024 .f32) (x1 : Vec Ideal S1x1024x1792 .f32)
    (b : Fin 8) (t : Fin 8448) (c : Fin 128) :
    val_main_v13 (F := Ideal) x0 x1 (ix3 b t c) = if h : 128 ≤ t.val ∧ t.val < 8320 then val_main_v5 (F := Ideal) x0 x1 (ix3 b ⟨t - 128, by omega⟩ ⟨512 + c, by omega⟩) else 0 := by
  pointwise [val_main_v13, val_main_v7, val_main_call0_v0, val_main_c]
  have hz : (FloatOps.sitofp .f32 (0#32 : BitVec 32) : Ideal .f32) = 0 := by
    show (((0#32 : BitVec 32).toInt : ℝ) : EReal) = 0
    norm_num
  rw [hz]
  by_cases h : 128 ≤ t.val ∧ t.val < 8320
  · rw [dif_pos h, dif_pos ⟨h.1, by omega⟩]
  · rw [dif_neg h, dif_neg fun h' => h ⟨h'.1, by omega⟩]

/-- The reference's keys of a query block's window. -/
theorem ref_key (x0 : Vec Ideal S8x8192x1024 .f32) (x1 : Vec Ideal S1x1024x1792 .f32)
    (b : Fin 8) (n : Fin 64) (κ : Fin 384) (g : Fin 2) (c : Fin 64) :
    val_main_v20 (F := Ideal) x0 x1 (ix5 b n κ g c) = val_main_v13 (F := Ideal) x0 x1 (ix3 b ⟨128 * n + κ, by omega⟩ ⟨64 * g + c, by omega⟩) := by
  pointwise [val_main_v14, val_main_v17, val_main_v18, val_main_v19, val_main_v20]
  have hc : ∀ p, (⟨g.val * 64 + c.val, p⟩ : Fin 128) = ⟨64 * g + c, by omega⟩ := fun _ => Fin.ext (by show g.val * 64 + c.val = 64 * g.val + c.val; omega)
  simp only [hc]
  split
  · congr 2; apply Fin.ext; show _ = 128 * n.val + κ.val; dsimp only; omega
  · split
    · congr 2; apply Fin.ext; show _ = 128 * n.val + κ.val; dsimp only; omega
    · congr 2; apply Fin.ext; show _ = 128 * n.val + κ.val; dsimp only; omega

/-- The reference's values with zeros before and after the sequence. -/
theorem ref_value_pad (x0 : Vec Ideal S8x8192x1024 .f32) (x1 : Vec Ideal S1x1024x1792 .f32)
    (b : Fin 8) (t : Fin 8448) (c : Fin 128) :
    val_main_v15 (F := Ideal) x0 x1 (ix3 b t c) = if h : 128 ≤ t.val ∧ t.val < 8320 then val_main_v5 (F := Ideal) x0 x1 (ix3 b ⟨t - 128, by omega⟩ ⟨640 + c, by omega⟩) else 0 := by
  pointwise [val_main_v15, val_main_v8, val_main_call1_v0, val_main_c_0]
  have hz : (FloatOps.sitofp .f32 (0#32 : BitVec 32) : Ideal .f32) = 0 := by
    show (((0#32 : BitVec 32).toInt : ℝ) : EReal) = 0
    norm_num
  rw [hz]
  by_cases h : 128 ≤ t.val ∧ t.val < 8320
  · rw [dif_pos h, dif_pos ⟨h.1, by omega⟩]
  · rw [dif_neg h, dif_neg fun h' => h ⟨h'.1, by omega⟩]

/-- The reference's values of a query block's window. -/
theorem ref_value (x0 : Vec Ideal S8x8192x1024 .f32) (x1 : Vec Ideal S1x1024x1792 .f32)
    (b : Fin 8) (n : Fin 64) (κ : Fin 384) (g : Fin 2) (c : Fin 64) :
    val_main_v24 (F := Ideal) x0 x1 (ix5 b n κ g c) = val_main_v15 (F := Ideal) x0 x1 (ix3 b ⟨128 * n + κ, by omega⟩ ⟨64 * g + c, by omega⟩) := by
  pointwise [val_main_v16, val_main_v21, val_main_v22, val_main_v23, val_main_v24]
  have hc : ∀ p, (⟨g.val * 64 + c.val, p⟩ : Fin 128) = ⟨64 * g + c, by omega⟩ := fun _ => Fin.ext (by show g.val * 64 + c.val = 64 * g.val + c.val; omega)
  simp only [hc]
  split
  · congr 2; apply Fin.ext; show _ = 128 * n.val + κ.val; dsimp only; omega
  · split
    · congr 2; apply Fin.ext; show _ = 128 * n.val + κ.val; dsimp only; omega
    · congr 2; apply Fin.ext; show _ = 128 * n.val + κ.val; dsimp only; omega

/-- The reference's queries. -/
theorem ref_query (x0 : Vec Ideal S8x8192x1024 .f32) (x1 : Vec Ideal S1x1024x1792 .f32)
    (b : Fin 8) (n : Fin 64) (q : Fin 128) (g : Fin 2) (r : Fin 4) (c : Fin 64) :
    val_main_v12 (F := Ideal) x0 x1 (ix6 b n q g r c) = val_main_v5 (F := Ideal) x0 x1 (ix3 b ⟨128 * n + q, by omega⟩ ⟨64 * (4 * g + r) + c, by omega⟩) := by
  pointwise [val_main_v12, val_main_v6]
  congr 2
  · apply Fin.ext; show n.val * 128 + q.val = 128 * n.val + q.val; omega
  · apply Fin.ext; show g.val * 256 + r.val * 64 + c.val = 64 * (4 * g.val + r.val) + c.val; omega

/-- The reference's scaled products of keys and queries. -/
theorem ref_prod (x0 : Vec Ideal S8x8192x1024 .f32) (x1 : Vec Ideal S1x1024x1792 .f32)
    (b : Fin 8) (n : Fin 64) (g : Fin 2) (r : Fin 4) (q : Fin 128) (κ : Fin 384) :
    val_main_v28 (F := Ideal) x0 x1 (ix6 b n g r q κ) = (∑ c : Fin 64, val_main_v20 (F := Ideal) x0 x1 (ix5 b n κ g c) * val_main_v12 (F := Ideal) x0 x1 (ix6 b n q g r c)) * Ideal.ofBits .f32 0x3E000000#32 := by
  pointwise [val_main_v25, val_main_v26, val_main_v27, val_main_v28, val_main_cst]

/-- The position word of a window's key, as a number. -/
theorem window_word (n : Fin 64) (κ : Fin 384) :
    (IntOp.addi (IntOp.subi (IntOp.muli (BitVec.ofNat 32 n.val) 128#32) 128#32) (BitVec.ofNat 32 κ.val)).toInt = 128 * (n.val : ℤ) + κ - 128 := by
  have := n.isLt
  have := κ.isLt
  simp only [IntOp.addi, IntOp.subi, IntOp.muli, BitVec.toInt, BitVec.toNat_add, BitVec.toNat_sub, BitVec.toNat_mul, BitVec.toNat_ofNat]
  omega

/-- The word of a query's position less a key's, as a number. -/
theorem distance_word (n : Fin 64) (q : Fin 128) (κ : Fin 384) :
    (IntOp.subi (IntOp.addi (IntOp.muli (BitVec.ofNat 32 n.val) 128#32) (BitVec.ofNat 32 q.val))
      (IntOp.addi (IntOp.subi (IntOp.muli (BitVec.ofNat 32 n.val) 128#32) 128#32) (BitVec.ofNat 32 κ.val))).toInt = (q.val : ℤ) + 128 - κ := by
  have := n.isLt
  have := q.isLt
  have := κ.isLt
  simp only [IntOp.addi, IntOp.subi, IntOp.muli, BitVec.toInt, BitVec.toNat_add, BitVec.toNat_sub, BitVec.toNat_mul, BitVec.toNat_ofNat]
  omega

/-- The absolute value of a small word. -/
theorem absi_word (x : BitVec 32) (z : ℤ) (hx : x.toInt = z) (h : -1000 < z) : (IntOp.absi x).toInt = z.natAbs := by
  unfold IntOp.absi
  rw [BitVec.msb_eq_toInt, hx]
  by_cases hz : z < 0
  · rw [if_pos (by simpa using hz), BitVec.toInt_neg, hx, Int.bmod_eq_of_le (by omega) (by omega)]
    omega
  · rw [if_neg (by simpa using hz), hx]
    omega

/-- The distance between a query and a key of its window. -/
theorem ref_dist (n : Fin 64) (q : Fin 128) (κ : Fin 384) :
    (val_main_v50 (F := Ideal) (ix3 n q κ)).toInt = (((q.val : ℤ) + 128 - κ).natAbs : ℤ) := by
  have h : val_main_v50 (F := Ideal) (ix3 n q κ) = IntOp.absi (IntOp.subi (IntOp.addi (IntOp.muli (BitVec.ofNat 32 n.val) 128#32) (BitVec.ofNat 32 q.val))
      (IntOp.addi (IntOp.subi (IntOp.muli (BitVec.ofNat 32 n.val) 128#32) 128#32) (BitVec.ofNat 32 κ.val))) := by
    pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_c_1, val_main_c_2]
  rw [h]
  exact absi_word _ _ (distance_word n q κ) (by omega)

/-- Which keys of a query's window are in the sequence and within reach. -/
theorem ref_valid (n : Fin 64) (q : Fin 128) (κ : Fin 384) : val_main_v62 (F := Ideal) (ix3 n q κ) = BitVec.ofBool (decide (Valid n q κ)) := by
  have hd := ref_dist n q κ
  have hw := window_word n κ
  have h : val_main_v62 (F := Ideal) (ix3 n q κ) = IntOp.andi (IntOp.andi (IntOp.cmpi .sle (val_main_v50 (F := Ideal) (ix3 n q κ)) 128#32)
      (IntOp.cmpi .sge (IntOp.addi (IntOp.subi (IntOp.muli (BitVec.ofNat 32 n.val) 128#32) 128#32) (BitVec.ofNat 32 κ.val)) 0#32))
      (IntOp.cmpi .slt (IntOp.addi (IntOp.subi (IntOp.muli (BitVec.ofNat 32 n.val) 128#32) 128#32) (BitVec.ofNat 32 κ.val)) 8192#32) := by
    pointwise [val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v51, val_main_v52, val_main_v53, val_main_v54, val_main_v55, val_main_v56, val_main_v57, val_main_v58, val_main_v59, val_main_v60, val_main_v61, val_main_v62, val_main_c_1, val_main_c_2, val_main_c_3, val_main_c_4, val_main_c_5]
  rw [h]
  generalize val_main_v50 (F := Ideal) (ix3 n q κ) = d at hd ⊢
  generalize IntOp.addi (IntOp.subi (IntOp.muli (BitVec.ofNat 32 n.val) 128#32) 128#32) (BitVec.ofNat 32 κ.val) = w at hw ⊢
  have h1 : (128#32 : BitVec 32).toInt = 128 := by decide
  have h2 : (0#32 : BitVec 32).toInt = 0 := by decide
  have h3 : (8192#32 : BitVec 32).toInt = 8192 := by decide
  have := q.isLt
  have := κ.isLt
  simp only [IntOp.cmpi, IntOp.andi, BitVec.sle, BitVec.slt, BitVec.ofBool_and_ofBool, ← Bool.decide_and]
  refine congrArg BitVec.ofBool (decide_eq_decide.mpr ?_)
  rw [hd, hw, h1, h2, h3]
  unfold Valid
  omega

/-- The number a word below 2³¹ stands for. -/
theorem small_word (k : ℕ) (h : k < 8) : (FloatOps.sitofp .f32 (BitVec.ofNat 32 k) : Ideal .f32) = ((k : ℝ) : EReal) := by
  have hk : (BitVec.ofNat 32 k).toInt = (k : ℤ) := by
    simp only [BitVec.toInt, BitVec.toNat_ofNat]
    omega
  show (((BitVec.ofNat 32 k).toInt : ℝ) : EReal) = _
  rw [hk]
  norm_num

/-- A head's slope: a power of two. -/
theorem slope_power (k : ℕ) (h : k < 8) :
    Ideal.pow (Ideal.ofBits .f32 0x40000000#32) (Ideal.div (Ideal.ofBits .f32 0xC1000000#32 * (1 + (FloatOps.sitofp .f32 (BitVec.ofNat 32 k) : Ideal .f32)))
      (Ideal.ofBits .f32 0x41000000#32)) = ((slope k : ℝ) : EReal) := by
  have h2 : Ideal.ofBits .f32 0x40000000#32 = ((2 : ℝ) : EReal) := by
    simp [Ideal.ofBits, Ideal.ieee, -EReal.coe_mul]; norm_num
  have hm : Ideal.ofBits .f32 0xC1000000#32 = ((-8 : ℝ) : EReal) := by
    simp [Ideal.ofBits, Ideal.ieee, -EReal.coe_mul]; norm_num
  have h8 : Ideal.ofBits .f32 0x41000000#32 = ((8 : ℝ) : EReal) := by
    simp [Ideal.ofBits, Ideal.ieee, -EReal.coe_mul]; norm_num
  have h1 : (1 : EReal) = ((1 : ℝ) : EReal) := rfl
  rw [small_word k h, h2, hm, h8, Ideal.div_coe (by norm_num), h1, ← EReal.coe_add, ← EReal.coe_mul, ← EReal.coe_mul, Ideal.pow_coe_coe]
  congr 1
  have he : (-8 : ℝ) * (1 + (k : ℝ)) * (1 / 8) = -((k + 1 : ℕ) : ℝ) := by
    push_cast
    ring
  rw [he, Real.rpow_eq_pow, Real.rpow_neg (by norm_num), Real.rpow_natCast]
  unfold slope
  rw [one_div]

/-- The reference's position bias. -/
theorem ref_bias
    (n : Fin 64) (g : Fin 2) (r : Fin 4) (q : Fin 128) (κ : Fin 384) :
    val_main_v79 (F := Ideal) (ix5 n g r q κ) = ((-slope (4 * g.val + r.val) * dist q.val κ.val : ℝ) : EReal) := by
  pointwise [val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_6, val_main_cst_7, val_main_cst_8, val_main_cst_9]
  have hd : (FloatOps.sitofp .f32 (val_main_v50 (F := Ideal) (ix3 n q κ)) : Ideal .f32) = ((dist q.val κ.val : ℝ) : EReal) := by
    show (((val_main_v50 (F := Ideal) (ix3 n q κ)).toInt : ℝ) : EReal) = _
    rw [ref_dist]
    rfl
  rw [hd, slope_power _ (by omega), show g.val * 4 + r.val = 4 * g.val + r.val by omega, ← EReal.coe_neg, ← EReal.coe_mul]

/-- The reference's score, by cases on the key. -/
theorem ref_masked (x0 : Vec Ideal S8x8192x1024 .f32) (x1 : Vec Ideal S1x1024x1792 .f32)
    (b : Fin 8) (n : Fin 64) (g : Fin 2) (r : Fin 4) (q : Fin 128) (κ : Fin 384) :
    val_main_v84 (F := Ideal) x0 x1 (ix6 b n g r q κ) = if Valid n q κ then val_main_v28 (F := Ideal) x0 x1 (ix6 b n g r q κ) + val_main_v79 (F := Ideal) (ix5 n g r q κ) else ⊥ := by
  pointwise [val_main_v80, val_main_v81, val_main_v82, val_main_v83, val_main_v84, val_main_call2_v0, val_main_call2_v1, val_main_call2_v2, val_main_cst_10]
  have hb : (id (constant S_ .f32 0xFF800000#32) ix0 : Ideal .f32) = ⊥ := by
    show Ideal.ofBits .f32 0xFF800000#32 = ⊥
    simp [Ideal.ofBits, Ideal.ieee]
  rw [hb, ref_valid]
  by_cases h : Valid n q κ
  · rw [if_pos h, decide_eq_true h]
    rfl
  · rw [if_neg h, decide_eq_false h]
    rfl

/-- The maximum over a window's keys. -/
theorem max_keys (y : Vec Ideal S8x64x2x4x128x384 .f32) (b : Fin 8) (n : Fin 64) (g : Fin 2) (r : Fin 4) (q : Fin 128) :
    Host.reduce (FloatOps.maximumf (F := Ideal) (φ := .f32)) y (constant S_ .f32 0xFF800000#32) Gen.reducesTo_S8x64x2x4x128x384_S8x64x2x4x128_d5 Gen.h_S_ (ix5 b n g r q)
      = Finset.univ.sup fun κ : Fin 384 => (y (ix6 b n g r q κ) : EReal) := by
  have hb : (constant (F := Ideal) S_ .f32 0xFF800000#32) (Shape.Idx.first Gen.h_S_) = (⊥ : EReal) := by
    show Ideal.ofBits .f32 0xFF800000#32 = ⊥
    simp [Ideal.ofBits, Ideal.ieee]
  show Host.reduce (max : EReal → EReal → EReal) y _ _ _ _ = _
  rw [Host.reduce_eq_fold_single (max : EReal → EReal → EReal) y _ Gen.reducesTo_S8x64x2x4x128x384_S8x64x2x4x128_d5 (by decide) Gen.h_S_, hb]
  refine congrArg (Finset.fold max ⊥ · Finset.univ) (funext fun κ => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The reference's maximum over a window's keys. -/
theorem ref_max (x0 : Vec Ideal S8x8192x1024 .f32) (x1 : Vec Ideal S1x1024x1792 .f32)
    (b : Fin 8) (n : Fin 64) (g : Fin 2) (r : Fin 4) (q : Fin 128) :
    val_main_v86 (F := Ideal) x0 x1 (ix5 b n g r q) = Finset.univ.sup fun κ : Fin 384 => (val_main_v84 (F := Ideal) x0 x1 (ix6 b n g r q κ) : EReal) :=
  max_keys _ b n g r q

/-- The reference's sum over a window's keys. -/
theorem ref_sum (x0 : Vec Ideal S8x8192x1024 .f32) (x1 : Vec Ideal S1x1024x1792 .f32) (x2 : Vec Ideal S1x8 .f32)
    (b : Fin 8) (n : Fin 64) (g : Fin 2) (r : Fin 4) (q : Fin 128) :
    val_main_v93 (F := Ideal) x0 x1 x2 (ix5 b n g r q) = ∑ κ : Fin 384, val_main_v92 (F := Ideal) x0 x1 x2 (ix6 b n g r q κ) := by
  rw [val_main_v93_apply]
  have h0 : (val_main_cst_12 (F := Ideal)) (Shape.Idx.first Gen.h_S_) = (0 : EReal) := Ideal.ofBits_zero_f32
  rw [h0, zero_add]
  refine Finset.sum_congr rfl fun κ _ => congrArg (val_main_v92 (F := Ideal) x0 x1 x2) (funext fun a => Fin.ext ?_)
  match a with | ⟨0, _⟩ => rfl | ⟨1, _⟩ => rfl | ⟨2, _⟩ => rfl | ⟨3, _⟩ => rfl | ⟨4, _⟩ => rfl | ⟨5, _⟩ => rfl

/-- A maximum over keys with the sink, from the array of maxima. -/
theorem top_value (y : Vec Ideal S8x64x2x4x128 .f32) (z : Vec Ideal S1x8 .f32) (b : Fin 8) (n : Fin 64) (g : Fin 2) (r : Fin 4) (q : Fin 128) (u : Fin 1) :
    maximumf (F := Ideal) (φ := .f32) (broadcastInDim S8x64x2x4x128x1 ![0, 1, 2, 3, 4] Gen.bcast_S8x64x2x4x128_S8x64x2x4x128x1_0_1_2_3_4 y)
      (broadcastInDim S8x64x2x4x128x1 ![0, 1, 2, 3, 4, 5] Gen.bcast_S1x1x2x4x1x1_S8x64x2x4x128x1_0_1_2_3_4_5
        (shapeCast S1x1x2x4x1x1 (shapeCast S8 z Gen.shapeCasts_S1x8_S8) Gen.shapeCasts_S8_S1x1x2x4x1x1)) (ix6 b n g r q u)
      = max (y (ix5 b n g r q)) (z (ix2 0 ⟨4 * g + r, by omega⟩)) := by
  pointwise []
  have hc : ∀ p, (⟨g.val * 4 + r.val, p⟩ : Fin 8) = ⟨4 * g + r, by omega⟩ := fun _ => Fin.ext (by show g.val * 4 + r.val = 4 * g.val + r.val; omega)
  rw [hc]

/-- The reference's maximum with the sink. -/
theorem ref_top (x0 : Vec Ideal S8x8192x1024 .f32) (x1 : Vec Ideal S1x1024x1792 .f32) (x2 : Vec Ideal S1x8 .f32)
    (b : Fin 8) (n : Fin 64) (g : Fin 2) (r : Fin 4) (q : Fin 128) (u : Fin 1) :
    val_main_v89 (F := Ideal) x0 x1 x2 (ix6 b n g r q u) = max (val_main_v86 (F := Ideal) x0 x1 (ix5 b n g r q)) (x2 (ix2 0 ⟨4 * g + r, by omega⟩)) := by
  exact top_value _ _ b n g r q u

/-- The reference's exponential of a score less the maximum. -/
theorem ref_exp (x0 : Vec Ideal S8x8192x1024 .f32) (x1 : Vec Ideal S1x1024x1792 .f32) (x2 : Vec Ideal S1x8 .f32)
    (b : Fin 8) (n : Fin 64) (g : Fin 2) (r : Fin 4) (q : Fin 128) (κ : Fin 384) :
    val_main_v92 (F := Ideal) x0 x1 x2 (ix6 b n g r q κ) = Ideal.exp (val_main_v84 (F := Ideal) x0 x1 (ix6 b n g r q κ) - val_main_v89 (F := Ideal) x0 x1 x2 (ix6 b n g r q 0)) := by
  pointwise [val_main_v90, val_main_v91, val_main_v92]

/-- The reference's quotient of an exponential by the denominator. -/
theorem ref_quot (x0 : Vec Ideal S8x8192x1024 .f32) (x1 : Vec Ideal S1x1024x1792 .f32) (x2 : Vec Ideal S1x8 .f32)
    (b : Fin 8) (n : Fin 64) (g : Fin 2) (r : Fin 4) (q : Fin 128) (κ : Fin 384) :
    val_main_v100 (F := Ideal) x0 x1 x2 (ix6 b n g r q κ) = Ideal.div (val_main_v92 (F := Ideal) x0 x1 x2 (ix6 b n g r q κ))
      (val_main_v93 (F := Ideal) x0 x1 x2 (ix5 b n g r q) + Ideal.exp (x2 (ix2 0 ⟨4 * g + r, by omega⟩) - val_main_v89 (F := Ideal) x0 x1 x2 (ix6 b n g r q 0))) := by
  pointwise [val_main_v11, val_main_v85, val_main_v94, val_main_v95, val_main_v96, val_main_v97, val_main_v98, val_main_v99, val_main_v100]
  have hc : ∀ p, (⟨g.val * 4 + r.val, p⟩ : Fin 8) = ⟨4 * g + r, by omega⟩ := fun _ => Fin.ext (by show g.val * 4 + r.val = 4 * g.val + r.val; omega)
  rw [hc]

/-- The reference's softmax weights. -/
theorem ref_weight (x0 : Vec Ideal S8x8192x1024 .f32) (x1 : Vec Ideal S1x1024x1792 .f32) (x2 : Vec Ideal S1x8 .f32)
    (b : Fin 8) (n : Fin 64) (g : Fin 2) (r : Fin 4) (q : Fin 128) (κ : Fin 384) :
    val_main_v100 (F := Ideal) x0 x1 x2 (ix6 b n g r q κ)
      = weight (fun κ => val_main_v84 (F := Ideal) x0 x1 (ix6 b n g r q κ)) (x2 (ix2 0 ⟨4 * g + r, by omega⟩)) κ := by
  rw [ref_quot, ref_sum]
  simp only [ref_exp, ref_top, ref_max]
  rfl

/-- The reference's attention output. -/
theorem ref_attn (x0 : Vec Ideal S8x8192x1024 .f32) (x1 : Vec Ideal S1x1024x1792 .f32) (x2 : Vec Ideal S1x8 .f32)
    (b : Fin 8) (s : Fin 8192) (l : Fin 512) :
    val_main_v103 (F := Ideal) x0 x1 x2 (ix3 b s l) = ∑ κ : Fin 384, val_main_v24 (F := Ideal) x0 x1 (ix5 b ⟨s / 128, by omega⟩ κ ⟨l / 256, by omega⟩ ⟨l % 64, by omega⟩)
      * val_main_v100 (F := Ideal) x0 x1 x2 (ix6 b ⟨s / 128, by omega⟩ ⟨l / 256, by omega⟩ ⟨l / 64 % 4, by omega⟩ ⟨s % 128, by omega⟩ κ) := by
  pointwise [val_main_v101, val_main_v102, val_main_v103]

end Cert.Proof

end
-- ==== Proof.RefC.lean ====
module

public import proofs.«01_k».proof.Proof.Args
public import proofs.«01_k».proof.Proof.Gen.ReferenceIdeal.Read
public import Idealize.ShloMosaic.Lib.Pointwise

/-! The reference's residual rows, normalizations and channel mixing at an index. -/

@[expose] public section

set_option maxRecDepth 16384

noncomputable section

namespace Cert.Proof

open Idealize.ShloMosaic
open Cert.ReferenceIdeal Cert.ReferenceIdeal.Read

/-- The reference's residual row before the first normalization. -/
theorem ref_mix_residual (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32)
    (b : Fin 8) (s : Fin 8192) (d : Fin 1024) :
    val_main_v188 (F := Ideal) x0 x1 x2 x3 x4 x5 x6 x7 x8 x9 (ix3 b s d) = alpha * x0 (ix3 b s d) + ∑ e : Fin 1024, val_main_v183 (F := Ideal) x0 x1 x2 x3 x4 x5 x6 x7 x8 (ix3 b s e) * x9 (ix3 0 e d) := by
  pointwise [val_main_v184, val_main_v185, val_main_v186, val_main_v187, val_main_v188, val_main_cst_28, alpha]

/-- The reference's row normalized over the channels. -/
theorem ref_norm1 (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32)
    (b : Fin 8) (s : Fin 8192) (d : Fin 1024) :
    val_main_v212 (F := Ideal) x0 x1 x2 x3 x4 x5 x6 x7 x8 x9 x10 x11 (ix3 b s d) = lnRow (Ideal.ofBits .f32 0x44800000#32)
      (fun k : Fin 1024 => val_main_v188 (F := Ideal) x0 x1 x2 x3 x4 x5 x6 x7 x8 x9 (ix3 b s k)) (fun k => x10 (ix2 0 k)) (fun k => x11 (ix2 0 k)) d := by
  pointwise [val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_cst_29, val_main_cst_30, val_main_cst_31, val_main_cst_32, val_main_cst_33, val_main_v0, val_main_v1, lnRow, eps]

/-- The reference's row normalized over the channels. -/
theorem ref_norm2 (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (d : Fin 1024) :
    val_main_v245 (F := Ideal) x0 x1 x2 x3 x4 x5 x6 x7 x8 x9 x10 x11 x12 x13 x14 x15 (ix3 b s d) = lnRow (Ideal.ofBits .f32 0x44800000#32)
      (fun k : Fin 1024 => val_main_v221 (F := Ideal) x0 x1 x2 x3 x4 x5 x6 x7 x8 x9 x10 x11 x12 x13 (ix3 b s k)) (fun k => x14 (ix2 0 k)) (fun k => x15 (ix2 0 k)) d := by
  pointwise [val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_cst_35, val_main_cst_36, val_main_cst_37, val_main_cst_38, val_main_cst_39, val_main_v2, val_main_v3, lnRow, eps]

/-- The reference's residual row before the second normalization. -/
theorem ref_ffn (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32)
    (b : Fin 8) (s : Fin 8192) (d : Fin 1024) :
    val_main_v221 (F := Ideal) x0 x1 x2 x3 x4 x5 x6 x7 x8 x9 x10 x11 x12 x13 (ix3 b s d) = alpha * val_main_v212 (F := Ideal) x0 x1 x2 x3 x4 x5 x6 x7 x8 x9 x10 x11 (ix3 b s d) + ∑ f : Fin 4096,
      (max (∑ k : Fin 1024, val_main_v212 (F := Ideal) x0 x1 x2 x3 x4 x5 x6 x7 x8 x9 x10 x11 (ix3 b s k) * x12 (ix3 0 k f)) 0
        * max (∑ k : Fin 1024, val_main_v212 (F := Ideal) x0 x1 x2 x3 x4 x5 x6 x7 x8 x9 x10 x11 (ix3 b s k) * x12 (ix3 0 k f)) 0) * x13 (ix3 0 f d) := by
  pointwise [val_main_v213, val_main_v214, val_main_v215, val_main_v216, val_main_v217, val_main_v218, val_main_v219, val_main_v220, val_main_v221, val_main_call3_cst, val_main_call3_v0, val_main_cst_34, alpha]

end Cert.Proof

end
-- ==== Proof.RefG.lean ====
module

public import proofs.«01_k».proof.Proof.Args
public import proofs.«01_k».proof.Proof.Gen.ReferenceIdeal.Read
public import Idealize.ShloMosaic.Lib.Pointwise

/-! The reference's projection, gate and normalized head groups at an index. -/

@[expose] public section

set_option maxRecDepth 16384

noncomputable section

namespace Cert.Proof

open Idealize.ShloMosaic
open Cert.ReferenceIdeal Cert.ReferenceIdeal.Read

/-- The reference's combined projection. -/
theorem ref_proj (x0 : Vec Ideal S8x8192x1024 .f32) (x1 : Vec Ideal S1x1024x1792 .f32)
    (b : Fin 8) (s : Fin 8192) (e : Fin 1792) :
    val_main_v5 (F := Ideal) x0 x1 (ix3 b s e) = ∑ k : Fin 1024, x0 (ix3 b s k) * x1 (ix3 0 k e) := by
  pointwise [val_main_v4, val_main_v5]

/-- A half of the gate after the linear unit. -/
theorem ref_gelu_u (x0 : Vec Ideal S8x8192x1024 .f32) (x1 : Vec Ideal S1x1024x1792 .f32)
    (b : Fin 8) (s : Fin 8192) (j : Fin 512) :
    val_main_v110 (F := Ideal) x0 x1 (ix3 b s j) = gelu (val_main_v5 (F := Ideal) x0 x1 (ix3 b s ⟨768 + j, by omega⟩)) := by
  pointwise [val_main_v104, val_main_v105, val_main_v106, val_main_v107, val_main_v108, val_main_v109, val_main_v110, val_main_v9, val_main_cst_13, val_main_cst_14, gelu]
  rw [neg_mul, Ideal.erfc_neg]

/-- A half of the gate after the linear unit. -/
theorem ref_gelu_v (x0 : Vec Ideal S8x8192x1024 .f32) (x1 : Vec Ideal S1x1024x1792 .f32)
    (b : Fin 8) (s : Fin 8192) (j : Fin 512) :
    val_main_v117 (F := Ideal) x0 x1 (ix3 b s j) = gelu (val_main_v5 (F := Ideal) x0 x1 (ix3 b s ⟨1280 + j, by omega⟩)) := by
  pointwise [val_main_v111, val_main_v112, val_main_v113, val_main_v114, val_main_v115, val_main_v116, val_main_v117, val_main_v10, val_main_cst_15, val_main_cst_16, gelu]
  rw [neg_mul, Ideal.erfc_neg]

/-- The reference's normalized gate. -/
theorem ref_gate_norm (x0 : Vec Ideal S8x8192x1024 .f32) (x1 : Vec Ideal S1x1024x1792 .f32) (x3 : Vec Ideal S1x512 .f32) (x4 : Vec Ideal S1x512 .f32)
    (b : Fin 8) (s : Fin 8192) (j : Fin 512) :
    val_main_v145 (F := Ideal) x0 x1 x3 x4 (ix3 b s j) = lnRow (Ideal.ofBits .f32 0x44000000#32)
      (fun k : Fin 512 => val_main_v117 (F := Ideal) x0 x1 (ix3 b s k)) (fun k => x3 (ix2 0 k)) (fun k => x4 (ix2 0 k)) j := by
  pointwise [val_main_v118, val_main_v119, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_cst_17, val_main_cst_18, val_main_cst_19, val_main_cst_20, val_main_cst_21, lnRow, eps]

/-- The reference's spatial gating unit. -/
theorem ref_gated (x0 : Vec Ideal S8x8192x1024 .f32) (x1 : Vec Ideal S1x1024x1792 .f32) (x3 : Vec Ideal S1x512 .f32) (x4 : Vec Ideal S1x512 .f32) (x5 : Vec Ideal S1x8x128x128 .f32) (x6 : Vec Ideal S1x8x128 .f32)
    (b : Fin 8) (s : Fin 8192) (l : Fin 512) :
    val_main_v154 (F := Ideal) x0 x1 x3 x4 x5 x6 (ix3 b s l) = val_main_v110 (F := Ideal) x0 x1 (ix3 b s l) * ((∑ t : Fin 128, x5 (ix4 0 ⟨l / 64, by omega⟩ ⟨s % 128, by omega⟩ t)
      * val_main_v145 (F := Ideal) x0 x1 x3 x4 (ix3 b ⟨s / 128 * 128 + t, by omega⟩ l)) + x6 (ix3 0 ⟨l / 64, by omega⟩ ⟨s % 128, by omega⟩)) := by
  pointwise [val_main_v120, val_main_v121, val_main_v146, val_main_v147, val_main_v148, val_main_v149, val_main_v150, val_main_v151, val_main_v152, val_main_v153, val_main_v154]
  exact congrArg _ (congrArg (· + _) (Finset.sum_congr rfl fun _ _ => mul_comm _ _))

/-- A head group's row divided by its root mean square, from the group's array. -/
theorem rms_value (y : Vec Ideal S8x8192x512 .f32) (g : Vec Ideal S1x512 .f32) (b : Fin 8) (s : Fin 8192) (j : Fin 512) :
    mulf (F := Ideal) (φ := .f32) (mulf y (broadcastInDim S8x8192x512 ![0, 1, 2] Gen.bcast_S8x8192x1_S8x8192x512_0_1_2
      (Host.rsqrt (addf (Host.divf (broadcastInDim S8x8192x1 ![0, 1] Gen.bcast_S8x8192_S8x8192x1_0_1
        (Host.reduceAdd (mulf y y) (constant S_ .f32 0#32) Gen.reducesTo_S8x8192x512_S8x8192_d2 Gen.h_S_))
        (broadcastInDim S8x8192x1 ![] Gen.bcast_S_S8x8192x1 (constant S_ .f32 0x44000000#32)))
        (broadcastInDim S8x8192x1 ![] Gen.bcast_S_S8x8192x1 (constant S_ .f32 0x3727C5AC#32))))))
      (broadcastInDim S8x8192x512 ![0, 1, 2] Gen.bcast_S1x1x512_S8x8192x512_0_1_2
        (broadcastInDim S1x1x512 ![2] Gen.bcast_S512_S1x1x512_2 (shapeCast S512 g Gen.shapeCasts_S1x512_S512))) (ix3 b s j)
      = rmsRow (Ideal.ofBits .f32 0x44000000#32) (fun k : Fin 512 => y (ix3 b s k)) (fun k => g (ix2 0 k)) j := by
  pointwise [rmsRow, eps]

/-- A head group divided by its root mean square. -/
theorem ref_rms_attn (x0 : Vec Ideal S8x8192x1024 .f32) (x1 : Vec Ideal S1x1024x1792 .f32) (x2 : Vec Ideal S1x8 .f32) (x7 : Vec Ideal S1x512 .f32)
    (b : Fin 8) (s : Fin 8192) (j : Fin 512) :
    val_main_v168 (F := Ideal) x0 x1 x2 x7 (ix3 b s j) = rmsRow (Ideal.ofBits .f32 0x44000000#32)
      (fun k : Fin 512 => val_main_v103 (F := Ideal) x0 x1 x2 (ix3 b s k)) (fun k => x7 (ix2 0 k)) j := by
  simp only [val_main_v155, val_main_v156, val_main_v157, val_main_v158, val_main_v159, val_main_v160, val_main_v161, val_main_v162, val_main_v163, val_main_v164, val_main_v165, val_main_v166, val_main_v167, val_main_v168, val_main_cst_22, val_main_cst_23, val_main_cst_24]
  exact rms_value _ _ b s j

/-- A head group divided by its root mean square. -/
theorem ref_rms_gate (x0 : Vec Ideal S8x8192x1024 .f32) (x1 : Vec Ideal S1x1024x1792 .f32) (x3 : Vec Ideal S1x512 .f32) (x4 : Vec Ideal S1x512 .f32) (x5 : Vec Ideal S1x8x128x128 .f32) (x6 : Vec Ideal S1x8x128 .f32) (x8 : Vec Ideal S1x512 .f32)
    (b : Fin 8) (s : Fin 8192) (j : Fin 512) :
    val_main_v182 (F := Ideal) x0 x1 x3 x4 x5 x6 x8 (ix3 b s j) = rmsRow (Ideal.ofBits .f32 0x44000000#32)
      (fun k : Fin 512 => val_main_v154 (F := Ideal) x0 x1 x3 x4 x5 x6 (ix3 b s k)) (fun k => x8 (ix2 0 k)) j := by
  simp only [val_main_v169, val_main_v170, val_main_v171, val_main_v172, val_main_v173, val_main_v174, val_main_v175, val_main_v176, val_main_v177, val_main_v178, val_main_v179, val_main_v180, val_main_v181, val_main_v182, val_main_cst_25, val_main_cst_26, val_main_cst_27]
  exact rms_value _ _ b s j

/-- The reference's two head groups side by side. -/
theorem ref_mix (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32)
    (b : Fin 8) (s : Fin 8192) (e : Fin 1024) :
    val_main_v183 (F := Ideal) x0 x1 x2 x3 x4 x5 x6 x7 x8 (ix3 b s e) = if h : e.val < 512 then val_main_v168 (F := Ideal) x0 x1 x2 x7 (ix3 b s ⟨e, h⟩)
      else val_main_v182 (F := Ideal) x0 x1 x3 x4 x5 x6 x8 (ix3 b s ⟨e - 512, by omega⟩) := by
  pointwise [val_main_v183]

end Cert.Proof

end
-- ==== Proof.Ref.lean ====
module

public import proofs.«01_k».proof.Proof.RefA
public import proofs.«01_k».proof.Proof.RefC
public import proofs.«01_k».proof.Proof.RefG

/-! The reference's result at an index is the layer of the arguments. -/

@[expose] public section

set_option maxRecDepth 16384

noncomputable section

namespace Cert.Proof

open Idealize.ShloMosaic
open Cert.ReferenceIdeal Cert.ReferenceIdeal.Read

/-- The combined projection. -/
theorem proj_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (e : Fin 1792) :
    val_main_v5 (F := Ideal) x0 x1 (ix3 b s e) = proj (argsOf x0 x1 x2 x3 x4 x5 x6 x7 x8 x9 x10 x11 x12 x13 x14 x15) b s e := by
  exact ref_proj x0 x1 b s e

/-- A window's key. -/
theorem key_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (n : Fin 64) (κ : Fin 384) (g : Fin 2) (c : Fin 64) (h : Fin 8) (hg : g.val = h.val / 4) :
    val_main_v20 (F := Ideal) x0 x1 (ix5 b n κ g c) = keyed (argsOf x0 x1 x2 x3 x4 x5 x6 x7 x8 x9 x10 x11 x12 x13 x14 x15) b n κ (kCol h c) := by
  rw [ref_key, ref_key_pad]
  unfold keyed
  have hc : ∀ p, (⟨512 + (64 * g.val + c.val), p⟩ : Fin 1792) = kCol h c := fun _ => Fin.ext (by show 512 + (64 * g.val + c.val) = 512 + 64 * (h.val / 4) + c.val; omega)
  by_cases hv : 128 ≤ 128 * n.val + κ.val ∧ 128 * n.val + κ.val < 8320
  · rw [dif_pos hv, dif_pos hv, hc, proj_eq x0 x1 x2 x3 x4 x5 x6 x7 x8 x9 x10 x11 x12 x13 x14 x15]
  · rw [dif_neg hv, dif_neg hv]

/-- A window's value. -/
theorem value_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (n : Fin 64) (κ : Fin 384) (g : Fin 2) (c : Fin 64) (h : Fin 8) (hg : g.val = h.val / 4) :
    val_main_v24 (F := Ideal) x0 x1 (ix5 b n κ g c) = keyed (argsOf x0 x1 x2 x3 x4 x5 x6 x7 x8 x9 x10 x11 x12 x13 x14 x15) b n κ (vCol h c) := by
  rw [ref_value, ref_value_pad]
  unfold keyed
  have hc : ∀ p, (⟨640 + (64 * g.val + c.val), p⟩ : Fin 1792) = vCol h c := fun _ => Fin.ext (by show 640 + (64 * g.val + c.val) = 640 + 64 * (h.val / 4) + c.val; omega)
  by_cases hv : 128 ≤ 128 * n.val + κ.val ∧ 128 * n.val + κ.val < 8320
  · rw [dif_pos hv, dif_pos hv, hc, proj_eq x0 x1 x2 x3 x4 x5 x6 x7 x8 x9 x10 x11 x12 x13 x14 x15]
  · rw [dif_neg hv, dif_neg hv]

/-- A score. -/
theorem score_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (n : Fin 64) (g : Fin 2) (r : Fin 4) (q : Fin 128) (κ : Fin 384) (h : Fin 8) (hh : h.val = 4 * g.val + r.val) :
    val_main_v84 (F := Ideal) x0 x1 (ix6 b n g r q κ) = score (argsOf x0 x1 x2 x3 x4 x5 x6 x7 x8 x9 x10 x11 x12 x13 x14 x15) b n h q κ := by
  have h8 : Ideal.ofBits .f32 0x3E000000#32 = ((1 / 8 : ℝ) : EReal) := by
    simp [Ideal.ofBits, Ideal.ieee, -EReal.coe_mul]; norm_num
  rw [ref_masked, ref_prod, ref_bias, h8, ← hh]
  unfold score
  refine congrArg (fun z : EReal => if Valid n q κ then z * ((1 / 8 : ℝ) : EReal) + ((-slope h * dist q κ : ℝ) : EReal) else ⊥) (Finset.sum_congr rfl fun c _ => ?_)
  have hc : ∀ p, (⟨64 * (4 * g.val + r.val) + c.val, p⟩ : Fin 1792) = qCol h c := fun _ => Fin.ext (by show 64 * (4 * g.val + r.val) + c.val = 64 * h.val + c.val; omega)
  rw [key_eq x0 x1 x2 x3 x4 x5 x6 x7 x8 x9 x10 x11 x12 x13 x14 x15 b n κ g c h (by omega), ref_query, hc, proj_eq x0 x1 x2 x3 x4 x5 x6 x7 x8 x9 x10 x11 x12 x13 x14 x15]

/-- Attention's output. -/
theorem attn_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (l : Fin 512) :
    val_main_v103 (F := Ideal) x0 x1 x2 (ix3 b s l) = attnRow (argsOf x0 x1 x2 x3 x4 x5 x6 x7 x8 x9 x10 x11 x12 x13 x14 x15) b s l := by
  rw [ref_attn]
  unfold attnRow attn
  refine Finset.sum_congr rfl fun κ _ => ?_
  have hh : (⟨4 * (l.val / 256) + l.val / 64 % 4, by omega⟩ : Fin 8) = ⟨l / 64, by omega⟩ := Fin.ext (by show 4 * (l.val / 256) + l.val / 64 % 4 = l.val / 64; omega)
  have hw : (fun κ => val_main_v84 (F := Ideal) x0 x1 (ix6 b ⟨s / 128, by omega⟩ ⟨l / 256, by omega⟩ ⟨l / 64 % 4, by omega⟩ ⟨s % 128, by omega⟩ κ))
      = score (argsOf x0 x1 x2 x3 x4 x5 x6 x7 x8 x9 x10 x11 x12 x13 x14 x15) b ⟨s / 128, by omega⟩ ⟨l / 64, by omega⟩ ⟨s % 128, by omega⟩ := funext fun κ =>
    score_eq x0 x1 x2 x3 x4 x5 x6 x7 x8 x9 x10 x11 x12 x13 x14 x15 b _ _ _ _ κ _ (by show l.val / 64 = 4 * (l.val / 256) + l.val / 64 % 4; omega)
  rw [value_eq x0 x1 x2 x3 x4 x5 x6 x7 x8 x9 x10 x11 x12 x13 x14 x15 b _ κ _ _ ⟨l / 64, by omega⟩ (by show l.val / 256 = l.val / 64 / 4; omega), ref_weight, hw]
  exact congrArg (fun h => _ * weight _ (x2 (ix2 0 h)) κ) hh

/-- The spatial gating unit. -/
theorem gated_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (l : Fin 512) :
    val_main_v154 (F := Ideal) x0 x1 x3 x4 x5 x6 (ix3 b s l) = gated (argsOf x0 x1 x2 x3 x4 x5 x6 x7 x8 x9 x10 x11 x12 x13 x14 x15) b s l := by
  rw [ref_gated, ref_gelu_u, proj_eq x0 x1 x2 x3 x4 x5 x6 x7 x8 x9 x10 x11 x12 x13 x14 x15]
  simp only [ref_gate_norm, ref_gelu_v, proj_eq x0 x1 x2 x3 x4 x5 x6 x7 x8 x9 x10 x11 x12 x13 x14 x15]
  rfl

/-- The two normalized head groups side by side. -/
theorem mix_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (e : Fin 1024) :
    val_main_v183 (F := Ideal) x0 x1 x2 x3 x4 x5 x6 x7 x8 (ix3 b s e) = mixRow (argsOf x0 x1 x2 x3 x4 x5 x6 x7 x8 x9 x10 x11 x12 x13 x14 x15) b s e := by
  rw [ref_mix]
  unfold mixRow
  by_cases h : e.val < 512
  · rw [dif_pos h, dif_pos h, ref_rms_attn]
    simp only [attn_eq x0 x1 x2 x3 x4 x5 x6 x7 x8 x9 x10 x11 x12 x13 x14 x15]
    rfl
  · rw [dif_neg h, dif_neg h, ref_rms_gate]
    simp only [gated_eq x0 x1 x2 x3 x4 x5 x6 x7 x8 x9 x10 x11 x12 x13 x14 x15]
    rfl

/-- The token-mixing sublayer before its normalization. -/
theorem residual1_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (d : Fin 1024) :
    val_main_v188 (F := Ideal) x0 x1 x2 x3 x4 x5 x6 x7 x8 x9 (ix3 b s d) = y1 (argsOf x0 x1 x2 x3 x4 x5 x6 x7 x8 x9 x10 x11 x12 x13 x14 x15) b s d := by
  rw [ref_mix_residual]
  simp only [mix_eq x0 x1 x2 x3 x4 x5 x6 x7 x8 x9 x10 x11 x12 x13 x14 x15]
  rfl

/-- The token-mixing sublayer. -/
theorem norm1_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (d : Fin 1024) :
    val_main_v212 (F := Ideal) x0 x1 x2 x3 x4 x5 x6 x7 x8 x9 x10 x11 (ix3 b s d) = x1Row (argsOf x0 x1 x2 x3 x4 x5 x6 x7 x8 x9 x10 x11 x12 x13 x14 x15) (y1 (argsOf x0 x1 x2 x3 x4 x5 x6 x7 x8 x9 x10 x11 x12 x13 x14 x15) b s) d := by
  rw [ref_norm1]
  simp only [residual1_eq x0 x1 x2 x3 x4 x5 x6 x7 x8 x9 x10 x11 x12 x13 x14 x15]
  rfl

/-- The channel-mixing sublayer before its normalization. -/
theorem residual2_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (d : Fin 1024) :
    val_main_v221 (F := Ideal) x0 x1 x2 x3 x4 x5 x6 x7 x8 x9 x10 x11 x12 x13 (ix3 b s d) = y2Row (argsOf x0 x1 x2 x3 x4 x5 x6 x7 x8 x9 x10 x11 x12 x13 x14 x15) (x1Row (argsOf x0 x1 x2 x3 x4 x5 x6 x7 x8 x9 x10 x11 x12 x13 x14 x15) (y1 (argsOf x0 x1 x2 x3 x4 x5 x6 x7 x8 x9 x10 x11 x12 x13 x14 x15) b s)) d := by
  rw [ref_ffn]
  simp only [norm1_eq x0 x1 x2 x3 x4 x5 x6 x7 x8 x9 x10 x11 x12 x13 x14 x15]
  rfl

/-- THE REFERENCE AT AN INDEX: the layer of the arguments. -/
theorem reference_eq (x0 : Vec Ideal S8x8192x1024 .f32) (x1 : Vec Ideal S1x1024x1792 .f32) (x2 : Vec Ideal S1x8 .f32) (x3 : Vec Ideal S1x512 .f32) (x4 : Vec Ideal S1x512 .f32) (x5 : Vec Ideal S1x8x128x128 .f32) (x6 : Vec Ideal S1x8x128 .f32) (x7 : Vec Ideal S1x512 .f32) (x8 : Vec Ideal S1x512 .f32) (x9 : Vec Ideal S1x1024x1024 .f32) (x10 : Vec Ideal S1x1024 .f32) (x11 : Vec Ideal S1x1024 .f32) (x12 : Vec Ideal S1x1024x4096 .f32) (x13 : Vec Ideal S1x4096x1024 .f32) (x14 : Vec Ideal S1x1024 .f32) (x15 : Vec Ideal S1x1024 .f32)
    (b : Fin 8) (s : Fin 8192) (d : Fin 1024) :
    val_main_v245 (F := Ideal) x0 x1 x2 x3 x4 x5 x6 x7 x8 x9 x10 x11 x12 x13 x14 x15 (ix3 b s d) = layer (argsOf x0 x1 x2 x3 x4 x5 x6 x7 x8 x9 x10 x11 x12 x13 x14 x15) b s d := by
  rw [ref_norm2]
  simp only [residual2_eq x0 x1 x2 x3 x4 x5 x6 x7 x8 x9 x10 x11 x12 x13 x14 x15]
  rfl

end Cert.Proof

end
-- ==== Proof.Canon.lean ====
module

public import proofs.«01_k».proof.Proof.Gen.KernelIdeal.Frame.RunB
public import Idealize.ShloMosaic.Lib.Pointwise
public import proofs.«01_k».proof.Proof.Spec

/-! The kernel's attention, gating, projection and feed-forward arithmetic, each stated once as a function of the blocks it reads. -/

@[expose] public section

set_option maxRecDepth 16384

noncomputable section

namespace Cert.Proof

open Idealize.ShloMosaic
open Cert.KernelIdeal Cert.KernelIdeal.Gen

/-- A sink in base-two units. -/
def kSink (z : Elt Ideal .f32) : Ideal .f32 := Scalar.mulf z (Named.named κ "log2e" 0x3FB8AA3B#32)

/-- The softmax weights of a block of scores, keys down, with a sink. -/
def kSoft (s : FVec Ideal S384x128 .f32) (z : Ideal .f32) : FVec Ideal S384x128 .bf16 :=
  have m := maximumf (shapeCast S1x128 (multiReduction .maximumf [0] S128 s 0xFF800000#32 reduces_S384x128_S128 (.inl rfl) rfl) shapeCasts_S128_S1x128) (broadcast S1x128 z)
  have p := exp2 (subf s (broadcastTo S384x128 m broadcasts_S1x128_S384x128))
  have d := addf (shapeCast S1x128 (multiReduction .add [0] S128 p 0x00000000#32 reduces_S384x128_S128 (.inl rfl) rfl) shapeCasts_S128_S1x128) (exp2 (subf (broadcast S1x128 z) m))
  truncf .bf16 (mulf p (broadcastTo S384x128 (divf (broadcast S1x128 (Scalar.ofBits .f32 0x3F800000#32)) d) broadcasts_S1x128_S384x128)) bitsLt_bf16_f32

/-- The first 128 keys masked unless the bit is set. -/
def kFirst (b : BitVec 1) (s : FVec Ideal S384x128 .f32) : FVec Ideal S384x128 .f32 :=
  concatenate S384x128 0 [⟨S128x128, Scalar.select b (extractStridedSlice S128x128 ![0, 0] s slices_S384x128_o0_0_S128x128) (broadcast S128x128 (Named.named κ "mask" 0xF149F2CA#32))⟩, ⟨S256x128, extractStridedSlice S256x128 ![128, 0] s slices_S384x128_o128_0_S256x128⟩] concatenates_S128x128_S256x128_S384x128_d0

/-- The last 128 keys masked unless the bit is set. -/
def kLast (b : BitVec 1) (s : FVec Ideal S384x128 .f32) : FVec Ideal S384x128 .f32 :=
  concatenate S384x128 0 [⟨S256x128, extractStridedSlice S256x128 ![0, 0] s slices_S384x128_o0_0_S256x128⟩, ⟨S128x128, Scalar.select b (extractStridedSlice S128x128 ![256, 0] s slices_S384x128_o256_0_S128x128) (broadcast S128x128 (Named.named κ "mask" 0xF149F2CA#32))⟩] concatenates_S256x128_S128x128_S384x128_d0

/-- The keys masked for a block of queries. -/
def kCut (j : Fin 4) (b0 b1 : BitVec 1) (s : FVec Ideal S384x128 .f32) : FVec Ideal S384x128 .f32 :=
  match j with
  | 0 => kFirst b0 s
  | 1 => s
  | 2 => s
  | 3 => kLast b1 s

/-- The scores of a group: keys of the two parities down, queries of the two halves across. -/
def kScore (q1 q2 : Vec Ideal S128x128 .bf16) (k1 k2 : Vec Ideal S1x384x128 .bf16) : FVec Ideal S768x256 .f32 :=
  matmul (φ₁ := .bf16) (φ₂ := .bf16) dot_S768x128_S256x128_S768x256_1_1_0_0_n_n none (concatenate S768x128 0 [⟨S384x128, (shapeCast S384x128 k1 shapeCasts_S1x384x128_S384x128 : FVec Ideal S384x128 .bf16)⟩, ⟨S384x128, (shapeCast S384x128 k2 shapeCasts_S1x384x128_S384x128 : FVec Ideal S384x128 .bf16)⟩] concatenates_S384x128_S384x128_S768x128_d0) (concatenate S256x128 0 [⟨S128x128, q1⟩, ⟨S128x128, q2⟩] concatenates_S128x128_S128x128_S256x128_d0) (constant S768x256 .f32 0x00000000#32)

/-- The weights of a group's four heads, laid out as its scores are. -/
def kWeights (j : Fin 4) (c0 c1 : BitVec 1) (s : FVec Ideal S768x256 .f32) (b0 b1 b2 b3 : Vec Ideal S1x384x128 .f32) (z0 z1 z2 z3 : Elt Ideal .f32) : FVec Ideal S768x256 .bf16 :=
  concatenate S768x256 0 [⟨S384x256, concatenate S384x256 1 [⟨S384x128, kSoft (kCut j c0 c1 (addf (extractStridedSlice S384x128 ![0, 0] s slices_S768x256_o0_0_S384x128) (shapeCast S384x128 b0 shapeCasts_S1x384x128_S384x128))) (kSink z0)⟩, ⟨S384x128, kSoft (kCut j c0 c1 (addf (extractStridedSlice S384x128 ![0, 128] s slices_S768x256_o0_128_S384x128) (shapeCast S384x128 b2 shapeCasts_S1x384x128_S384x128))) (kSink z2)⟩] concatenates_S384x128_S384x128_S384x256_d1⟩, ⟨S384x256, concatenate S384x256 1 [⟨S384x128, kSoft (kCut j c0 c1 (addf (extractStridedSlice S384x128 ![384, 0] s slices_S768x256_o384_0_S384x128) (shapeCast S384x128 b1 shapeCasts_S1x384x128_S384x128))) (kSink z1)⟩, ⟨S384x128, kSoft (kCut j c0 c1 (addf (extractStridedSlice S384x128 ![384, 128] s slices_S768x256_o384_128_S384x128) (shapeCast S384x128 b3 shapeCasts_S1x384x128_S384x128))) (kSink z3)⟩] concatenates_S384x128_S384x128_S384x256_d1⟩] concatenates_S384x256_S384x256_S768x256_d0

/-- A group's values under its weights. -/
def kGroup (w : FVec Ideal S768x256 .bf16) (v1 v2 : Vec Ideal S1x128x384 .bf16) : FVec Ideal S128x256 .f32 :=
  matmul (φ₁ := .bf16) dot_S128x768_S768x256_S128x256_1_0_0_1_n_n none (concatenate S128x768 1 [⟨S128x384, (shapeCast S128x384 v1 shapeCasts_S1x128x384_S128x384 : FVec Ideal S128x384 .bf16)⟩, ⟨S128x384, (shapeCast S128x384 v2 shapeCasts_S1x128x384_S128x384 : FVec Ideal S128x384 .bf16)⟩] concatenates_S128x384_S128x384_S128x768_d1) w (constant S128x256 .f32 0x00000000#32)

/-- The eight heads side by side, queries down. -/
def kHeads (g0 g1 : FVec Ideal S128x256 .f32) : FVec Ideal S128x512 .f32 :=
  concatenate S128x512 1 [⟨S128x128, transpose S128x128 [1, 0] (extractStridedSlice S128x128 ![0, 0] g0 slices_S128x256_o0_0_S128x128) transposes_S128x128_p1_0_S128x128⟩, ⟨S128x128, transpose S128x128 [1, 0] (extractStridedSlice S128x128 ![0, 128] g0 slices_S128x256_o0_128_S128x128) transposes_S128x128_p1_0_S128x128⟩, ⟨S128x128, transpose S128x128 [1, 0] (extractStridedSlice S128x128 ![0, 0] g1 slices_S128x256_o0_0_S128x128) transposes_S128x128_p1_0_S128x128⟩, ⟨S128x128, transpose S128x128 [1, 0] (extractStridedSlice S128x128 ![0, 128] g1 slices_S128x256_o0_128_S128x128) transposes_S128x128_p1_0_S128x128⟩] concatenates_S128x128_S128x128_S128x128_S128x128_S128x512_d1

/-- The root-mean-square normalisation of 128 rows of 512. -/
def kRms (y : FVec Ideal S128x512 .f32) (g : Vec Ideal S1x512 .f32) : FVec Ideal S128x512 .bf16 :=
  shapeCast S128x512 (truncf .bf16 (mulf (mulf y (broadcastTo S128x512 (rsqrt (addf (divf (shapeCast S128x1 (multiReduction .add [1] S128 (mulf y y) 0x00000000#32 reduces_S128x512_S128 (.inl rfl) rfl) shapeCasts_S128_S128x1) (broadcast S128x1 (Scalar.ofBits .f32 0x44000000#32))) (broadcast S128x1 (Scalar.ofBits .f32 0x3727C5AC#32)))) broadcasts_S128x1_S128x512)) (broadcastTo S128x512 (shapeCast S1x512 g shapeCasts_S1x512_S1x512) broadcasts_S1x512_S128x512)) bitsLt_bf16_f32) shapeCasts_S128x512_S128x512

/-- The attention half of a block of mixed rows. -/
def kAttn (j : Fin 4) (c0 c1 : BitVec 1) (q0 q1 q2 q3 : Vec Ideal S128x128 .bf16) (k0 k1 k2 k3 : Vec Ideal S1x384x128 .bf16) (v0 v1 v2 v3 : Vec Ideal S1x128x384 .bf16) (b0 b1 b2 b3 b4 b5 b6 b7 : Vec Ideal S1x384x128 .f32) (z0 z1 z2 z3 z4 z5 z6 z7 : Elt Ideal .f32) (g : Vec Ideal S1x512 .f32) : FVec Ideal S128x512 .bf16 :=
  kRms (kHeads (kGroup (kWeights j c0 c1 (kScore q0 q1 k0 k1) b0 b1 b2 b3 z0 z1 z2 z3) v0 v1) (kGroup (kWeights j c0 c1 (kScore q2 q3 k2 k3) b4 b5 b6 b7 z4 z5 z6 z7) v2 v3)) g

/-- The exact Gaussian unit on 128 rows of 512. -/
def kGelu (u : Vec Ideal S128x512 .f32) : FVec Ideal S128x512 .f32 :=
  mulf (mulf (broadcast S128x512 (Scalar.ofBits .f32 0x3F000000#32)) u) (addf (broadcast S128x512 (Scalar.ofBits .f32 0x3F800000#32)) (erf (mulf u (broadcast S128x512 (Scalar.ofBits .f32 0x3F3504F3#32)))))

/-- The gate's normalised rows. -/
def kNorm (u : Vec Ideal S128x512 .f32) (g b : Vec Ideal S1x512 .f32) : FVec Ideal S128x512 .f32 :=
  have z := kGelu u
  have c := subf z (broadcastTo S128x512 (divf (shapeCast S128x1 (multiReduction .add [1] S128 z 0x00000000#32 reduces_S128x512_S128 (.inl rfl) rfl) shapeCasts_S128_S128x1) (broadcast S128x1 (Scalar.ofBits .f32 0x44000000#32))) broadcasts_S128x1_S128x512)
  addf (mulf (mulf c (broadcastTo S128x512 (rsqrt (addf (divf (shapeCast S128x1 (multiReduction .add [1] S128 (mulf c c) 0x00000000#32 reduces_S128x512_S128 (.inl rfl) rfl) shapeCasts_S128_S128x1) (broadcast S128x1 (Scalar.ofBits .f32 0x44000000#32))) (broadcast S128x1 (Scalar.ofBits .f32 0x3727C5AC#32)))) broadcasts_S128x1_S128x512)) (broadcastTo S128x512 (shapeCast S1x512 g shapeCasts_S1x512_S1x512) broadcasts_S1x512_S128x512)) (broadcastTo S128x512 (shapeCast S1x512 b shapeCasts_S1x512_S1x512) broadcasts_S1x512_S128x512)

/-- A pair of heads' spatial mixing of 128 lanes. -/
def kPair (v : FVec Ideal S128x128 .f32) (w : Vec Ideal S1x128x256 .bf16) : FVec Ideal S128x128 .f32 :=
  matmul (φ₁ := .bf16) dot_S128x256_S256x128_S128x128_1_0_0_1_n_n none (shapeCast S128x256 w shapeCasts_S1x128x256_S128x256 : FVec Ideal S128x256 .bf16) (truncf .bf16 (concatenate S256x128 0 [⟨S128x128, select k0_pay71 v (broadcast S128x128 (Scalar.ofBits .f32 0x00000000#32))⟩, ⟨S128x128, select k0_pay71 (broadcast S128x128 (Scalar.ofBits .f32 0x00000000#32)) v⟩] concatenates_S128x128_S128x128_S256x128_d0) bitsLt_bf16_f32) (constant S128x128 .f32 0x00000000#32)

/-- The gating half of a block of mixed rows. -/
def kGate (gv gu : Vec Ideal S128x512 .f32) (g b : Vec Ideal S1x512 .f32) (w0 w1 w2 w3 : Vec Ideal S1x128x256 .bf16) (bs : Vec Ideal S128x512 .f32) (ng : Vec Ideal S1x512 .f32) : FVec Ideal S128x512 .bf16 :=
  have vn := kNorm gv g b
  kRms (mulf (kGelu gu) (addf (concatenate S128x512 1 [⟨S128x128, kPair (extractStridedSlice S128x128 ![0, 0] vn slices_S128x512_o0_0_S128x128) w0⟩, ⟨S128x128, kPair (extractStridedSlice S128x128 ![0, 128] vn slices_S128x512_o0_128_S128x128) w1⟩, ⟨S128x128, kPair (extractStridedSlice S128x128 ![0, 256] vn slices_S128x512_o0_256_S128x128) w2⟩, ⟨S128x128, kPair (extractStridedSlice S128x128 ![0, 384] vn slices_S128x512_o0_384_S128x128) w3⟩] concatenates_S128x128_S128x128_S128x128_S128x128_S128x512_d1) (shapeCast S128x512 bs shapeCasts_S128x512_S128x512))) ng

/-- The residual and the out-projection of 128 mixed rows. -/
def kOut (x : Vec Ideal S1x128x1024 .f32) (mix : Vec Ideal S128x1024 .bf16) (w : Vec Ideal S1024x1024 .bf16) : FVec Ideal S128x1024 .f32 :=
  k0_pay117 x mix w

/-- A slice of the squared hidden row. -/
def kHid (x : Vec Ideal S512x1024 .bf16) (w : Vec Ideal S1024x512 .bf16) : FVec Ideal S512x512 .bf16 := k0_pay73 x w

end Cert.Proof

end
-- ==== Proof.Attn.lean ====
module

public import proofs.«01_k».proof.Proof.Canon

/-! The kernel's attention and gating, read at an index. -/

@[expose] public section

set_option maxRecDepth 16384

noncomputable section

namespace Cert.Proof

open Idealize.ShloMosaic
open Cert.KernelIdeal Cert.KernelIdeal.Gen

/-- The least value of the format is bottom. -/
theorem ofBits_least : Ideal.ofBits .f32 0xFF800000#32 = ⊥ := by simp [Ideal.ofBits, Ideal.ieee]

/-- The value one. -/
theorem ofBits_unit : Ideal.ofBits .f32 0x3F800000#32 = 1 := by simp [Ideal.ofBits, Ideal.ieee, -EReal.coe_mul]; norm_num

/-- The mask is bottom. -/
theorem mask_bot : Named.named (F := Ideal) (φ := .f32) κ "mask" 0xF149F2CA#32 = (⊥ : EReal) :=
  IdealRules.named_const.ideal_named_scalar _ _ _ _ rfl

/-- The base-two factor. -/
theorem log2e_val : Named.named (F := Ideal) (φ := .f32) κ "log2e" 0x3FB8AA3B#32 = (((Real.log 2)⁻¹ : ℝ) : EReal) :=
  IdealRules.named_const.ideal_named_scalar _ _ _ _ rfl

/-- A sink in base-two units, as a product. -/
theorem kSink_eq (z : Elt Ideal .f32) : kSink z = (((Real.log 2)⁻¹ : ℝ) : EReal) * z := by
  unfold kSink
  rw [log2e_val]
  exact mul_comm (G := EReal) _ _

/-- A bit is clear or set. -/
theorem bit_cases (b : BitVec 1) : b = 0#1 ∨ b = 1#1 := by revert b; decide

/-- A softmax weight at a key and a query. -/
theorem kSoft_apply (s : FVec Ideal S384x128 .f32) (z : Ideal .f32) (κ : Fin 384) (i : Fin 128) :
    kSoft s z (ix2 κ i) = Ideal.exp2 (s (ix2 κ i) - max (Finset.univ.sup fun k => s (ix2 k i)) z)
      * Ideal.div 1 ((∑ k : Fin 384, Ideal.exp2 (s (ix2 k i) - max (Finset.univ.sup fun k => s (ix2 k i)) z)) + Ideal.exp2 (z - max (Finset.univ.sup fun k => s (ix2 k i)) z)) := by
  pointwise [kSoft]
  rw [ofBits_least]
  rfl

/-- The first keys masked, at an index. -/
theorem kFirst_apply (b : BitVec 1) (s : FVec Ideal S384x128 .f32) (κ : Fin 384) (i : Fin 128) :
    kFirst b s (ix2 κ i) = if κ.val < 128 ∧ b = 0#1 then ⊥ else s (ix2 κ i) := by
  pointwise [kFirst]
  rw [mask_bot]
  rcases bit_cases b with rfl | rfl
  · by_cases h : κ.val < 128
    · simp [h, Scalar.select]
    · simp only [h, dite_false, false_and, if_false]
      congr 2
      exact Fin.ext (by simp; omega)
  · by_cases h : κ.val < 128
    · simp [h, Scalar.select]
    · simp only [h, dite_false, false_and, if_false]
      congr 2
      exact Fin.ext (by simp; omega)

/-- The last keys masked, at an index. -/
theorem kLast_apply (b : BitVec 1) (s : FVec Ideal S384x128 .f32) (κ : Fin 384) (i : Fin 128) :
    kLast b s (ix2 κ i) = if 256 ≤ κ.val ∧ b = 0#1 then ⊥ else s (ix2 κ i) := by
  pointwise [kLast]
  rw [mask_bot]
  rcases bit_cases b with rfl | rfl
  · by_cases h : κ.val < 256
    · simp [h]
    · have h' : 256 ≤ κ.val := by omega
      simp [h, h', Scalar.select]
  · by_cases h : κ.val < 256
    · simp [h]
    · have h' : 256 ≤ κ.val := by omega
      simp only [h, dite_false]
      simp [Scalar.select]
      congr 2
      exact Fin.ext (by simp; omega)

/-- Whether a key of a block's window is masked. -/
def Cut (j : Fin 4) (c0 c1 : BitVec 1) (κ : ℕ) : Prop := (j = 0 ∧ κ < 128 ∧ c0 = 0#1) ∨ (j = 3 ∧ 256 ≤ κ ∧ c1 = 0#1)

instance (j : Fin 4) (c0 c1 : BitVec 1) (κ : ℕ) : Decidable (Cut j c0 c1 κ) := inferInstanceAs (Decidable (_ ∨ _))

/-- The keys masked for a block, at an index. -/
theorem kCut_apply (j : Fin 4) (c0 c1 : BitVec 1) (s : FVec Ideal S384x128 .f32) (κ : Fin 384) (i : Fin 128) :
    kCut j c0 c1 s (ix2 κ i) = if Cut j c0 c1 κ then ⊥ else s (ix2 κ i) := by
  fin_cases j
  · refine (kFirst_apply ..).trans ?_
    simp [Cut]
  · simp [kCut, Cut]
  · simp [kCut, Cut]
  · refine (kLast_apply ..).trans ?_
    simp [Cut]

/-- The scores of a group, at an index. -/
theorem kScore_apply (q1 q2 : Vec Ideal S128x128 .bf16) (k1 k2 : Vec Ideal S1x384x128 .bf16) (r : Fin 768) (γ : Fin 256) :
    kScore q1 q2 k1 k2 (ix2 r γ) = ∑ l : Fin 128, (if h : r.val < 384 then k1 (ix3 0 ⟨r, h⟩ l) else k2 (ix3 0 ⟨r - 384, by omega⟩ l)) * (if h : γ.val < 128 then q1 (ix2 ⟨γ, h⟩ l) else q2 (ix2 ⟨γ - 128, by omega⟩ l)) := by
  pointwise [kScore]

/-- A group's values under its weights, at an index. -/
theorem kGroup_apply (w : FVec Ideal S768x256 .bf16) (v1 v2 : Vec Ideal S1x128x384 .bf16) (l : Fin 128) (γ : Fin 256) :
    kGroup w v1 v2 (ix2 l γ) = (∑ κ : Fin 384, v1 (ix3 0 l κ) * w (ix2 ⟨κ, by omega⟩ γ)) + ∑ κ : Fin 384, v2 (ix3 0 l κ) * w (ix2 ⟨384 + κ, by omega⟩ γ) := by
  pointwise [kGroup]

/-- The eight heads side by side, at an index. -/
theorem kHeads_apply (g : Fin 2 → FVec Ideal S128x256 .f32) (i : Fin 128) (p half : Fin 2) (l : Fin 128) :
    kHeads (g 0) (g 1) (ix2 i ⟨256 * p + 128 * half + l, by omega⟩) = g p (ix2 l ⟨128 * half + i, by omega⟩) := by
  have hl := l.isLt
  fin_cases p <;> fin_cases half <;> pointwise [kHeads]
  · refine (dif_neg (by omega)).trans ((dif_neg (by omega)).trans ((dif_pos (by omega)).trans ?_))
    exact congrArg (fun j => g 1 (ix2 j ⟨i, by omega⟩)) (Fin.ext (by dsimp only; omega))
  · refine (dif_neg (by omega)).trans ((dif_neg (by omega)).trans ((dif_neg (by omega)).trans ?_))
    exact congrArg (fun j => g 1 (ix2 j ⟨128 + i, by omega⟩)) (Fin.ext (by dsimp only; omega))

/-- The root-mean-square normalisation, at an index. -/
theorem kRms_apply (y : FVec Ideal S128x512 .f32) (g : Vec Ideal S1x512 .f32) (i : Fin 128) (L : Fin 512) :
    kRms y g (ix2 i L) = rmsRow (Ideal.ofBits .f32 0x44000000#32) (fun L => y (ix2 i L)) (fun L => g (ix2 0 L)) L := by
  pointwise [kRms]
  rfl

/-- The Gaussian unit, at an index. -/
theorem kGelu_apply (u : Vec Ideal S128x512 .f32) (i : Fin 128) (L : Fin 512) : kGelu u (ix2 i L) = gelu (u (ix2 i L)) := by
  pointwise [kGelu]
  unfold gelu
  rw [← ofBits_unit]
  rfl

/-- The gate's normalised rows, at an index. -/
theorem kNorm_apply (u : Vec Ideal S128x512 .f32) (g b : Vec Ideal S1x512 .f32) (i : Fin 128) (L : Fin 512) :
    kNorm u g b (ix2 i L) = lnRow (Ideal.ofBits .f32 0x44000000#32) (fun L => gelu (u (ix2 i L))) (fun L => g (ix2 0 L)) (fun L => b (ix2 0 L)) L := by
  pointwise [kNorm, kGelu, lnRow, gelu]
  rfl

/-- A comparison of a lane with the middle. -/
theorem lane_low (l : Fin 128) : IntOp.cmpi .slt (BitVec.ofNat 32 l.val) 64#32 = if l.val < 64 then 1#1 else 0#1 := by
  revert l; decide

/-- A pair of heads' spatial mixing, at an index. -/
theorem kPair_apply (v : FVec Ideal S128x128 .f32) (w : Vec Ideal S1x128x256 .bf16) (i : Fin 128) (l : Fin 128) :
    kPair v w (ix2 i l) = ∑ t : Fin 128, w (ix3 0 i ⟨l / 64 * 128 + t, by omega⟩) * v (ix2 t l) := by
  pointwise [kPair, k0_pay71]
  rw [lane_low]
  by_cases h : l.val < 64
  · simp only [if_pos h, Scalar.select]
    simp only [show ((1#1 : BitVec 1) = 1) = True from eq_true rfl, if_true, Finset.sum_const_zero, add_zero]
    exact Finset.sum_congr rfl fun t _ => congrArg (fun j => w (ix3 0 i j) * v (ix2 t l)) (Fin.ext (by dsimp only; omega))
  · simp only [if_neg h, Scalar.select]
    simp only [show ((0#1 : BitVec 1) = 1) = False from eq_false (by decide), if_false, Finset.sum_const_zero, zero_add]
    exact Finset.sum_congr rfl fun t _ => congrArg (fun j => w (ix3 0 i j) * v (ix2 t l)) (Fin.ext (by dsimp only; omega))

/-- A slice of 128 lanes, at an index. -/
theorem lanes_apply (o : ℕ) (ho : o + 128 ≤ 512) (v : FVec Ideal S128x512 .f32) (h : S128x512.Slices ![0, o] S128x128) (t l : Fin 128) :
    extractStridedSlice S128x128 ![0, o] v h (ix2 t l) = v (ix2 t ⟨o + l, by omega⟩) := by
  pointwise []

/-- Four blocks of lanes side by side, at an index. -/
theorem four_apply (f : Fin 4 → FVec Ideal S128x128 .f32) (i l : Fin 128) (p : Fin 4) :
    concatenate S128x512 1 [⟨S128x128, f 0⟩, ⟨S128x128, f 1⟩, ⟨S128x128, f 2⟩, ⟨S128x128, f 3⟩] concatenates_S128x128_S128x128_S128x128_S128x128_S128x512_d1 (ix2 i ⟨128 * p + l, by omega⟩) = f p (ix2 i l) := by
  have hl := l.isLt
  fin_cases p <;> pointwise []
  · refine (dif_neg (by omega)).trans ((dif_neg (by omega)).trans ((dif_pos (by omega)).trans ?_))
    exact congrArg (fun j => f 2 (ix2 i j)) (Fin.ext (by dsimp only; omega))
  · refine (dif_neg (by omega)).trans ((dif_neg (by omega)).trans ((dif_neg (by omega)).trans ?_))
    exact congrArg (fun j => f 3 (ix2 i j)) (Fin.ext (by dsimp only; omega))

/-- The gating half of a block, at an index. -/
theorem kGate_apply (gv gu : Vec Ideal S128x512 .f32) (g b : Vec Ideal S1x512 .f32) (w : Fin 4 → Vec Ideal S1x128x256 .bf16) (bs : Vec Ideal S128x512 .f32) (ng : Vec Ideal S1x512 .f32) (i : Fin 128) (L : Fin 512) :
    kGate gv gu g b (w 0) (w 1) (w 2) (w 3) bs ng (ix2 i L) = rmsRow (Ideal.ofBits .f32 0x44000000#32)
      (fun L => gelu (gu (ix2 i L)) * ((∑ t : Fin 128, w ⟨L / 128, by omega⟩ (ix3 0 i ⟨L % 128 / 64 * 128 + t, by omega⟩)
        * lnRow (Ideal.ofBits .f32 0x44000000#32) (fun L => gelu (gv (ix2 t L))) (fun L => g (ix2 0 L)) (fun L => b (ix2 0 L)) L) + bs (ix2 i L))) (fun L => ng (ix2 0 L)) L := by
  unfold kGate
  rw [kRms_apply]
  refine congrArg (fun y => rmsRow _ y _ L) (funext fun L => ?_)
  refine congrArg₂ (· * ·) (kGelu_apply gu i L) ?_
  obtain ⟨p, l, rfl⟩ : ∃ (p : Fin 4) (l : Fin 128), L = ⟨128 * p + l, by omega⟩ :=
    ⟨⟨L / 128, by omega⟩, ⟨L % 128, by omega⟩, Fin.ext (by dsimp only; omega)⟩
  have hl := l.isLt
  have key : ∀ (v : FVec Ideal S128x128 .f32) (q : Fin 4) (hv : ∀ t, v (ix2 t l) = kNorm gv g b (ix2 t ⟨128 * p + l, by omega⟩)) (hq : q = p),
      kPair v (w q) (ix2 i l) = ∑ t : Fin 128, w ⟨(128 * p + l) / 128, by omega⟩ (ix3 0 i ⟨(128 * p + l) % 128 / 64 * 128 + t, by omega⟩)
        * lnRow (Ideal.ofBits .f32 0x44000000#32) (fun L => gelu (gv (ix2 t L))) (fun L => g (ix2 0 L)) (fun L => b (ix2 0 L)) ⟨128 * p + l, by omega⟩ := by
    rintro v q hv rfl
    rw [kPair_apply]
    refine Finset.sum_congr rfl fun t _ => ?_
    rw [hv, kNorm_apply]
    have e1 : (⟨(128 * q + l) / 128, by omega⟩ : Fin 4) = q := Fin.ext (by dsimp only; omega)
    rw [e1]
    exact congrArg (fun j => w q (ix3 0 i j) * _) (Fin.ext (by dsimp only; omega))
  have hv : ∀ t, (![extractStridedSlice S128x128 ![0, 0] (kNorm gv g b) slices_S128x512_o0_0_S128x128, extractStridedSlice S128x128 ![0, 128] (kNorm gv g b) slices_S128x512_o0_128_S128x128, extractStridedSlice S128x128 ![0, 256] (kNorm gv g b) slices_S128x512_o0_256_S128x128, extractStridedSlice S128x128 ![0, 384] (kNorm gv g b) slices_S128x512_o0_384_S128x128] : Fin 4 → FVec Ideal S128x128 .f32) p (ix2 t l) = kNorm gv g b (ix2 t ⟨128 * p + l, by omega⟩) := by
    intro t
    fin_cases p
    · exact lanes_apply 0 (by omega) (kNorm gv g b) slices_S128x512_o0_0_S128x128 t l
    · exact lanes_apply 128 (by omega) (kNorm gv g b) slices_S128x512_o0_128_S128x128 t l
    · exact lanes_apply 256 (by omega) (kNorm gv g b) slices_S128x512_o0_256_S128x128 t l
    · exact lanes_apply 384 (by omega) (kNorm gv g b) slices_S128x512_o0_384_S128x128 t l
  have h4 := four_apply (fun q => kPair ((![extractStridedSlice S128x128 ![0, 0] (kNorm gv g b) slices_S128x512_o0_0_S128x128, extractStridedSlice S128x128 ![0, 128] (kNorm gv g b) slices_S128x512_o0_128_S128x128, extractStridedSlice S128x128 ![0, 256] (kNorm gv g b) slices_S128x512_o0_256_S128x128, extractStridedSlice S128x128 ![0, 384] (kNorm gv g b) slices_S128x512_o0_384_S128x128] : Fin 4 → FVec Ideal S128x128 .f32) q) (w q)) i l p
  refine congrArg₂ (fun x y : EReal => x + y) (h4.trans (key _ p hv rfl)) ?_
  pointwise []

/-- A softmax weight in base two, as a function of the column of scores. -/
def baseTwo (b : Fin 384 → EReal) (z : EReal) (κ : Fin 384) : EReal :=
  Ideal.exp2 (b κ - max (Finset.univ.sup b) z)
      * Ideal.div 1 ((∑ k : Fin 384, Ideal.exp2 (b k - max (Finset.univ.sup b) z)) + Ideal.exp2 (z - max (Finset.univ.sup b) z))

/-- A column of masked scores: `s` and `b` the products and the biases of a head at a query. -/
def column (j : Fin 4) (c0 c1 : BitVec 1) (s b : Fin 384 → EReal) (κ : Fin 384) : EReal := if Cut j c0 c1 κ then ⊥ else s κ + b κ

/-- A head's softmax over its columns. -/
theorem kSoft_column (j : Fin 4) (c0 c1 : BitVec 1) (s : FVec Ideal S384x128 .f32) (z : Ideal .f32) (S B : Fin 384 → EReal) (κ : Fin 384) (i : Fin 128)
    (h : ∀ k, s (ix2 k i) = S k + B k) : kSoft (kCut j c0 c1 s) z (ix2 κ i) = baseTwo (column j c0 c1 S B) z κ := by
  have : (fun k => kCut j c0 c1 s (ix2 k i)) = column j c0 c1 S B := funext fun k => by rw [kCut_apply, h]; rfl
  rw [kSoft_apply, this]
  unfold baseTwo
  rw [← this]

/-- The weights of a group, at an index: heads of the first parity in the first 384 rows, queries of the first half in the first 128 columns. -/
theorem kWeights_apply (j : Fin 4) (c0 c1 : BitVec 1) (s : FVec Ideal S768x256 .f32) (B : Fin 4 → Vec Ideal S1x384x128 .f32) (Z : Fin 4 → Elt Ideal .f32)
    (κ : Fin 384) (i : Fin 128) (par half : Fin 2) :
    kWeights j c0 c1 s (B 0) (B 1) (B 2) (B 3) (Z 0) (Z 1) (Z 2) (Z 3) (ix2 ⟨384 * par + κ, by omega⟩ ⟨128 * half + i, by omega⟩)
      = baseTwo (column j c0 c1 (fun k => s (ix2 ⟨384 * par + k, by omega⟩ ⟨128 * half + i, by omega⟩)) (fun k => B ⟨2 * half + par, by omega⟩ (ix3 0 k i))) (kSink (Z ⟨2 * half + par, by omega⟩)) κ := by
  fin_cases par <;> fin_cases half
  · refine Eq.trans ?_ (kSoft_column j c0 c1 (addf (extractStridedSlice S384x128 ![0, 0] s slices_S768x256_o0_0_S384x128) (shapeCast S384x128 (B 0) shapeCasts_S1x384x128_S384x128)) _ _ _ κ i ?_)
    · unfold kWeights
      pointwise []
    · intro k
      pointwise []
  · refine Eq.trans ?_ (kSoft_column j c0 c1 (addf (extractStridedSlice S384x128 ![0, 128] s slices_S768x256_o0_128_S384x128) (shapeCast S384x128 (B 2) shapeCasts_S1x384x128_S384x128)) _ _ _ κ i ?_)
    · unfold kWeights
      pointwise []
    · intro k
      pointwise []
  · refine Eq.trans ?_ (kSoft_column j c0 c1 (addf (extractStridedSlice S384x128 ![384, 0] s slices_S768x256_o384_0_S384x128) (shapeCast S384x128 (B 1) shapeCasts_S1x384x128_S384x128)) _ _ _ κ i ?_)
    · unfold kWeights
      pointwise []
    · intro k
      pointwise []
  · refine Eq.trans ?_ (kSoft_column j c0 c1 (addf (extractStridedSlice S384x128 ![384, 128] s slices_S768x256_o384_128_S384x128) (shapeCast S384x128 (B 3) shapeCasts_S1x384x128_S384x128)) _ _ _ κ i ?_)
    · unfold kWeights
      pointwise []
    · intro k
      pointwise []

/-- A finite sum of real numbers, as a real number. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- What a block of queries reads: `n` the block among the sequence's 64, `j` its place in its tile. -/
structure Reads (a : Args) (b : Fin 8) (n : Fin 64) (j : Fin 4) (c0 c1 : BitVec 1) (q : Fin 4 → Vec Ideal S128x128 .bf16)
    (k : Fin 4 → Vec Ideal S1x384x128 .bf16) (v : Fin 4 → Vec Ideal S1x128x384 .bf16) (B : Fin 8 → Vec Ideal S1x384x128 .f32) (Z : Fin 8 → Elt Ideal .f32) : Prop where
  q : ∀ (p : Fin 4) (i l : Fin 128), q p (ix2 i l) = ((1 / 8 * (Real.log 2)⁻¹ : ℝ) : EReal) * proj a b ⟨128 * n + i, by omega⟩ ⟨128 * p + l, by omega⟩
  k : ∀ (p : Fin 4) (κ : Fin 384) (l : Fin 128), (128 ≤ 128 * n.val + κ ∧ 128 * n.val + κ < 8320) →
    k p (ix3 0 κ l) = if l.val / 64 = p.val % 2 then keyed a b n κ ⟨512 + 64 * (p / 2) + l % 64, by omega⟩ else 0
  v : ∀ (p : Fin 4) (κ : Fin 384) (l : Fin 128), (128 ≤ 128 * n.val + κ ∧ 128 * n.val + κ < 8320) →
    v p (ix3 0 l κ) = if l.val / 64 = p.val % 2 then keyed a b n κ ⟨640 + 64 * (p / 2) + l % 64, by omega⟩ else 0
  B : ∀ (h : Fin 8) (κ : Fin 384) (i : Fin 128), B h (ix3 0 κ i) = if κ.val ≤ i + 256 ∧ i.val ≤ κ then (((Real.log 2)⁻¹ * (-slope h * dist i κ) : ℝ) : EReal) else ⊥
  Z : ∀ h, Z h = a.sink h
  cut : ∀ κ : Fin 384, ¬ Cut j c0 c1 κ ↔ (128 ≤ 128 * n.val + κ ∧ 128 * n.val + κ < 8320)

variable {a : Args} {b : Fin 8} {n : Fin 64} {j : Fin 4} {c0 c1 : BitVec 1} {q : Fin 4 → Vec Ideal S128x128 .bf16}
    {k : Fin 4 → Vec Ideal S1x384x128 .bf16} {v : Fin 4 → Vec Ideal S1x128x384 .bf16} {B : Fin 8 → Vec Ideal S1x384x128 .f32} {Z : Fin 8 → Elt Ideal .f32}

/-- The product of a head's keys with its queries, in base-two units. -/
theorem Reads.dot (ha : a.Real) (r : Reads a b n j c0 c1 q k v B Z) (g par half : Fin 2) (κ : Fin 384) (i : Fin 128)
    (hκ : 128 ≤ 128 * n.val + κ ∧ 128 * n.val + κ < 8320) :
    (∑ l : Fin 128, k ⟨2 * g + par, by omega⟩ (ix3 0 κ l) * q ⟨2 * g + half, by omega⟩ (ix2 i l))
      = ((1 / 8 * (Real.log 2)⁻¹ : ℝ) : EReal) * ∑ c, keyed a b n κ (kCol ⟨4 * g + 2 * half + par, by omega⟩ c) * proj a b ⟨128 * n + i, by omega⟩ (qCol ⟨4 * g + 2 * half + par, by omega⟩ c) := by
  have hg := g.isLt
  have hp := par.isLt
  have hh := half.isLt
  choose rk hk using fun c => keyed_real ha b n κ (kCol ⟨4 * g + 2 * half + par, by omega⟩ c)
  choose rq hq using fun c => proj_real ha b ⟨128 * n + i, by omega⟩ (qCol ⟨4 * g + 2 * half + par, by omega⟩ c)
  have term : ∀ (l : Fin 128) (c : Fin 64), l.val = 64 * par + c →
      k ⟨2 * g + par, by omega⟩ (ix3 0 κ l) * q ⟨2 * g + half, by omega⟩ (ix2 i l) = ((1 / 8 * (Real.log 2)⁻¹ * (rk c * rq c) : ℝ) : EReal) := by
    intro l c hlc
    have hc := c.isLt
    rw [r.k _ _ _ hκ, r.q, if_pos (by dsimp only; omega)]
    have e1 : (⟨512 + 64 * ((2 * g.val + par) / 2) + l % 64, by omega⟩ : Fin 1792) = kCol ⟨4 * g + 2 * half + par, by omega⟩ c :=
      Fin.ext (by simp only [kCol]; omega)
    have e2 : (⟨128 * (2 * g.val + half) + l, by omega⟩ : Fin 1792) = qCol ⟨4 * g + 2 * half + par, by omega⟩ c :=
      Fin.ext (by simp only [qCol]; omega)
    dsimp only
    rw [e1, e2, hk, hq, ← EReal.coe_mul, ← EReal.coe_mul]
    congr 1
    ring
  have zero : ∀ (l : Fin 128), l.val / 64 ≠ par → k ⟨2 * g + par, by omega⟩ (ix3 0 κ l) * q ⟨2 * g + half, by omega⟩ (ix2 i l) = 0 := by
    intro l hl
    rw [r.k _ _ _ hκ, if_neg (by dsimp only; omega), zero_mul]
  have rhs : ((1 / 8 * (Real.log 2)⁻¹ : ℝ) : EReal) * ∑ c, keyed a b n κ (kCol ⟨4 * g + 2 * half + par, by omega⟩ c) * proj a b ⟨128 * n + i, by omega⟩ (qCol ⟨4 * g + 2 * half + par, by omega⟩ c)
      = ∑ c : Fin 64, ((1 / 8 * (Real.log 2)⁻¹ * (rk c * rq c) : ℝ) : EReal) := by
    have e : (∑ c, keyed a b n κ (kCol ⟨4 * g + 2 * half + par, by omega⟩ c) * proj a b ⟨128 * n + i, by omega⟩ (qCol ⟨4 * g + 2 * half + par, by omega⟩ c))
        = ((∑ c, rk c * rq c : ℝ) : EReal) := by
      rw [coe_sum]
      exact Finset.sum_congr rfl fun c _ => by rw [hk, hq, EReal.coe_mul]
    rw [e, ← EReal.coe_mul, Finset.mul_sum, coe_sum]
  rw [rhs, Fin.sum_univ_two_halves 64 64 rfl]
  rcases (show par.val = 0 ∨ par.val = 1 by omega) with h0 | h0
  · rw [Finset.sum_eq_zero (s := Finset.univ) (f := fun c : Fin 64 => k ⟨2 * g + par, by omega⟩ (ix3 0 κ ⟨64 + c, by omega⟩) * _) (fun c _ => zero _ (by dsimp only; omega)), add_zero]
    exact Finset.sum_congr rfl fun c _ => term _ c (by dsimp only; omega)
  · rw [Finset.sum_eq_zero (s := Finset.univ) (f := fun c : Fin 64 => k ⟨2 * g + par, by omega⟩ (ix3 0 κ ⟨c, by omega⟩) * _) (fun c _ => zero _ (by dsimp only; omega)), zero_add]
    exact Finset.sum_congr rfl fun c _ => term _ c (by dsimp only; omega)

/-- A block's weights are the layer's, for every head. -/
theorem Reads.weights (ha : a.Real) (r : Reads a b n j c0 c1 q k v B Z) (g par half : Fin 2) (κ : Fin 384) (i : Fin 128) :
    baseTwo (column j c0 c1 (fun κ => ∑ l : Fin 128, k ⟨2 * g + par, by omega⟩ (ix3 0 κ l) * q ⟨2 * g + half, by omega⟩ (ix2 i l))
      (fun κ => B ⟨4 * g + 2 * half + par, by omega⟩ (ix3 0 κ i))) (kSink (Z ⟨4 * g + 2 * half + par, by omega⟩)) κ
      = weight (score a b n ⟨4 * g + 2 * half + par, by omega⟩ i) (a.sink ⟨4 * g + 2 * half + par, by omega⟩) κ := by
  obtain ⟨z, hz⟩ := ha.sink ⟨4 * g + 2 * half + par, by omega⟩
  have hl : 0 < (Real.log 2)⁻¹ := inv_pos.mpr (Real.log_pos (by norm_num))
  rw [r.Z, kSink_eq, hz]
  refine weight_base_two _ _ (fun κ => score_score ha ..) z _ (fun κ => ?_) rfl κ
  unfold column score
  dsimp only
  rw [r.B]
  by_cases hc : Cut j c0 c1 κ
  · have := (not_congr (r.cut κ)).mp (not_not.mpr hc)
    rw [if_pos hc, if_neg (by unfold Valid; tauto), EReal.coe_mul_bot_of_pos hl]
  · have hr := (r.cut κ).mp hc
    rw [if_neg hc]
    by_cases hv : κ.val ≤ i + 256 ∧ i.val ≤ κ
    · rw [if_pos hv, if_pos (show Valid n i κ from ⟨hv.1, hv.2, hr⟩), r.dot ha g par half κ i hr]
      obtain ⟨d, hd⟩ := dot_real ha b n ⟨4 * g + 2 * half + par, by omega⟩ i κ
      rw [hd, ← EReal.coe_mul, ← EReal.coe_add, ← EReal.coe_mul, ← EReal.coe_add, ← EReal.coe_mul]
      congr 1
      ring
    · rw [if_neg hv, if_neg (by unfold Valid; tauto), EReal.add_bot, EReal.coe_mul_bot_of_pos hl]

/-- A group's values under its weights are the layer's attention. -/
theorem Reads.group (ha : a.Real) (r : Reads a b n j c0 c1 q k v B Z) (g half : Fin 2) (l i : Fin 128) (w : FVec Ideal S768x256 .bf16)
    (hw : ∀ (κ : Fin 384) (par : Fin 2), w (ix2 ⟨384 * par + κ, by omega⟩ ⟨128 * half + i, by omega⟩)
      = weight (score a b n ⟨4 * g + 2 * half + par, by omega⟩ i) (a.sink ⟨4 * g + 2 * half + par, by omega⟩) κ) :
    kGroup w (v ⟨2 * g, by omega⟩) (v ⟨2 * g + 1, by omega⟩) (ix2 l ⟨128 * half + i, by omega⟩)
      = attn a b n ⟨4 * g + 2 * half + l / 64, by omega⟩ i ⟨l % 64, by omega⟩ := by
  have hg := g.isLt
  have hh := half.isLt
  have hl := l.isLt
  have term : ∀ (par : Fin 2) (κ : Fin 384), v ⟨2 * g + par, by omega⟩ (ix3 0 l κ) * w (ix2 ⟨384 * par + κ, by omega⟩ ⟨128 * half + i, by omega⟩)
      = if l.val / 64 = par then keyed a b n κ (vCol ⟨4 * g + 2 * half + l / 64, by omega⟩ ⟨l % 64, by omega⟩) * weight (score a b n ⟨4 * g + 2 * half + l / 64, by omega⟩ i) (a.sink ⟨4 * g + 2 * half + l / 64, by omega⟩) κ else 0 := by
    intro par κ
    have hp := par.isLt
    rw [hw]
    by_cases hκ : 128 ≤ 128 * n.val + κ ∧ 128 * n.val + κ < 8320
    · rw [r.v _ _ _ hκ]
      by_cases hpar : l.val / 64 = par
      · rw [if_pos (by dsimp only; omega), if_pos hpar]
        have e1 : (⟨4 * g + 2 * half + par, by omega⟩ : Fin 8) = ⟨4 * g + 2 * half + l / 64, by omega⟩ := Fin.ext (by dsimp only; omega)
        rw [e1]
        exact congrArg (fun e => keyed a b n κ e * _) (Fin.ext (by simp only [vCol]; omega))
      · rw [if_neg (by dsimp only; omega), if_neg hpar, zero_mul]
    · have hz : ∀ h : Fin 8, weight (score a b n h i) (a.sink h) κ = 0 := fun h => by
        obtain ⟨z, hz⟩ := ha.sink h
        rw [hz]
        exact weight_masked _ (fun κ => score_score ha ..) z κ (if_neg (by unfold Valid; tauto))
      rw [hz, hz, mul_zero, mul_zero, ite_self]
  rw [kGroup_apply]
  unfold attn
  refine (congrArg₂ (· + ·) (Finset.sum_congr rfl fun κ _ => (congrArg (fun x => v ⟨2 * g, by omega⟩ (ix3 0 l κ) * w (ix2 x _)) (Fin.ext (by simp))).trans (term 0 κ))
    (Finset.sum_congr rfl fun κ _ => term 1 κ)).trans ?_
  rcases (show l.val / 64 = 0 ∨ l.val / 64 = 1 by omega) with h0 | h0
  · simp only [h0]
    simp
  · simp only [h0]
    simp

/-- The attention half of a block of mixed rows is the layer's. -/
theorem Reads.attn (ha : a.Real) (r : Reads a b n j c0 c1 q k v B Z) (G : Vec Ideal S1x512 .f32) (hG : ∀ L, G (ix2 0 L) = a.attnG L) (i : Fin 128) (L : Fin 512) :
    kAttn j c0 c1 (q 0) (q 1) (q 2) (q 3) (k 0) (k 1) (k 2) (k 3) (v 0) (v 1) (v 2) (v 3) (B 0) (B 1) (B 2) (B 3) (B 4) (B 5) (B 6) (B 7)
      (Z 0) (Z 1) (Z 2) (Z 3) (Z 4) (Z 5) (Z 6) (Z 7) G (ix2 i L) = rmsRow (Ideal.ofBits .f32 0x44000000#32) (attnRow a b ⟨128 * n + i, by omega⟩) a.attnG L := by
  unfold kAttn
  rw [kRms_apply]
  refine congrArg₂ (fun y g => rmsRow _ y g L) (funext fun L => ?_) (funext hG)
  obtain ⟨g, half, l, rfl⟩ : ∃ (g half : Fin 2) (l : Fin 128), L = ⟨256 * g + 128 * half + l, by omega⟩ :=
    ⟨⟨L / 256, by omega⟩, ⟨L / 128 % 2, by omega⟩, ⟨L % 128, by omega⟩, Fin.ext (by dsimp only; omega)⟩
  have hg := g.isLt
  have hh := half.isLt
  have hl := l.isLt
  have hi := i.isLt
  have key : ∀ (g' : Fin 2) (w : FVec Ideal S768x256 .bf16)
    (hw : ∀ (κ : Fin 384) (par : Fin 2), w (ix2 ⟨384 * par + κ, by omega⟩ ⟨128 * half + i, by omega⟩)
      = weight (score a b n ⟨4 * g' + 2 * half + par, by omega⟩ i) (a.sink ⟨4 * g' + 2 * half + par, by omega⟩) κ), g' = g →
      kGroup w (v ⟨2 * g', by omega⟩) (v ⟨2 * g' + 1, by omega⟩) (ix2 l ⟨128 * half + i, by omega⟩) = attnRow a b ⟨128 * n + i, by omega⟩ ⟨256 * g + 128 * half + l, by omega⟩ := by
    rintro g' w hw rfl
    rw [r.group ha g' half l i w hw]
    unfold attnRow
    congr 1 <;> exact Fin.ext (by dsimp only; omega)
  have hs : ∀ (g : Fin 2) (κ : Fin 384) (par : Fin 2), kScore (q ⟨2 * g, by omega⟩) (q ⟨2 * g + 1, by omega⟩) (k ⟨2 * g, by omega⟩) (k ⟨2 * g + 1, by omega⟩) (ix2 ⟨384 * par + κ, by omega⟩ ⟨128 * half + i, by omega⟩)
      = ∑ l : Fin 128, k ⟨2 * g + par, by omega⟩ (ix3 0 κ l) * q ⟨2 * g + half, by omega⟩ (ix2 i l) := by
    intro g κ par
    fin_cases par <;> fin_cases half <;> pointwise [kScore]
  have fin : ∀ (g : Fin 2) (κ : Fin 384) (par : Fin 2), baseTwo (column j c0 c1
      (fun k' => kScore (q ⟨2 * g, by omega⟩) (q ⟨2 * g + 1, by omega⟩) (k ⟨2 * g, by omega⟩) (k ⟨2 * g + 1, by omega⟩) (ix2 ⟨384 * par + k', by omega⟩ ⟨128 * half + i, by omega⟩))
      (fun k' => B ⟨4 * g + (2 * half + par), by omega⟩ (ix3 0 k' i))) (kSink (Z ⟨4 * g + (2 * half + par), by omega⟩)) κ
      = weight (score a b n ⟨4 * g + 2 * half + par, by omega⟩ i) (a.sink ⟨4 * g + 2 * half + par, by omega⟩) κ := by
    intro g κ par
    rw [show (⟨4 * g.val + (2 * half + par), by omega⟩ : Fin 8) = ⟨4 * g + 2 * half + par, by omega⟩ from Fin.ext (by dsimp only; omega)]
    simp only [hs]
    exact r.weights ha g par half κ i
  refine (kHeads_apply ![_, _] i g half l).trans ?_
  fin_cases g
  · exact key 0 _ (fun κ par => (kWeights_apply j c0 c1 _ (fun x => B ⟨4 * 0 + x, by omega⟩) (fun x => Z ⟨4 * 0 + x, by omega⟩) κ i par half).trans (fin 0 κ par)) rfl
  · exact key 1 _ (fun κ par => (kWeights_apply j c0 c1 _ (fun x => B ⟨4 * 1 + x, by omega⟩) (fun x => Z ⟨4 * 1 + x, by omega⟩) κ i par half).trans (fin 1 κ par)) rfl

end Cert.Proof

end
-- ==== Proof.Rows.lean ====
module

public import proofs.«01_k».proof.Proof.Attn
public import Idealize.ShloMosaic.Lib.Pipeline.ValueKit.Tiles

/-! What a tile leaves in the buffers of queries, keys, values and gates, read at an index. -/

@[expose] public section

set_option maxRecDepth 16384

noncomputable section

namespace Cert.Proof

open Idealize.ShloMosaic
open Cert.KernelIdeal Cert.KernelIdeal.Gen

/-- The base-two factor of a query. -/
theorem qscale_val : Named.named (F := Ideal) (φ := .f32) κ "q_scale" 0x3E38AA3B#32 = ((1 / 8 * (Real.log 2)⁻¹ : ℝ) : EReal) :=
  IdealRules.named_const.ideal_named_scalar _ _ _ _ rfl

/-- A scaled query. -/
theorem pay20_apply (X : Vec Ideal S1x512x1024 .f32) (W : Vec Ideal S1024x512 .bf16) (r e : Fin 512) :
    k0_pay20 X W (ix2 r e) = ((1 / 8 * (Real.log 2)⁻¹ : ℝ) : EReal) * ∑ k : Fin 1024, X (ix3 0 r k) * W (ix2 k e) := by
  pointwise [k0_pay20, k0_pay17]
  rw [qscale_val]
  exact mul_comm (G := EReal) _ _

/-- The first gate's row. -/
theorem pay21_apply (X : Vec Ideal S1x512x1024 .f32) (W : Vec Ideal S1024x512 .bf16) (r e : Fin 512) :
    k0_pay21 X W (ix2 r e) = ∑ k : Fin 1024, X (ix3 0 r k) * W (ix2 k e) := by
  pointwise [k0_pay21, k0_pay17]

/-- The second gate's row. -/
theorem pay22_apply (X : Vec Ideal S1x512x1024 .f32) (W : Vec Ideal S1024x512 .bf16) (r e : Fin 512) :
    k0_pay22 (k0_pay17 X) W (ix2 r e) = ∑ k : Fin 1024, X (ix3 0 r k) * W (ix2 k e) := by
  pointwise [k0_pay22, k0_pay17]

/-- A row of keys and values. -/
theorem pay18_apply (X : Vec Ideal S1x512x1024 .f32) (W : Vec Ideal S1024x256 .bf16) (r : Fin 512) (e : Fin 256) :
    k0_pay18 X W (ix2 r e) = ∑ k : Fin 1024, X (ix3 0 r k) * W (ix2 k e) := by
  pointwise [k0_pay18, k0_pay17]

/-- A row of the next block's keys and values. -/
theorem pay19_apply (X : Vec Ideal S1x128x1024 .f32) (W : Vec Ideal S1024x256 .bf16) (r : Fin 128) (e : Fin 256) :
    k0_pay19 X W (ix2 r e) = ∑ k : Fin 1024, X (ix3 0 r k) * W (ix2 k e) := by
  pointwise [k0_pay19]

/-- A comparison of a wide lane with the middle. -/
theorem lane_low' (l : Fin 128) : IntOp.cmpi .slt (BitVec.ofNat 32 l.val) 64#32 = if l.val / 64 = 0 then 1#1 else 0#1 := by
  revert l; decide

/-- The low lanes kept. -/
theorem keep_low {n : ℕ} (l : Fin 128) (f : Fin n → EReal) (e e' : Fin n) (h : l.val / 64 = 0 → e.val = e'.val) :
    Scalar.select (IntOp.cmpi .slt (BitVec.ofNat 32 l.val) 64#32) (f e) 0 = if l.val / 64 = 0 then f e' else 0 := by
  rw [lane_low']
  by_cases h0 : l.val / 64 = 0
  · rw [if_pos h0, if_pos h0, Fin.ext (h h0)]; rfl
  · rw [if_neg h0, if_neg h0]; rfl

/-- The high lanes kept. -/
theorem keep_high {n : ℕ} (l : Fin 128) (f : Fin n → EReal) (e e' : Fin n) (h : l.val / 64 = 1 → e.val = e'.val) :
    Scalar.select (IntOp.cmpi .slt (BitVec.ofNat 32 l.val) 64#32) 0 (f e) = if l.val / 64 = 1 then f e' else 0 := by
  rw [lane_low']
  by_cases h0 : l.val / 64 = 1
  · rw [if_neg (by omega), if_pos h0, Fin.ext (h h0)]; rfl
  · rw [if_pos (by omega), if_neg h0]; rfl

/-- Copy 0 of a tile's keys. -/
theorem keys_0 (V : FVec Ideal S512x256 .f32) (r : Fin 512) (l : Fin 128) : k0_pay32 V (ix3 0 r l) = if l.val / 64 = 0 then V (ix2 r ⟨0 + l % 64, by omega⟩) else 0 := by
  pointwise [k0_pay25, k0_pay26, k0_pay28, k0_pay32]
  exact keep_low l (fun e => V (ix2 r e)) _ _ (fun h => by dsimp only; omega)
/-- Copy 1 of a tile's keys. -/
theorem keys_1 (V : FVec Ideal S512x256 .f32) (r : Fin 512) (l : Fin 128) : k0_pay33 (k0_pay29 V) (ix3 0 r l) = if l.val / 64 = 1 then V (ix2 r ⟨0 + l % 64, by omega⟩) else 0 := by
  pointwise [k0_pay25, k0_pay26, k0_pay27, k0_pay28, k0_pay29, k0_pay33]
  exact keep_high l (fun e => V (ix2 r e)) _ _ (fun h => by dsimp only; omega)
/-- Copy 2 of a tile's keys. -/
theorem keys_2 (V : FVec Ideal S512x256 .f32) (r : Fin 512) (l : Fin 128) : k0_pay34 (k0_pay30 V) (ix3 0 r l) = if l.val / 64 = 0 then V (ix2 r ⟨64 + l % 64, by omega⟩) else 0 := by
  pointwise [k0_pay25, k0_pay26, k0_pay27, k0_pay28, k0_pay30, k0_pay34]
  exact keep_low l (fun e => V (ix2 r e)) _ _ (fun h => by dsimp only; omega)
/-- Copy 3 of a tile's keys. -/
theorem keys_3 (V : FVec Ideal S512x256 .f32) (r : Fin 512) (l : Fin 128) : k0_pay35 (k0_pay31 V) (ix3 0 r l) = if l.val / 64 = 1 then V (ix2 r ⟨64 + l % 64, by omega⟩) else 0 := by
  pointwise [k0_pay25, k0_pay26, k0_pay28, k0_pay31, k0_pay35]
  exact keep_high l (fun e => V (ix2 r e)) _ _ (fun h => by dsimp only; omega)
/-- Copy 0 of the next block's keys. -/
theorem next_keys_0 (V : FVec Ideal S128x256 .f32) (r : Fin 128) (l : Fin 128) : k0_pay49 V (ix3 0 r l) = if l.val / 64 = 0 then V (ix2 r ⟨0 + l % 64, by omega⟩) else 0 := by
  pointwise [k0_pay45, k0_pay46, k0_pay48, k0_pay49]
  exact keep_low l (fun e => V (ix2 r e)) _ _ (fun h => by dsimp only; omega)
/-- Copy 1 of the next block's keys. -/
theorem next_keys_1 (V : FVec Ideal S128x256 .f32) (r : Fin 128) (l : Fin 128) : k0_pay50 V (ix3 0 r l) = if l.val / 64 = 1 then V (ix2 r ⟨0 + l % 64, by omega⟩) else 0 := by
  pointwise [k0_pay45, k0_pay46, k0_pay47, k0_pay48, k0_pay50]
  exact keep_high l (fun e => V (ix2 r e)) _ _ (fun h => by dsimp only; omega)
/-- Copy 2 of the next block's keys. -/
theorem next_keys_2 (V : FVec Ideal S128x256 .f32) (r : Fin 128) (l : Fin 128) : k0_pay51 V (ix3 0 r l) = if l.val / 64 = 0 then V (ix2 r ⟨64 + l % 64, by omega⟩) else 0 := by
  pointwise [k0_pay45, k0_pay46, k0_pay47, k0_pay48, k0_pay51]
  exact keep_low l (fun e => V (ix2 r e)) _ _ (fun h => by dsimp only; omega)
/-- Copy 3 of the next block's keys. -/
theorem next_keys_3 (V : FVec Ideal S128x256 .f32) (r : Fin 128) (l : Fin 128) : k0_pay52 V (ix3 0 r l) = if l.val / 64 = 1 then V (ix2 r ⟨64 + l % 64, by omega⟩) else 0 := by
  pointwise [k0_pay45, k0_pay46, k0_pay48, k0_pay52]
  exact keep_high l (fun e => V (ix2 r e)) _ _ (fun h => by dsimp only; omega)
/-- Copy 0 of a tile's values. -/
theorem vals_0 (V : FVec Ideal S512x256 .f32) (r : Fin 512) (l : Fin 128) : k0_pay40 V (ix3 0 l r) = if l.val / 64 = 0 then V (ix2 r ⟨128 + l % 64, by omega⟩) else 0 := by
  pointwise [k0_pay36, k0_pay38, k0_pay39, k0_pay40]
  exact keep_low l (fun e => V (ix2 r e)) _ _ (fun h => by dsimp only; omega)
/-- Copy 1 of a tile's values. -/
theorem vals_1 (V : FVec Ideal S512x256 .f32) (r : Fin 512) (l : Fin 128) : k0_pay41 V (ix3 0 l r) = if l.val / 64 = 1 then V (ix2 r ⟨128 + l % 64, by omega⟩) else 0 := by
  pointwise [k0_pay36, k0_pay37, k0_pay38, k0_pay39, k0_pay41]
  exact keep_high l (fun e => V (ix2 r e)) _ _ (fun h => by dsimp only; omega)
/-- Copy 2 of a tile's values. -/
theorem vals_2 (V : FVec Ideal S512x256 .f32) (r : Fin 512) (l : Fin 128) : k0_pay42 V (ix3 0 l r) = if l.val / 64 = 0 then V (ix2 r ⟨192 + l % 64, by omega⟩) else 0 := by
  pointwise [k0_pay36, k0_pay37, k0_pay38, k0_pay39, k0_pay42]
  exact keep_low l (fun e => V (ix2 r e)) _ _ (fun h => by dsimp only; omega)
/-- Copy 3 of a tile's values. -/
theorem vals_3 (V : FVec Ideal S512x256 .f32) (r : Fin 512) (l : Fin 128) : k0_pay44 (k0_pay43 V) (ix3 0 l r) = if l.val / 64 = 1 then V (ix2 r ⟨192 + l % 64, by omega⟩) else 0 := by
  pointwise [k0_pay36, k0_pay38, k0_pay39, k0_pay43, k0_pay44]
  exact keep_high l (fun e => V (ix2 r e)) _ _ (fun h => by dsimp only; omega)
/-- Copy 0 of the next block's values. -/
theorem next_vals_0 (V : FVec Ideal S128x256 .f32) (r : Fin 128) (l : Fin 128) : k0_pay58 (k0_pay57 V) (ix3 0 l r) = if l.val / 64 = 0 then V (ix2 r ⟨128 + l % 64, by omega⟩) else 0 := by
  pointwise [k0_pay53, k0_pay55, k0_pay56, k0_pay57, k0_pay58]
  exact keep_low l (fun e => V (ix2 r e)) _ _ (fun h => by dsimp only; omega)
/-- Copy 1 of the next block's values. -/
theorem next_vals_1 (V : FVec Ideal S128x256 .f32) (r : Fin 128) (l : Fin 128) : k0_pay59 (k0_pay54 V) k0_pay55 k0_pay56 (ix3 0 l r) = if l.val / 64 = 1 then V (ix2 r ⟨128 + l % 64, by omega⟩) else 0 := by
  pointwise [k0_pay53, k0_pay54, k0_pay55, k0_pay56, k0_pay59]
  exact keep_high l (fun e => V (ix2 r e)) _ _ (fun h => by dsimp only; omega)
/-- Copy 2 of the next block's values. -/
theorem next_vals_2 (V : FVec Ideal S128x256 .f32) (r : Fin 128) (l : Fin 128) : k0_pay60 (k0_pay54 V) k0_pay55 k0_pay56 (ix3 0 l r) = if l.val / 64 = 0 then V (ix2 r ⟨192 + l % 64, by omega⟩) else 0 := by
  pointwise [k0_pay53, k0_pay54, k0_pay55, k0_pay56, k0_pay60]
  exact keep_low l (fun e => V (ix2 r e)) _ _ (fun h => by dsimp only; omega)
/-- Copy 3 of the next block's values. -/
theorem next_vals_3 (V : FVec Ideal S128x256 .f32) (r : Fin 128) (l : Fin 128) : k0_pay61 (k0_pay53 V) k0_pay55 k0_pay56 (ix3 0 l r) = if l.val / 64 = 1 then V (ix2 r ⟨192 + l % 64, by omega⟩) else 0 := by
  pointwise [k0_pay53, k0_pay55, k0_pay56, k0_pay61]
  exact keep_high l (fun e => V (ix2 r e)) _ _ (fun h => by dsimp only; omega)

/-- The index of a box of a rank-2 array. -/
theorem box_idx2 {d0 d1 o0 o1 n0 n1 : ℕ} (inb : ∀ a, (![o0, o1] : Fin 2 → ℕ) a + (![n0, n1] : Fin 2 → ℕ) a ≤ (⟨2, ![d0, d1]⟩ : Shape).size a) (y0 : Fin d0) (y1 : Fin d1) (x0 : Fin n0) (x1 : Fin n1) (h0 : y0.val = o0 + x0) (h1 : y1.val = o1 + x1) :
    (Rect.unit (s := ⟨2, ![d0, d1]⟩) ![o0, o1] ![n0, n1] inb).idx (ix2 x0 x1) = (ix2 y0 y1) := by
  funext a
  refine Fin.ext ((Rect.idx_unit_val _ _ _ _ a).trans ?_)
  fin_cases a
  · exact h0.symm
  · exact h1.symm

/-- The last box written holds the index. -/
theorem canon_head2 {e : EltTy} {d0 d1 o0 o1 n0 n1 : ℕ} (inb : ∀ a, (![o0, o1] : Fin 2 → ℕ) a + (![n0, n1] : Fin 2 → ℕ) a ≤ (⟨2, ![d0, d1]⟩ : Shape).size a)
    (w : (⟨2, ![n0, n1]⟩ : Shape).Idx → Elt Ideal e) (L : List (View.Piece (Elt Ideal) ⟨2, ![d0, d1]⟩ e)) (y0 : Fin d0) (y1 : Fin d1) (x0 : Fin n0) (x1 : Fin n1) (h0 : y0.val = o0 + x0) (h1 : y1.val = o1 + x1) :
    View.canon (⟨Rect.unit (s := ⟨2, ![d0, d1]⟩) ![o0, o1] ![n0, n1] inb, w⟩ :: L) (ix2 y0 y1) = w (ix2 x0 x1) := by
  rw [← box_idx2 inb y0 y1 x0 x1 h0 h1]
  exact View.canon_cons_emb (Rect.unit (s := ⟨2, ![d0, d1]⟩) ![o0, o1] ![n0, n1] inb) w L (ix2 x0 x1)

/-- The last box written does not hold the index. -/
theorem canon_skip2 {e : EltTy} {d0 d1 o0 o1 n0 n1 : ℕ} (inb : ∀ a, (![o0, o1] : Fin 2 → ℕ) a + (![n0, n1] : Fin 2 → ℕ) a ≤ (⟨2, ![d0, d1]⟩ : Shape).size a)
    (w : (⟨2, ![n0, n1]⟩ : Shape).Idx → Elt Ideal e) (L : List (View.Piece (Elt Ideal) ⟨2, ![d0, d1]⟩ e)) (y0 : Fin d0) (y1 : Fin d1) (h : y0.val < o0 ∨ o0 + n0 ≤ y0.val ∨ y1.val < o1 ∨ o1 + n1 ≤ y1.val) :
    View.canon (⟨Rect.unit (s := ⟨2, ![d0, d1]⟩) ![o0, o1] ![n0, n1] inb, w⟩ :: L) (ix2 y0 y1) = View.canon L (ix2 y0 y1) := by
  refine View.canon_cons_of_not_mem _ L fun hm => ?_
  have hm := (Rect.mem_set_unit (s := ⟨2, ![d0, d1]⟩) (off := ![o0, o1]) (size := ![n0, n1]) (inb := inb)).mp hm
  have h0 : o0 ≤ y0.val ∧ y0.val < o0 + n0 := hm 0
  have h1 : o1 ≤ y1.val ∧ y1.val < o1 + n1 := hm 1
  omega

/-- A load of a box of what the stores left. -/
theorem readCov_box2 {e : EltTy} {sig : RefSig} {k : Kind} {sp : Space} {d0 d1 o0 o1 n0 n1 : ℕ} (v : View sig k sp ⟨2, ![d0, d1]⟩ e) (L : List (View.Piece (Elt Ideal) ⟨2, ![d0, d1]⟩ e))
    (inb : ∀ a, (![o0, o1] : Fin 2 → ℕ) a + (![n0, n1] : Fin 2 → ℕ) a ≤ (⟨2, ![d0, d1]⟩ : Shape).size a) (y0 : Fin d0) (y1 : Fin d1) (x0 : Fin n0) (x1 : Fin n1) (h0 : y0.val = o0 + x0) (h1 : y1.val = o1 + x1) :
    v.readCov L (Rect.unit (s := ⟨2, ![d0, d1]⟩) ![o0, o1] ![n0, n1] inb).toLoadRect (ix2 x0 x1) = View.canon L (ix2 y0 y1) := by
  rw [View.readCov_eq_canon']
  exact congrArg (View.canon L) (box_idx2 inb y0 y1 x0 x1 h0 h1)

/-- A load of a box of an array. -/
theorem readAt_box2 {e : EltTy} {sig : RefSig} {k : Kind} {sp : Space} {d0 d1 o0 o1 n0 n1 : ℕ} (M : Memref sig k sp ⟨2, ![d0, d1]⟩ e) (h : M.IsWhole) (A : (⟨2, ![d0, d1]⟩ : Shape).Idx → Elt Ideal e)
    (inb : ∀ a, (![o0, o1] : Fin 2 → ℕ) a + (![n0, n1] : Fin 2 → ℕ) a ≤ (⟨2, ![d0, d1]⟩ : Shape).size a) (y0 : Fin d0) (y1 : Fin d1) (x0 : Fin n0) (x1 : Fin n1) (h0 : y0.val = o0 + x0) (h1 : y1.val = o1 + x1) :
    View.readAt (Elt Ideal) M.view (Rect.unit (s := ⟨2, ![d0, d1]⟩) ![o0, o1] ![n0, n1] inb).toLoadRect (h.unread A) (ix2 x0 x1) = A (ix2 y0 y1) := by
  rw [View.readAt_eq_ld, h.read_unread]
  exact congrArg A (box_idx2 inb y0 y1 x0 x1 h0 h1)

/-- The index of a box of a rank-3 array. -/
theorem box_idx3 {d0 d1 d2 o0 o1 o2 n0 n1 n2 : ℕ} (inb : ∀ a, (![o0, o1, o2] : Fin 3 → ℕ) a + (![n0, n1, n2] : Fin 3 → ℕ) a ≤ (⟨3, ![d0, d1, d2]⟩ : Shape).size a) (y0 : Fin d0) (y1 : Fin d1) (y2 : Fin d2) (x0 : Fin n0) (x1 : Fin n1) (x2 : Fin n2) (h0 : y0.val = o0 + x0) (h1 : y1.val = o1 + x1) (h2 : y2.val = o2 + x2) :
    (Rect.unit (s := ⟨3, ![d0, d1, d2]⟩) ![o0, o1, o2] ![n0, n1, n2] inb).idx (ix3 x0 x1 x2) = (ix3 y0 y1 y2) := by
  funext a
  refine Fin.ext ((Rect.idx_unit_val _ _ _ _ a).trans ?_)
  fin_cases a
  · exact h0.symm
  · exact h1.symm
  · exact h2.symm

/-- The last box written holds the index. -/
theorem canon_head3 {e : EltTy} {d0 d1 d2 o0 o1 o2 n0 n1 n2 : ℕ} (inb : ∀ a, (![o0, o1, o2] : Fin 3 → ℕ) a + (![n0, n1, n2] : Fin 3 → ℕ) a ≤ (⟨3, ![d0, d1, d2]⟩ : Shape).size a)
    (w : (⟨3, ![n0, n1, n2]⟩ : Shape).Idx → Elt Ideal e) (L : List (View.Piece (Elt Ideal) ⟨3, ![d0, d1, d2]⟩ e)) (y0 : Fin d0) (y1 : Fin d1) (y2 : Fin d2) (x0 : Fin n0) (x1 : Fin n1) (x2 : Fin n2) (h0 : y0.val = o0 + x0) (h1 : y1.val = o1 + x1) (h2 : y2.val = o2 + x2) :
    View.canon (⟨Rect.unit (s := ⟨3, ![d0, d1, d2]⟩) ![o0, o1, o2] ![n0, n1, n2] inb, w⟩ :: L) (ix3 y0 y1 y2) = w (ix3 x0 x1 x2) := by
  rw [← box_idx3 inb y0 y1 y2 x0 x1 x2 h0 h1 h2]
  exact View.canon_cons_emb (Rect.unit (s := ⟨3, ![d0, d1, d2]⟩) ![o0, o1, o2] ![n0, n1, n2] inb) w L (ix3 x0 x1 x2)

/-- The last box written does not hold the index. -/
theorem canon_skip3 {e : EltTy} {d0 d1 d2 o0 o1 o2 n0 n1 n2 : ℕ} (inb : ∀ a, (![o0, o1, o2] : Fin 3 → ℕ) a + (![n0, n1, n2] : Fin 3 → ℕ) a ≤ (⟨3, ![d0, d1, d2]⟩ : Shape).size a)
    (w : (⟨3, ![n0, n1, n2]⟩ : Shape).Idx → Elt Ideal e) (L : List (View.Piece (Elt Ideal) ⟨3, ![d0, d1, d2]⟩ e)) (y0 : Fin d0) (y1 : Fin d1) (y2 : Fin d2) (h : y0.val < o0 ∨ o0 + n0 ≤ y0.val ∨ y1.val < o1 ∨ o1 + n1 ≤ y1.val ∨ y2.val < o2 ∨ o2 + n2 ≤ y2.val) :
    View.canon (⟨Rect.unit (s := ⟨3, ![d0, d1, d2]⟩) ![o0, o1, o2] ![n0, n1, n2] inb, w⟩ :: L) (ix3 y0 y1 y2) = View.canon L (ix3 y0 y1 y2) := by
  refine View.canon_cons_of_not_mem _ L fun hm => ?_
  have hm := (Rect.mem_set_unit (s := ⟨3, ![d0, d1, d2]⟩) (off := ![o0, o1, o2]) (size := ![n0, n1, n2]) (inb := inb)).mp hm
  have h0 : o0 ≤ y0.val ∧ y0.val < o0 + n0 := hm 0
  have h1 : o1 ≤ y1.val ∧ y1.val < o1 + n1 := hm 1
  have h2 : o2 ≤ y2.val ∧ y2.val < o2 + n2 := hm 2
  omega

/-- A load of a box of what the stores left. -/
theorem readCov_box3 {e : EltTy} {sig : RefSig} {k : Kind} {sp : Space} {d0 d1 d2 o0 o1 o2 n0 n1 n2 : ℕ} (v : View sig k sp ⟨3, ![d0, d1, d2]⟩ e) (L : List (View.Piece (Elt Ideal) ⟨3, ![d0, d1, d2]⟩ e))
    (inb : ∀ a, (![o0, o1, o2] : Fin 3 → ℕ) a + (![n0, n1, n2] : Fin 3 → ℕ) a ≤ (⟨3, ![d0, d1, d2]⟩ : Shape).size a) (y0 : Fin d0) (y1 : Fin d1) (y2 : Fin d2) (x0 : Fin n0) (x1 : Fin n1) (x2 : Fin n2) (h0 : y0.val = o0 + x0) (h1 : y1.val = o1 + x1) (h2 : y2.val = o2 + x2) :
    v.readCov L (Rect.unit (s := ⟨3, ![d0, d1, d2]⟩) ![o0, o1, o2] ![n0, n1, n2] inb).toLoadRect (ix3 x0 x1 x2) = View.canon L (ix3 y0 y1 y2) := by
  rw [View.readCov_eq_canon']
  exact congrArg (View.canon L) (box_idx3 inb y0 y1 y2 x0 x1 x2 h0 h1 h2)

/-- A load of a box of an array. -/
theorem readAt_box3 {e : EltTy} {sig : RefSig} {k : Kind} {sp : Space} {d0 d1 d2 o0 o1 o2 n0 n1 n2 : ℕ} (M : Memref sig k sp ⟨3, ![d0, d1, d2]⟩ e) (h : M.IsWhole) (A : (⟨3, ![d0, d1, d2]⟩ : Shape).Idx → Elt Ideal e)
    (inb : ∀ a, (![o0, o1, o2] : Fin 3 → ℕ) a + (![n0, n1, n2] : Fin 3 → ℕ) a ≤ (⟨3, ![d0, d1, d2]⟩ : Shape).size a) (y0 : Fin d0) (y1 : Fin d1) (y2 : Fin d2) (x0 : Fin n0) (x1 : Fin n1) (x2 : Fin n2) (h0 : y0.val = o0 + x0) (h1 : y1.val = o1 + x1) (h2 : y2.val = o2 + x2) :
    View.readAt (Elt Ideal) M.view (Rect.unit (s := ⟨3, ![d0, d1, d2]⟩) ![o0, o1, o2] ![n0, n1, n2] inb).toLoadRect (h.unread A) (ix3 x0 x1 x2) = A (ix3 y0 y1 y2) := by
  rw [View.readAt_eq_ld, h.read_unread]
  exact congrArg A (box_idx3 inb y0 y1 y2 x0 x1 x2 h0 h1 h2)

/-- Copy `p` of a tile's keys at row `r` of the window, lane `l`. -/
def KF (a : Args) (b : Fin 8) (T : Fin 16) (p : Fin 4) (r : ℕ) (l : Fin 128) : EReal :=
  if l.val / 64 = p.val % 2 then keyed a b (4 * T) r ⟨512 + 64 * (p / 2) + l % 64, by omega⟩ else 0

/-- Copy `p` of a tile's values at row `r` of the window, lane `l`. -/
def VF (a : Args) (b : Fin 8) (T : Fin 16) (p : Fin 4) (r : ℕ) (l : Fin 128) : EReal :=
  if l.val / 64 = p.val % 2 then keyed a b (4 * T) r ⟨640 + 64 * (p / 2) + l % 64, by omega⟩ else 0

/-- The key buffer holds the tile's window where it is in the sequence. -/
def KRows (a : Args) (b : Fin 8) (T : Fin 16) (K : S4x768x128.Idx → Ideal .bf16) : Prop :=
  ∀ (p : Fin 4) (r : Fin 768) (l : Fin 128), 128 ≤ 512 * T.val + r → 512 * T.val + r < 8320 → K (ix3 p r l) = KF a b T p r l

/-- The value buffer holds the tile's window where it is in the sequence. -/
def VRows (a : Args) (b : Fin 8) (T : Fin 16) (V : S4x128x768.Idx → Ideal .bf16) : Prop :=
  ∀ (p : Fin 4) (r : Fin 768) (l : Fin 128), 128 ≤ 512 * T.val + r → 512 * T.val + r < 8320 → V (ix3 p l r) = VF a b T p r l

/-- What a tile's input blocks hold. -/
structure Ins (a : Args) (b : Fin 8) (T : Fin 16) (x0 : Vec Ideal S8 .f32) (x1 : Vec Ideal S1x512x1024 .f32) (x2 : Vec Ideal S1x128x1024 .f32) (x3 : Vec Ideal S1024x1792 .bf16)
    (x4 x5 : Vec Ideal S1x512 .f32) (x6 : Vec Ideal S4x128x256 .bf16) (x7 : Vec Ideal S128x512 .f32) (x8 : Vec Ideal S1x1024 .f32) (x9 : Vec Ideal S1024x1024 .bf16)
    (x10 x11 : Vec Ideal S1x1024 .f32) (x12 : Vec Ideal S1024x4096 .bf16) (x13 : Vec Ideal S4096x1024 .bf16) (x14 x15 : Vec Ideal S1x1024 .f32) : Prop where
  sink : ∀ h : Fin 8, x0 (ix1 h) = a.sink h
  x : ∀ (r : Fin 512) (d : Fin 1024), x1 (ix3 0 r d) = a.x b ⟨512 * T + r, by omega⟩ d
  next : ∀ (i : Fin 128) (d : Fin 1024) (h : 512 * T.val + 512 + i < 8192), x2 (ix3 0 i d) = a.x b ⟨512 * T + 512 + i, h⟩ d
  wIn : ∀ k e, x3 (ix2 k e) = a.wIn k e
  lnG : ∀ j, x4 (ix2 0 j) = a.lnG j
  lnB : ∀ j, x5 (ix2 0 j) = a.lnB j
  ws : ∀ (p : Fin 4) (i : Fin 128) (s : Fin 256), x6 (ix3 p i s) = a.ws ⟨2 * p + s / 128, by omega⟩ i ⟨s % 128, by omega⟩
  bs : ∀ (i : Fin 128) (l : Fin 512), x7 (ix2 i l) = a.bs ⟨l / 64, by omega⟩ i
  attnG : ∀ j : Fin 512, x8 (ix2 0 ⟨j, by omega⟩) = a.attnG j
  gateG : ∀ j : Fin 512, x8 (ix2 0 ⟨512 + j, by omega⟩) = a.gateG j
  wOut : ∀ k e, x9 (ix2 k e) = a.wOut k e
  ln1G : ∀ j, x10 (ix2 0 j) = a.ln1G j
  ln1B : ∀ j, x11 (ix2 0 j) = a.ln1B j
  w1 : ∀ k e, x12 (ix2 k e) = a.w1 k e
  w2 : ∀ k e, x13 (ix2 k e) = a.w2 k e
  ln2G : ∀ j, x14 (ix2 0 j) = a.ln2G j
  ln2B : ∀ j, x15 (ix2 0 j) = a.ln2B j

/-- The projection of a tile's row. -/
theorem proj_of {a : Args} {b : Fin 8} {s : Fin 8192} {e : Fin 1792} (f g : Fin 1024 → EReal) (hf : ∀ k, f k = a.x b s k) (hg : ∀ k, g k = a.wIn k e) :
    ∑ k, f k * g k = proj a b s e :=
  Finset.sum_congr rfl fun k _ => by rw [hf, hg]

variable {a : Args} {b : Fin 8} {T : Fin 16}

/-- A tile's rows of keys and values. -/
theorem kv_row (X : Vec Ideal S1x512x1024 .f32) (W : Vec Ideal S1024x256 .bf16) (hX : ∀ (r : Fin 512) (d : Fin 1024), X (ix3 0 r d) = a.x b ⟨512 * T + r, by omega⟩ d)
    (hW : ∀ (k : Fin 1024) (e : Fin 256), W (ix2 k e) = a.wIn k ⟨512 + e, by omega⟩) (i : Fin 512) (e : Fin 256) (r : ℕ) (hr : r = 128 + i) (e' : Fin 1792) (he : e'.val = 512 + e) :
    k0_pay18 X W (ix2 i e) = keyed a b (4 * T) r e' := by
  rw [pay18_apply, proj_of _ _ (fun k => hX i k) (fun k => hW k e)]
  unfold keyed
  rw [dif_pos (by omega)]
  congr 1
  · exact Fin.ext (by dsimp only; omega)
  · exact Fin.ext he.symm

/-- The next block's rows of keys and values. -/
theorem next_row (X : Vec Ideal S1x128x1024 .f32) (W : Vec Ideal S1024x256 .bf16) (hX : ∀ (i : Fin 128) (d : Fin 1024) (h : 512 * T.val + 512 + i < 8192), X (ix3 0 i d) = a.x b ⟨512 * T + 512 + i, h⟩ d)
    (hW : ∀ (k : Fin 1024) (e : Fin 256), W (ix2 k e) = a.wIn k ⟨512 + e, by omega⟩) (i : Fin 128) (e : Fin 256) (r : ℕ) (hr : r = 640 + i) (hT : 512 * T.val + r < 8320) (e' : Fin 1792) (he : e'.val = 512 + e) :
    k0_pay19 X W (ix2 i e) = keyed a b (4 * T) r e' := by
  rw [pay19_apply, proj_of _ _ (fun k => hX i k (by omega)) (fun k => hW k e)]
  unfold keyed
  rw [dif_pos (by omega)]
  congr 1
  · exact Fin.ext (by dsimp only; omega)
  · exact Fin.ext he.symm

/-- The key buffer after a tile's stores holds its window. -/
theorem keys_rows (X : Vec Ideal S1x512x1024 .f32) (XN : Vec Ideal S1x128x1024 .f32) (W : Vec Ideal S1024x256 .bf16)
    (hX : ∀ (r : Fin 512) (d : Fin 1024), X (ix3 0 r d) = a.x b ⟨512 * T + r, by omega⟩ d)
    (hXN : ∀ (i : Fin 128) (d : Fin 1024) (h : 512 * T.val + 512 + i < 8192), XN (ix3 0 i d) = a.x b ⟨512 * T + 512 + i, h⟩ d)
    (hW : ∀ (k : Fin 1024) (e : Fin 256), W (ix2 k e) = a.wIn k ⟨512 + e, by omega⟩) (C : Vec Ideal S4x128x128 .bf16)
    (hC : T.val ≠ 0 → ∀ (p : Fin 4) (i l : Fin 128), C (ix3 p i l) = KF a b T p i l) (rest : List (View.Piece (Elt Ideal) S4x768x128 .bf16)) :
    KRows a b T (View.canon (⟨Rect.unit (s := S4x768x128) ![3, 640, 0] S1x128x128.size inb_S4x768x128_S1x128x128_3_640_0, k0_pay52 (k0_pay19 XN W)⟩ ::
      ⟨Rect.unit (s := S4x768x128) ![2, 640, 0] S1x128x128.size inb_S4x768x128_S1x128x128_2_640_0, k0_pay51 (k0_pay19 XN W)⟩ ::
      ⟨Rect.unit (s := S4x768x128) ![1, 640, 0] S1x128x128.size inb_S4x768x128_S1x128x128_1_640_0, k0_pay50 (k0_pay19 XN W)⟩ ::
      ⟨Rect.unit (s := S4x768x128) ![0, 640, 0] S1x128x128.size inb_S4x768x128_S1x128x128_0_640_0, k0_pay49 (k0_pay19 XN W)⟩ ::
      ⟨Rect.unit (s := S4x768x128) ![3, 128, 0] S1x512x128.size inb_S4x768x128_S1x512x128_3_128_0, k0_pay35 (k0_pay31 (k0_pay18 X W))⟩ ::
      ⟨Rect.unit (s := S4x768x128) ![2, 128, 0] S1x512x128.size inb_S4x768x128_S1x512x128_2_128_0, k0_pay34 (k0_pay30 (k0_pay18 X W))⟩ ::
      ⟨Rect.unit (s := S4x768x128) ![1, 128, 0] S1x512x128.size inb_S4x768x128_S1x512x128_1_128_0, k0_pay33 (k0_pay29 (k0_pay18 X W))⟩ ::
      ⟨Rect.unit (s := S4x768x128) ![0, 128, 0] S1x512x128.size inb_S4x768x128_S1x512x128_0_128_0, k0_pay32 (k0_pay18 X W)⟩ ::
      ⟨Rect.unit (s := S4x768x128) ![0, 0, 0] S4x128x128.size inb_S4x768x128_S4x128x128_0_0_0, k0_pay23 C⟩ :: rest)) := by
  intro p r l hlo hhi
  have hr := r.isLt
  have hl := l.isLt
  by_cases hr0 : r.val < 128
  · iterate 8 refine (canon_skip3 _ _ _ _ _ _ (by omega)).trans ?_
    refine (canon_head3 _ _ _ _ _ _ p ⟨r, by omega⟩ l (by simp) (by simp) (by simp)).trans ?_
    refine Eq.trans ?_ (hC (by omega) p ⟨r, by omega⟩ l)
    pointwise [k0_pay23]
  · by_cases hr1 : r.val < 640
    · fin_cases p
      · iterate 7 refine (canon_skip3 _ _ _ _ _ _ (by simp <;> omega)).trans ?_
        refine (canon_head3 _ _ _ _ _ _ 0 ⟨r - 128, by omega⟩ l (by simp) (by dsimp only; omega) (by simp)).trans ?_
        refine (keys_0 _ _ _).trans ?_
        exact congrArg (fun z => if l.val / 64 = 0 then z else 0) (kv_row X W hX hW _ _ r (by dsimp only; omega) _ (by dsimp only; omega))
      · iterate 6 refine (canon_skip3 _ _ _ _ _ _ (by simp <;> omega)).trans ?_
        refine (canon_head3 _ _ _ _ _ _ 0 ⟨r - 128, by omega⟩ l (by simp) (by dsimp only; omega) (by simp)).trans ?_
        refine (keys_1 _ _ _).trans ?_
        exact congrArg (fun z => if l.val / 64 = 1 then z else 0) (kv_row X W hX hW _ _ r (by dsimp only; omega) _ (by dsimp only; omega))
      · iterate 5 refine (canon_skip3 _ _ _ _ _ _ (by simp <;> omega)).trans ?_
        refine (canon_head3 _ _ _ _ _ _ 0 ⟨r - 128, by omega⟩ l (by simp) (by dsimp only; omega) (by simp)).trans ?_
        refine (keys_2 _ _ _).trans ?_
        exact congrArg (fun z => if l.val / 64 = 0 then z else 0) (kv_row X W hX hW _ _ r (by dsimp only; omega) _ (by dsimp only; omega))
      · iterate 4 refine (canon_skip3 _ _ _ _ _ _ (by simp <;> omega)).trans ?_
        refine (canon_head3 _ _ _ _ _ _ 0 ⟨r - 128, by omega⟩ l (by simp) (by dsimp only; omega) (by simp)).trans ?_
        refine (keys_3 _ _ _).trans ?_
        exact congrArg (fun z => if l.val / 64 = 1 then z else 0) (kv_row X W hX hW _ _ r (by dsimp only; omega) _ (by dsimp only; omega))
    · fin_cases p
      · iterate 3 refine (canon_skip3 _ _ _ _ _ _ (by simp <;> omega)).trans ?_
        refine (canon_head3 _ _ _ _ _ _ 0 ⟨r - 640, by omega⟩ l (by simp) (by dsimp only; omega) (by simp)).trans ?_
        refine (next_keys_0 _ _ _).trans ?_
        exact congrArg (fun z => if l.val / 64 = 0 then z else 0) (next_row XN W hXN hW _ _ r (by dsimp only; omega) hhi _ (by dsimp only; omega))
      · iterate 2 refine (canon_skip3 _ _ _ _ _ _ (by simp <;> omega)).trans ?_
        refine (canon_head3 _ _ _ _ _ _ 0 ⟨r - 640, by omega⟩ l (by simp) (by dsimp only; omega) (by simp)).trans ?_
        refine (next_keys_1 _ _ _).trans ?_
        exact congrArg (fun z => if l.val / 64 = 1 then z else 0) (next_row XN W hXN hW _ _ r (by dsimp only; omega) hhi _ (by dsimp only; omega))
      · iterate 1 refine (canon_skip3 _ _ _ _ _ _ (by simp <;> omega)).trans ?_
        refine (canon_head3 _ _ _ _ _ _ 0 ⟨r - 640, by omega⟩ l (by simp) (by dsimp only; omega) (by simp)).trans ?_
        refine (next_keys_2 _ _ _).trans ?_
        exact congrArg (fun z => if l.val / 64 = 0 then z else 0) (next_row XN W hXN hW _ _ r (by dsimp only; omega) hhi _ (by dsimp only; omega))
      · refine (canon_head3 _ _ _ _ _ _ 0 ⟨r - 640, by omega⟩ l (by simp) (by dsimp only; omega) (by simp)).trans ?_
        refine (next_keys_3 _ _ _).trans ?_
        exact congrArg (fun z => if l.val / 64 = 1 then z else 0) (next_row XN W hXN hW _ _ r (by dsimp only; omega) hhi _ (by dsimp only; omega))

/-- The value buffer after a tile's stores holds its window. -/
theorem vals_rows (X : Vec Ideal S1x512x1024 .f32) (XN : Vec Ideal S1x128x1024 .f32) (W : Vec Ideal S1024x256 .bf16)
    (hX : ∀ (r : Fin 512) (d : Fin 1024), X (ix3 0 r d) = a.x b ⟨512 * T + r, by omega⟩ d)
    (hXN : ∀ (i : Fin 128) (d : Fin 1024) (h : 512 * T.val + 512 + i < 8192), XN (ix3 0 i d) = a.x b ⟨512 * T + 512 + i, h⟩ d)
    (hW : ∀ (k : Fin 1024) (e : Fin 256), W (ix2 k e) = a.wIn k ⟨512 + e, by omega⟩) (C : Vec Ideal S4x128x128 .bf16)
    (hC : T.val ≠ 0 → ∀ (p : Fin 4) (i l : Fin 128), C (ix3 p l i) = VF a b T p i l) (rest : List (View.Piece (Elt Ideal) S4x128x768 .bf16)) :
    VRows a b T (View.canon (⟨Rect.unit (s := S4x128x768) ![3, 0, 640] S1x128x128.size inb_S4x128x768_S1x128x128_3_0_640, k0_pay61 (k0_pay53 (k0_pay19 XN W)) k0_pay55 k0_pay56⟩ ::
      ⟨Rect.unit (s := S4x128x768) ![2, 0, 640] S1x128x128.size inb_S4x128x768_S1x128x128_2_0_640, k0_pay60 (k0_pay54 (k0_pay19 XN W)) k0_pay55 k0_pay56⟩ ::
      ⟨Rect.unit (s := S4x128x768) ![1, 0, 640] S1x128x128.size inb_S4x128x768_S1x128x128_1_0_640, k0_pay59 (k0_pay54 (k0_pay19 XN W)) k0_pay55 k0_pay56⟩ ::
      ⟨Rect.unit (s := S4x128x768) ![0, 0, 640] S1x128x128.size inb_S4x128x768_S1x128x128_0_0_640, k0_pay58 (k0_pay57 (k0_pay19 XN W))⟩ ::
      ⟨Rect.unit (s := S4x128x768) ![3, 0, 128] S1x128x512.size inb_S4x128x768_S1x128x512_3_0_128, k0_pay44 (k0_pay43 (k0_pay18 X W))⟩ ::
      ⟨Rect.unit (s := S4x128x768) ![2, 0, 128] S1x128x512.size inb_S4x128x768_S1x128x512_2_0_128, k0_pay42 (k0_pay18 X W)⟩ ::
      ⟨Rect.unit (s := S4x128x768) ![1, 0, 128] S1x128x512.size inb_S4x128x768_S1x128x512_1_0_128, k0_pay41 (k0_pay18 X W)⟩ ::
      ⟨Rect.unit (s := S4x128x768) ![0, 0, 128] S1x128x512.size inb_S4x128x768_S1x128x512_0_0_128, k0_pay40 (k0_pay18 X W)⟩ ::
      ⟨Rect.unit (s := S4x128x768) ![0, 0, 0] S4x128x128.size inb_S4x128x768_S4x128x128_0_0_0, k0_pay24 C⟩ :: rest)) := by
  intro p r l hlo hhi
  have hr := r.isLt
  have hl := l.isLt
  by_cases hr0 : r.val < 128
  · iterate 8 refine (canon_skip3 _ _ _ _ _ _ (by omega)).trans ?_
    refine (canon_head3 _ _ _ _ _ _ p l ⟨r, by omega⟩ (by simp) (by simp) (by simp)).trans ?_
    refine Eq.trans ?_ (hC (by omega) p ⟨r, by omega⟩ l)
    pointwise [k0_pay24]
  · by_cases hr1 : r.val < 640
    · fin_cases p
      · iterate 7 refine (canon_skip3 _ _ _ _ _ _ (by simp <;> omega)).trans ?_
        refine (canon_head3 _ _ _ _ _ _ 0 l ⟨r - 128, by omega⟩ (by simp) (by simp) (by dsimp only; omega)).trans ?_
        refine (vals_0 _ _ _).trans ?_
        exact congrArg (fun z => if l.val / 64 = 0 then z else 0) (kv_row X W hX hW _ _ r (by dsimp only; omega) _ (by dsimp only; omega))
      · iterate 6 refine (canon_skip3 _ _ _ _ _ _ (by simp <;> omega)).trans ?_
        refine (canon_head3 _ _ _ _ _ _ 0 l ⟨r - 128, by omega⟩ (by simp) (by simp) (by dsimp only; omega)).trans ?_
        refine (vals_1 _ _ _).trans ?_
        exact congrArg (fun z => if l.val / 64 = 1 then z else 0) (kv_row X W hX hW _ _ r (by dsimp only; omega) _ (by dsimp only; omega))
      · iterate 5 refine (canon_skip3 _ _ _ _ _ _ (by simp <;> omega)).trans ?_
        refine (canon_head3 _ _ _ _ _ _ 0 l ⟨r - 128, by omega⟩ (by simp) (by simp) (by dsimp only; omega)).trans ?_
        refine (vals_2 _ _ _).trans ?_
        exact congrArg (fun z => if l.val / 64 = 0 then z else 0) (kv_row X W hX hW _ _ r (by dsimp only; omega) _ (by dsimp only; omega))
      · iterate 4 refine (canon_skip3 _ _ _ _ _ _ (by simp <;> omega)).trans ?_
        refine (canon_head3 _ _ _ _ _ _ 0 l ⟨r - 128, by omega⟩ (by simp) (by simp) (by dsimp only; omega)).trans ?_
        refine (vals_3 _ _ _).trans ?_
        exact congrArg (fun z => if l.val / 64 = 1 then z else 0) (kv_row X W hX hW _ _ r (by dsimp only; omega) _ (by dsimp only; omega))
    · fin_cases p
      · iterate 3 refine (canon_skip3 _ _ _ _ _ _ (by simp <;> omega)).trans ?_
        refine (canon_head3 _ _ _ _ _ _ 0 l ⟨r - 640, by omega⟩ (by simp) (by simp) (by dsimp only; omega)).trans ?_
        refine (next_vals_0 _ _ _).trans ?_
        exact congrArg (fun z => if l.val / 64 = 0 then z else 0) (next_row XN W hXN hW _ _ r (by dsimp only; omega) hhi _ (by dsimp only; omega))
      · iterate 2 refine (canon_skip3 _ _ _ _ _ _ (by simp <;> omega)).trans ?_
        refine (canon_head3 _ _ _ _ _ _ 0 l ⟨r - 640, by omega⟩ (by simp) (by simp) (by dsimp only; omega)).trans ?_
        refine (next_vals_1 _ _ _).trans ?_
        exact congrArg (fun z => if l.val / 64 = 1 then z else 0) (next_row XN W hXN hW _ _ r (by dsimp only; omega) hhi _ (by dsimp only; omega))
      · iterate 1 refine (canon_skip3 _ _ _ _ _ _ (by simp <;> omega)).trans ?_
        refine (canon_head3 _ _ _ _ _ _ 0 l ⟨r - 640, by omega⟩ (by simp) (by simp) (by dsimp only; omega)).trans ?_
        refine (next_vals_2 _ _ _).trans ?_
        exact congrArg (fun z => if l.val / 64 = 0 then z else 0) (next_row XN W hXN hW _ _ r (by dsimp only; omega) hhi _ (by dsimp only; omega))
      · refine (canon_head3 _ _ _ _ _ _ 0 l ⟨r - 640, by omega⟩ (by simp) (by simp) (by dsimp only; omega)).trans ?_
        refine (next_vals_3 _ _ _).trans ?_
        exact congrArg (fun z => if l.val / 64 = 1 then z else 0) (next_row XN W hXN hW _ _ r (by dsimp only; omega) hhi _ (by dsimp only; omega))

end Cert.Proof

end
-- ==== Proof.Inputs.lean ====
module

public import proofs.«01_k».proof.Proof.Gen.KernelIdeal.Frame.Runs
public import proofs.«01_k».proof.Proof.Args
public import proofs.«01_k».proof.Proof.Rows
public import Idealize.ShloMosaic.Lib.StableHlo.ReadAt
public import Idealize.ShloMosaic.Lib.Pipeline.ValueKit

/-! What a step's input blocks hold, in terms of the kernel's arguments. -/

@[expose] public section

set_option maxRecDepth 16384

noncomputable section

namespace Cert.Proof

open Idealize.ShloMosaic Idealize.ShloMosaic.TcCoe
open Cert.KernelIdeal Cert.KernelIdeal.Gen

variable (m : (ℓ : Loc nD τ sig) → Buf (Elt Ideal) ℓ) (c : Dev nD)

/-- The kernel's arguments at launch. -/
def args : Args :=
  argsOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- The block of the sequence a step's tile reads. -/
theorem index1 : ∀ t : Fin cfg0.N, win0_1.index t = ![min t.val 127 / 16, min t.val 127 % 16, 0] :=
  (by decide +kernel : ∀ t : Fin grid0.N, _)

/-- The block following a tile. -/
theorem index2 : ∀ t : Fin cfg0.N, win0_2.index t = ![min t.val 127 / 16, min (4 * (min t.val 127 % 16 + 1)) 63, 0] :=
  (by decide +kernel : ∀ t : Fin grid0.N, _)

/-- The block a step writes. -/
theorem index16 : ∀ t : Fin cfg0.N, win0_16.index t = ![min (t.val - 2) 127 / 16, min (t.val - 2) 127 % 16, 0] :=
  (by decide +kernel : ∀ t : Fin grid0.N, _)

/-- A block that every step reads whole. -/
theorem index0 : ∀ t : Fin cfg0.N, win0_0.index t = ![0] := (by decide +kernel : ∀ t : Fin grid0.N, _)
/-- A block that every step reads whole. -/
theorem index3 : ∀ t : Fin cfg0.N, win0_3.index t = ![0, 0] := (by decide +kernel : ∀ t : Fin grid0.N, _)
/-- A block that every step reads whole. -/
theorem index4 : ∀ t : Fin cfg0.N, win0_4.index t = ![0, 0] := (by decide +kernel : ∀ t : Fin grid0.N, _)
/-- A block that every step reads whole. -/
theorem index5 : ∀ t : Fin cfg0.N, win0_5.index t = ![0, 0] := (by decide +kernel : ∀ t : Fin grid0.N, _)
/-- A block that every step reads whole. -/
theorem index6 : ∀ t : Fin cfg0.N, win0_6.index t = ![0, 0, 0] := (by decide +kernel : ∀ t : Fin grid0.N, _)
/-- A block that every step reads whole. -/
theorem index7 : ∀ t : Fin cfg0.N, win0_7.index t = ![0, 0] := (by decide +kernel : ∀ t : Fin grid0.N, _)
/-- A block that every step reads whole. -/
theorem index8 : ∀ t : Fin cfg0.N, win0_8.index t = ![0, 0] := (by decide +kernel : ∀ t : Fin grid0.N, _)
/-- A block that every step reads whole. -/
theorem index9 : ∀ t : Fin cfg0.N, win0_9.index t = ![0, 0] := (by decide +kernel : ∀ t : Fin grid0.N, _)
/-- A block that every step reads whole. -/
theorem index10 : ∀ t : Fin cfg0.N, win0_10.index t = ![0, 0] := (by decide +kernel : ∀ t : Fin grid0.N, _)
/-- A block that every step reads whole. -/
theorem index11 : ∀ t : Fin cfg0.N, win0_11.index t = ![0, 0] := (by decide +kernel : ∀ t : Fin grid0.N, _)
/-- A block that every step reads whole. -/
theorem index12 : ∀ t : Fin cfg0.N, win0_12.index t = ![0, 0] := (by decide +kernel : ∀ t : Fin grid0.N, _)
/-- A block that every step reads whole. -/
theorem index13 : ∀ t : Fin cfg0.N, win0_13.index t = ![0, 0] := (by decide +kernel : ∀ t : Fin grid0.N, _)
/-- A block that every step reads whole. -/
theorem index14 : ∀ t : Fin cfg0.N, win0_14.index t = ![0, 0] := (by decide +kernel : ∀ t : Fin grid0.N, _)
/-- A block that every step reads whole. -/
theorem index15 : ∀ t : Fin cfg0.N, win0_15.index t = ![0, 0] := (by decide +kernel : ∀ t : Fin grid0.N, _)

/-- A tile's rows. -/
theorem iblk1_apply (t : Fin cfg0.N) (r : Fin 512) (d : Fin 1024) (b : Fin 8) (s : Fin 8192) (hb : b.val = min t.val 127 / 16) (hs : s.val = min t.val 127 % 16 * 512 + r) :
    iblk m c 1 t (ix3 0 r d) = (args m c).x b s d := by
  blk_simp [iblk]
  rw [V_main_arg0]
  show _ = m ((c : Thread nD τ).loc main_arg0) (ix3 b s d)
  congr 1
  blk_ext [index1]

/-- The rows after a tile. -/
theorem iblk2_apply (t : Fin cfg0.N) (i : Fin 128) (d : Fin 1024) (b : Fin 8) (s : Fin 8192) (hb : b.val = min t.val 127 / 16) (hs : s.val = min (4 * (min t.val 127 % 16 + 1)) 63 * 128 + i) :
    iblk m c 2 t (ix3 0 i d) = (args m c).x b s d := by
  blk_simp [iblk]
  rw [V_main_arg0]
  show _ = m ((c : Thread nD τ).loc main_arg0) (ix3 b s d)
  congr 1
  blk_ext [index2]

/-- The sinks. -/
theorem iblk0_apply (t : Fin cfg0.N) (h : Fin 8) : iblk m c 0 t (ix1 h) = (args m c).sink h := by
  have h : (win0_0.blk t).view.emb (ix1 h) = ix1 h := by blk_ext [index0]
  blk_simp [iblk]
  rw [h]
  unfold V hostOps0
  after_reads_at
  rfl

/-- The input projection. -/
theorem iblk3_apply (t : Fin cfg0.N) (k : Fin 1024) (e : Fin 1792) : iblk m c 3 t (ix2 k e) = (args m c).wIn k e := by
  have h : (win0_3.blk t).view.emb (ix2 k e) = ix2 k e := by blk_ext [index3]
  blk_simp [iblk]
  rw [h]
  unfold V hostOps0
  after_reads_at
  rfl

/-- The gate's norm's scale. -/
theorem iblk4_apply (t : Fin cfg0.N) (j : Fin 512) : iblk m c 4 t (ix2 0 j) = (args m c).lnG j := by
  have h : (win0_4.blk t).view.emb (ix2 0 j) = ix2 0 j := by blk_ext [index4]
  blk_simp [iblk]
  rw [h]
  unfold V hostOps0
  after_reads_at
  rfl

/-- The gate's norm's shift. -/
theorem iblk5_apply (t : Fin cfg0.N) (j : Fin 512) : iblk m c 5 t (ix2 0 j) = (args m c).lnB j := by
  have h : (win0_5.blk t).view.emb (ix2 0 j) = ix2 0 j := by blk_ext [index5]
  blk_simp [iblk]
  rw [h]
  unfold V hostOps0
  after_reads_at
  rfl

/-- The gate's weights. -/
theorem iblk6_apply (t : Fin cfg0.N) (p : Fin 4) (i : Fin 128) (s : Fin 256) : iblk m c 6 t (ix3 p i s) = (args m c).ws ⟨2 * p + s / 128, by omega⟩ i ⟨s % 128, by omega⟩ := by
  have h : (win0_6.blk t).view.emb (ix3 p i s) = ix3 p i s := by blk_ext [index6]
  blk_simp [iblk]
  rw [h]
  unfold V hostOps0
  after_reads_at
  exact congrArg (fun q : Fin 8 => (args m c).ws q i ⟨s % 128, by omega⟩) (Fin.ext (by dsimp only; omega))

/-- The gate's biases. -/
theorem iblk7_apply (t : Fin cfg0.N) (i : Fin 128) (l : Fin 512) : iblk m c 7 t (ix2 i l) = (args m c).bs ⟨l / 64, by omega⟩ i := by
  have h : (win0_7.blk t).view.emb (ix2 i l) = ix2 i l := by blk_ext [index7]
  blk_simp [iblk]
  rw [h]
  unfold V hostOps0
  after_reads_at
  rfl

/-- The attention's norm's scale. -/
theorem iblk8_apply (t : Fin cfg0.N) (j : Fin 512) : iblk m c 8 t (ix2 0 ⟨j, by omega⟩) = (args m c).attnG j := by
  have h : (win0_8.blk t).view.emb (ix2 0 ⟨j, by omega⟩) = ix2 0 ⟨j, by omega⟩ := by blk_ext [index8]
  blk_simp [iblk]
  rw [h]
  unfold V hostOps0
  after_reads_at
  after_reads_at
  rfl

/-- The gated half's norm's scale. -/
theorem iblk8_apply' (t : Fin cfg0.N) (j : Fin 512) : iblk m c 8 t (ix2 0 ⟨512 + j, by omega⟩) = (args m c).gateG j := by
  have h : (win0_8.blk t).view.emb (ix2 0 ⟨512 + j, by omega⟩) = ix2 0 ⟨512 + j, by omega⟩ := by blk_ext [index8]
  blk_simp [iblk]
  rw [h]
  unfold V hostOps0
  after_reads_at
  after_reads_at
  rfl

/-- The output projection. -/
theorem iblk9_apply (t : Fin cfg0.N) (k e : Fin 1024) : iblk m c 9 t (ix2 k e) = (args m c).wOut k e := by
  have h : (win0_9.blk t).view.emb (ix2 k e) = ix2 k e := by blk_ext [index9]
  blk_simp [iblk]
  rw [h]
  unfold V hostOps0
  after_reads_at
  rfl

/-- The first norm's scale. -/
theorem iblk10_apply (t : Fin cfg0.N) (j : Fin 1024) : iblk m c 10 t (ix2 0 j) = (args m c).ln1G j := by
  have h : (win0_10.blk t).view.emb (ix2 0 j) = ix2 0 j := by blk_ext [index10]
  blk_simp [iblk]
  rw [h]
  unfold V hostOps0
  after_reads_at
  rfl

/-- The first norm's shift. -/
theorem iblk11_apply (t : Fin cfg0.N) (j : Fin 1024) : iblk m c 11 t (ix2 0 j) = (args m c).ln1B j := by
  have h : (win0_11.blk t).view.emb (ix2 0 j) = ix2 0 j := by blk_ext [index11]
  blk_simp [iblk]
  rw [h]
  unfold V hostOps0
  after_reads_at
  rfl

/-- The first layer's weights. -/
theorem iblk12_apply (t : Fin cfg0.N) (k : Fin 1024) (e : Fin 4096) : iblk m c 12 t (ix2 k e) = (args m c).w1 k e := by
  have h : (win0_12.blk t).view.emb (ix2 k e) = ix2 k e := by blk_ext [index12]
  blk_simp [iblk]
  rw [h]
  unfold V hostOps0
  after_reads_at
  rfl

/-- The second layer's weights. -/
theorem iblk13_apply (t : Fin cfg0.N) (k : Fin 4096) (e : Fin 1024) : iblk m c 13 t (ix2 k e) = (args m c).w2 k e := by
  have h : (win0_13.blk t).view.emb (ix2 k e) = ix2 k e := by blk_ext [index13]
  blk_simp [iblk]
  rw [h]
  unfold V hostOps0
  after_reads_at
  rfl

/-- The second norm's scale. -/
theorem iblk14_apply (t : Fin cfg0.N) (j : Fin 1024) : iblk m c 14 t (ix2 0 j) = (args m c).ln2G j := by
  have h : (win0_14.blk t).view.emb (ix2 0 j) = ix2 0 j := by blk_ext [index14]
  blk_simp [iblk]
  rw [h]
  unfold V hostOps0
  after_reads_at
  rfl

/-- The second norm's shift. -/
theorem iblk15_apply (t : Fin cfg0.N) (j : Fin 1024) : iblk m c 15 t (ix2 0 j) = (args m c).ln2B j := by
  have h : (win0_15.blk t).view.emb (ix2 0 j) = ix2 0 j := by blk_ext [index15]
  blk_simp [iblk]
  rw [h]
  unfold V hostOps0
  after_reads_at
  rfl

/-- A tile's input blocks are the arguments' blocks. -/
theorem ins (t : Fin cfg0.N) (h : t.val < 128) :
    Ins (args m c) ⟨t.val / 16, by omega⟩ ⟨t.val % 16, by omega⟩ (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (iblk m c 15 t) where
  sink := iblk0_apply m c t
  x r d := iblk1_apply m c t r d _ _ (by dsimp only; omega) (by dsimp only; omega)
  next i d h' := iblk2_apply m c t i d _ _ (by dsimp only; omega) (by dsimp only at h' ⊢; omega)
  wIn := iblk3_apply m c t
  lnG := iblk4_apply m c t
  lnB := iblk5_apply m c t
  ws := iblk6_apply m c t
  bs := iblk7_apply m c t
  attnG := iblk8_apply m c t
  gateG := iblk8_apply' m c t
  wOut := iblk9_apply m c t
  ln1G := iblk10_apply m c t
  ln1B := iblk11_apply m c t
  w1 := iblk12_apply m c t
  w2 := iblk13_apply m c t
  ln2G := iblk14_apply m c t
  ln2B := iblk15_apply m c t

end Cert.Proof

end
-- ==== Proof.Block.lean ====
module

public import proofs.«01_k».proof.Proof.Rows

/-! What a block of rows holds, from what the buffers hold. -/

@[expose] public section

set_option maxRecDepth 16384

noncomputable section

namespace Cert.Proof

open Idealize.ShloMosaic
open Cert.KernelIdeal Cert.KernelIdeal.Gen
open scoped BigOperators

variable {a : Args} {b : Fin 8} {T : Fin 16}

/-- The buffer of queries. -/
def QRows (a : Args) (b : Fin 8) (T : Fin 16) (Q : S512x512.Idx → Ideal .bf16) : Prop :=
  ∀ (r : Fin 512) (l : Fin 512), Q (ix2 r l) = (((1 / 8 : ℝ) * (Real.log 2)⁻¹ : ℝ) : EReal) * proj a b ⟨512 * T + r, by omega⟩ ⟨l, by omega⟩

/-- A buffer of the projection's columns from `o` on. -/
def URows (a : Args) (b : Fin 8) (T : Fin 16) (o : ℕ) (ho : o ≤ 1280) (U : S512x512.Idx → Ideal .f32) : Prop :=
  ∀ (r : Fin 512) (l : Fin 512), U (ix2 r l) = proj a b ⟨512 * T + r, by omega⟩ ⟨o + l, by omega⟩

/-- The table of distances and windows. -/
def BRows (B : S8x384x128.Idx → Ideal .f32) : Prop :=
  ∀ (h : Fin 8) (κ : Fin 384) (i : Fin 128), B (ix3 h κ i) = if κ.val ≤ i.val + 256 ∧ i.val ≤ κ.val then (((Real.log 2)⁻¹ * (-slope h * dist i κ) : ℝ) : EReal) else ⊥

/-- A block's queries of a copy. -/
def QRead (a : Args) (b : Fin 8) (n : Fin 64) (p : Fin 4) (q : Vec Ideal S128x128 .bf16) : Prop :=
  ∀ i l : Fin 128, q (ix2 i l) = (((1 / 8 : ℝ) * (Real.log 2)⁻¹ : ℝ) : EReal) * proj a b ⟨128 * n + i, by omega⟩ ⟨128 * p + l, by omega⟩

/-- A block's window of keys of a copy. -/
def KRead (a : Args) (b : Fin 8) (n : Fin 64) (p : Fin 4) (k : Vec Ideal S1x384x128 .bf16) : Prop :=
  ∀ (κ : Fin 384) (l : Fin 128), 128 ≤ 128 * n.val + κ → 128 * n.val + κ < 8320 →
    k (ix3 0 κ l) = if l.val / 64 = p.val % 2 then keyed a b n κ ⟨512 + 64 * (p / 2) + l % 64, by omega⟩ else 0

/-- A block's window of values of a copy. -/
def VRead (a : Args) (b : Fin 8) (n : Fin 64) (p : Fin 4) (v : Vec Ideal S1x128x384 .bf16) : Prop :=
  ∀ (κ : Fin 384) (l : Fin 128), 128 ≤ 128 * n.val + κ → 128 * n.val + κ < 8320 →
    v (ix3 0 l κ) = if l.val / 64 = p.val % 2 then keyed a b n κ ⟨640 + 64 * (p / 2) + l % 64, by omega⟩ else 0

/-- A head's table. -/
def BRead (h : Fin 8) (B : Vec Ideal S1x384x128 .f32) : Prop :=
  ∀ (κ : Fin 384) (i : Fin 128), B (ix3 0 κ i) = if κ.val ≤ i.val + 256 ∧ i.val ≤ κ.val then (((Real.log 2)⁻¹ * (-slope h * dist i κ) : ℝ) : EReal) else ⊥

/-- The queries a load of the buffer reads. -/
theorem QRows.read {L : List (View.Piece (Elt Ideal) S512x512 .bf16)} (h : QRows a b T (View.canon L)) (w : View sig .tc .vmem S512x512 .bf16) (j p : Fin 4) (n : Fin 64) (hn : n.val = 4 * T + j)
    {o o' : ℕ} (inb : ∀ c, (![o, o'] : Fin 2 → ℕ) c + S128x128.size c ≤ S512x512.size c) (ho : o = 128 * j) (ho' : o' = 128 * p) :
    QRead a b n p (w.readCov L (Rect.unit (s := S512x512) ![o, o'] S128x128.size inb).toLoadRect) := by
  intro i l
  refine (readCov_box2 w L inb ⟨128 * j + i, by omega⟩ ⟨128 * p + l, by omega⟩ i l (by dsimp only; omega) (by dsimp only; omega)).trans ((h _ _).trans ?_)
  congr 2
  exact Fin.ext (by dsimp only; omega)

/-- The keys a load of the buffer reads. -/
theorem KRows.read {L : List (View.Piece (Elt Ideal) S4x768x128 .bf16)} (h : KRows a b T (View.canon L)) (w : View sig .tc .vmem S4x768x128 .bf16) (j p : Fin 4) (n : Fin 64) (hn : n.val = 4 * T + j)
    {o o' : ℕ} (inb : ∀ c, (![o', o, 0] : Fin 3 → ℕ) c + S1x384x128.size c ≤ S4x768x128.size c) (ho : o = 128 * j) (ho' : o' = p) :
    KRead a b n p (w.readCov L (Rect.unit (s := S4x768x128) ![o', o, 0] S1x384x128.size inb).toLoadRect) := by
  intro κ l h1 h2
  refine (readCov_box3 w L inb p ⟨128 * j + κ, by omega⟩ l 0 κ l (by simp [ho']) (by dsimp only; omega) (by omega)).trans ((h _ _ _ (by dsimp only; omega) (by dsimp only; omega)).trans ?_)
  unfold KF keyed
  simp only [hn]
  rw [dif_pos (by omega), dif_pos (by omega)]
  congr 2
  exact Fin.ext (by dsimp only; omega)

/-- The values a load of the buffer reads. -/
theorem VRows.read {L : List (View.Piece (Elt Ideal) S4x128x768 .bf16)} (h : VRows a b T (View.canon L)) (w : View sig .tc .vmem S4x128x768 .bf16) (j p : Fin 4) (n : Fin 64) (hn : n.val = 4 * T + j)
    {o o' : ℕ} (inb : ∀ c, (![o', 0, o] : Fin 3 → ℕ) c + S1x128x384.size c ≤ S4x128x768.size c) (ho : o = 128 * j) (ho' : o' = p) :
    VRead a b n p (w.readCov L (Rect.unit (s := S4x128x768) ![o', 0, o] S1x128x384.size inb).toLoadRect) := by
  intro κ l h1 h2
  refine (readCov_box3 w L inb p l ⟨128 * j + κ, by omega⟩ 0 l κ (by simp [ho']) (by omega) (by dsimp only; omega)).trans ((h _ _ _ (by dsimp only; omega) (by dsimp only; omega)).trans ?_)
  unfold VF keyed
  simp only [hn]
  rw [dif_pos (by omega), dif_pos (by omega)]
  congr 2
  exact Fin.ext (by dsimp only; omega)

/-- The table a load of the kept array reads. -/
theorem BRows.read {B : Vec Ideal S8x384x128 .f32} (h : BRows B) (M : Memref sig .tc .vmem S8x384x128 .f32) (hM : M.IsWhole) (g : Fin 8) {o : ℕ}
    (inb : ∀ c, (![o, 0, 0] : Fin 3 → ℕ) c + S1x384x128.size c ≤ S8x384x128.size c) (ho : o = g) :
    BRead g (View.readAt (Elt Ideal) M.view (Rect.unit (s := S8x384x128) ![o, 0, 0] S1x384x128.size inb).toLoadRect (hM.unread B)) := by
  intro κ i
  exact (readAt_box3 M hM B inb g κ i 0 κ i (by simp [ho]) (by omega) (by omega)).trans (h g κ i)

/-- The table a load of the stored array reads. -/
theorem BRows.readCov {L : List (View.Piece (Elt Ideal) S8x384x128 .f32)} (h : BRows (View.canon L)) (w : View sig .tc .vmem S8x384x128 .f32) (g : Fin 8) {o : ℕ}
    (inb : ∀ c, (![o, 0, 0] : Fin 3 → ℕ) c + S1x384x128.size c ≤ S8x384x128.size c) (ho : o = g) :
    BRead g (w.readCov L (Rect.unit (s := S8x384x128) ![o, 0, 0] S1x384x128.size inb).toLoadRect) := by
  intro κ i
  exact (readCov_box3 w L inb g κ i 0 κ i (by simp [ho]) (by omega) (by omega)).trans (h g κ i)

/-- A block of attention's rows, normalised. -/
theorem attn_block (ha : a.Real) (j : Fin 4) (n : Fin 64) (hn : n.val = 4 * T + j) {c0 c1 : BitVec 1} (h0 : c0 = 0#1 ↔ T.val = 0) (h1 : c1 = 0#1 ↔ T.val = 15)
    {q0 q1 q2 q3 : Vec Ideal S128x128 .bf16} {k0 k1 k2 k3 : Vec Ideal S1x384x128 .bf16} {v0 v1 v2 v3 : Vec Ideal S1x128x384 .bf16} {B0 B1 B2 B3 B4 B5 B6 B7 : Vec Ideal S1x384x128 .f32} {z0 z1 z2 z3 z4 z5 z6 z7 : Elt Ideal .f32} {G : Vec Ideal S1x512 .f32}
    (hq0 : QRead a b n 0 q0) (hq1 : QRead a b n 1 q1) (hq2 : QRead a b n 2 q2) (hq3 : QRead a b n 3 q3)
    (hk0 : KRead a b n 0 k0) (hk1 : KRead a b n 1 k1) (hk2 : KRead a b n 2 k2) (hk3 : KRead a b n 3 k3)
    (hv0 : VRead a b n 0 v0) (hv1 : VRead a b n 1 v1) (hv2 : VRead a b n 2 v2) (hv3 : VRead a b n 3 v3)
    (hB0 : BRead 0 B0) (hB1 : BRead 1 B1) (hB2 : BRead 2 B2) (hB3 : BRead 3 B3) (hB4 : BRead 4 B4) (hB5 : BRead 5 B5) (hB6 : BRead 6 B6) (hB7 : BRead 7 B7)
    (hz0 : z0 = a.sink 0) (hz1 : z1 = a.sink 1) (hz2 : z2 = a.sink 2) (hz3 : z3 = a.sink 3) (hz4 : z4 = a.sink 4) (hz5 : z5 = a.sink 5) (hz6 : z6 = a.sink 6) (hz7 : z7 = a.sink 7)
    (hG : ∀ L, G (ix2 0 L) = a.attnG L) (i : Fin 128) (L : Fin 512) :
    kAttn j c0 c1 q0 q1 q2 q3 k0 k1 k2 k3 v0 v1 v2 v3 B0 B1 B2 B3 B4 B5 B6 B7 z0 z1 z2 z3 z4 z5 z6 z7 G (ix2 i L)
      = rmsRow (Ideal.ofBits .f32 0x44000000#32) (attnRow a b ⟨128 * n + i, by omega⟩) a.attnG L := by
  refine Reads.attn ha (a := a) (b := b) (n := n) (j := j) (c0 := c0) (c1 := c1) (q := ![q0, q1, q2, q3]) (k := ![k0, k1, k2, k3]) (v := ![v0, v1, v2, v3])
    (B := ![B0, B1, B2, B3, B4, B5, B6, B7]) (Z := ![z0, z1, z2, z3, z4, z5, z6, z7]) ⟨?_, ?_, ?_, ?_, ?_, ?_⟩ G hG i L
  · intro p i l
    fin_cases p
    exacts [hq0 i l, hq1 i l, hq2 i l, hq3 i l]
  · intro p κ l ⟨hlo, hhi⟩
    fin_cases p
    exacts [hk0 κ l hlo hhi, hk1 κ l hlo hhi, hk2 κ l hlo hhi, hk3 κ l hlo hhi]
  · intro p κ l ⟨hlo, hhi⟩
    fin_cases p
    exacts [hv0 κ l hlo hhi, hv1 κ l hlo hhi, hv2 κ l hlo hhi, hv3 κ l hlo hhi]
  · intro h κ i
    fin_cases h
    exacts [hB0 κ i, hB1 κ i, hB2 κ i, hB3 κ i, hB4 κ i, hB5 κ i, hB6 κ i, hB7 κ i]
  · intro h
    fin_cases h
    exacts [hz0, hz1, hz2, hz3, hz4, hz5, hz6, hz7]
  · intro κ
    have hκ := κ.isLt
    unfold Cut
    rw [h0, h1]
    have := T.isLt
    have := j.isLt
    have e0 : j = 0 ↔ j.val = 0 := Fin.ext_iff
    have e3 : j = 3 ↔ j.val = 3 := Fin.ext_iff
    rw [e0, e3]
    omega

/-- A block of the gate's rows, normalised. -/
theorem gate_block (n : Fin 64) {gv gu : Vec Ideal S128x512 .f32} {g β : Vec Ideal S1x512 .f32} {w0 w1 w2 w3 : Vec Ideal S1x128x256 .bf16} {bs : Vec Ideal S128x512 .f32} {ng : Vec Ideal S1x512 .f32}
    (hgv : ∀ (i : Fin 128) (l : Fin 512), gv (ix2 i l) = proj a b ⟨128 * n + i, by omega⟩ ⟨1280 + l, by omega⟩)
    (hgu : ∀ (i : Fin 128) (l : Fin 512), gu (ix2 i l) = proj a b ⟨128 * n + i, by omega⟩ ⟨768 + l, by omega⟩)
    (hg : ∀ l, g (ix2 0 l) = a.lnG l) (hβ : ∀ l, β (ix2 0 l) = a.lnB l)
    (hw0 : ∀ (i : Fin 128) (s : Fin 256), w0 (ix3 0 i s) = a.ws ⟨0 + s / 128, by omega⟩ i ⟨s % 128, by omega⟩)
    (hw1 : ∀ (i : Fin 128) (s : Fin 256), w1 (ix3 0 i s) = a.ws ⟨2 + s / 128, by omega⟩ i ⟨s % 128, by omega⟩)
    (hw2 : ∀ (i : Fin 128) (s : Fin 256), w2 (ix3 0 i s) = a.ws ⟨4 + s / 128, by omega⟩ i ⟨s % 128, by omega⟩)
    (hw3 : ∀ (i : Fin 128) (s : Fin 256), w3 (ix3 0 i s) = a.ws ⟨6 + s / 128, by omega⟩ i ⟨s % 128, by omega⟩)
    (hbs : ∀ (i : Fin 128) (l : Fin 512), bs (ix2 i l) = a.bs ⟨l / 64, by omega⟩ i) (hng : ∀ l, ng (ix2 0 l) = a.gateG l) (i : Fin 128) (L : Fin 512) :
    kGate gv gu g β w0 w1 w2 w3 bs ng (ix2 i L) = rmsRow (Ideal.ofBits .f32 0x44000000#32) (gated a b ⟨128 * n + i, by omega⟩) a.gateG L := by
  refine (kGate_apply gv gu g β ![w0, w1, w2, w3] bs ng i L).trans ?_
  have hW : ∀ (p : Fin 4) (i : Fin 128) (s : Fin 256), (![w0, w1, w2, w3] : Fin 4 → Vec Ideal S1x128x256 .bf16) p (ix3 0 i s) = a.ws ⟨2 * p + s / 128, by omega⟩ i ⟨s % 128, by omega⟩ := by
    intro p i s
    fin_cases p
    exacts [hw0 i s, hw1 i s, hw2 i s, hw3 i s]
  generalize (![w0, w1, w2, w3] : Fin 4 → Vec Ideal S1x128x256 .bf16) = w at hW ⊢
  simp only [hW, hgv, hgu, hg, hβ, hbs, hng]
  refine congrArg (fun y => rmsRow _ y _ L) (funext fun l => ?_)
  unfold gated gateMix gateNorm
  have hn := n.isLt
  have hi := i.isLt
  have hl := l.isLt
  have e1 : (128 * n.val + i.val) % 128 = i.val := by omega
  have e2 : (128 * n.val + i.val) / 128 * 128 = 128 * n.val := by omega
  simp only [e1, e2]
  refine congrArg₂ (· * ·) rfl (congrArg₂ (· + ·) (Finset.sum_congr rfl fun t _ => ?_) rfl)
  refine congrArg₂ (· * ·) ?_ rfl
  have ht := t.isLt
  congr 1
  · congr 2
    omega
  · exact Fin.ext (by dsimp only <;> omega)

/-- A block of mixed rows, read back. -/
theorem mix_row (w : View sig .tc .vmem S512x1024 .bf16) {v1 v2 : S128x512.Idx → Ideal .bf16} (L : List (View.Piece (Elt Ideal) S512x1024 .bf16)) {o : ℕ} (ho : o ≤ 384)
    (inb : ∀ c, (![o, 0] : Fin 2 → ℕ) c + S128x1024.size c ≤ S512x1024.size c) (inb1 : ∀ c, (![o, 512] : Fin 2 → ℕ) c + S128x512.size c ≤ S512x1024.size c) (inb2 : ∀ c, (![o, 0] : Fin 2 → ℕ) c + S128x512.size c ≤ S512x1024.size c) (n : Fin 64)
    (h1 : ∀ i L, v1 (ix2 i L) = rmsRow (Ideal.ofBits .f32 0x44000000#32) (gated a b ⟨128 * n + i.val, by omega⟩) a.gateG L)
    (h2 : ∀ i L, v2 (ix2 i L) = rmsRow (Ideal.ofBits .f32 0x44000000#32) (attnRow a b ⟨128 * n + i.val, by omega⟩) a.attnG L) (i : Fin 128) (e : Fin 1024) :
    w.readCov (⟨Rect.unit (s := S512x1024) ![o, 512] S128x512.size inb1, v1⟩ :: ⟨Rect.unit (s := S512x1024) ![o, 0] S128x512.size inb2, v2⟩ :: L) (Rect.unit (s := S512x1024) ![o, 0] S128x1024.size inb).toLoadRect (ix2 i e)
      = mixRow a b ⟨128 * n + i, by omega⟩ e := by
  refine (readCov_box2 w _ inb ⟨o + i, by omega⟩ e i e rfl (by omega)).trans ?_
  unfold mixRow
  by_cases he : e.val < 512
  · rw [dif_pos he]
    refine (canon_skip2 _ _ _ _ _ (by omega)).trans ((canon_head2 _ _ _ _ _ i ⟨e, he⟩ rfl (by dsimp only; omega)).trans (h2 _ _))
  · rw [dif_neg he]
    exact (canon_head2 _ _ _ _ _ i ⟨e - 512, by omega⟩ rfl (by dsimp only; omega)).trans (h1 _ _)

/-- The residual and the out-projection of a block of rows. -/
theorem out_block (n : Fin 64) {x : Vec Ideal S1x128x1024 .f32} {mix : Vec Ideal S128x1024 .bf16} {w : Vec Ideal S1024x1024 .bf16} (hx : ∀ (i : Fin 128) (d : Fin 1024), x (ix3 0 i d) = a.x b ⟨128 * n + i, by omega⟩ d)
    (hm : ∀ (i : Fin 128) (e : Fin 1024), mix (ix2 i e) = mixRow a b ⟨128 * n + i, by omega⟩ e) (hw : ∀ k e, w (ix2 k e) = a.wOut k e) (i : Fin 128) (d : Fin 1024) :
    k0_pay117 x mix w (ix2 i d) = y1 a b ⟨128 * n + i, by omega⟩ d := by
  pointwise [k0_pay117]
  unfold y1
  simp only [hx, hm, hw]
  rfl

/-- The first normalisation, at an index. -/
theorem first_norm {y : Vec Ideal S512x1024 .f32} {g β : Vec Ideal S1x1024 .f32} (hg : ∀ j, g (ix2 0 j) = a.ln1G j) (hβ : ∀ j, β (ix2 0 j) = a.ln1B j) (r : Fin 512) (d : Fin 1024) :
    k0_pay68 y g β (ix2 r d) = x1Row a (fun k => y (ix2 r k)) d := by
  pointwise [k0_pay68]
  unfold x1Row lnRow
  simp only [hg, hβ]
  rfl

/-- The stored first normalisation, at an index. -/
theorem first_norm_kept {y : Vec Ideal S512x1024 .f32} {g β : Vec Ideal S1x1024 .f32} (hg : ∀ j, g (ix2 0 j) = a.ln1G j) (hβ : ∀ j, β (ix2 0 j) = a.ln1B j) (r : Fin 512) (d : Fin 1024) :
    k0_pay69 y g β (ix2 r d) = x1Row a (fun k => y (ix2 r k)) d := by
  refine Eq.trans ?_ (first_norm hg hβ r d)
  pointwise [k0_pay69]

/-- The narrowed first normalisation, at an index. -/
theorem first_norm_narrow {y : Vec Ideal S512x1024 .f32} {g β : Vec Ideal S1x1024 .f32} (hg : ∀ j, g (ix2 0 j) = a.ln1G j) (hβ : ∀ j, β (ix2 0 j) = a.ln1B j) (r : Fin 512) (d : Fin 1024) :
    k0_pay70 (k0_pay68 y g β) (ix2 r d) = x1Row a (fun k => y (ix2 r k)) d := by
  refine Eq.trans ?_ (first_norm hg hβ r d)
  pointwise [k0_pay70]

/-- A slice of the hidden rows, at an index. -/
theorem hid_block {x : Vec Ideal S512x1024 .bf16} {w : Vec Ideal S1024x512 .bf16} {o : ℕ} (ho : o ≤ 3584) (X : Fin 512 → Fin 1024 → EReal) (hx : ∀ r k, x (ix2 r k) = X r k) (hw : ∀ (k : Fin 1024) (f : Fin 512), w (ix2 k f) = a.w1 k ⟨o + f, by omega⟩) (r f : Fin 512) :
    k0_pay73 x w (ix2 r f) = hidden a (X r) ⟨o + f, by omega⟩ := by
  pointwise [k0_pay73]
  unfold hidden
  simp only [hx, hw]

/-- A quarter of the second product. -/
def quarter (a : Args) (x : Fin 1024 → EReal) (d : Fin 1024) (o : ℕ) (ho : o ≤ 3072) : EReal :=
  ∑ k : Fin 1024, hidden a x ⟨o + k, by omega⟩ * a.w2 ⟨o + k, by omega⟩ d

/-- A quarter of the second product, as two halves. -/
theorem quarter_halves {A B : Vec Ideal S512x512 .bf16} {w : Vec Ideal S1024x1024 .bf16} {o : ℕ} (ho : o ≤ 3072) (X : Fin 512 → Fin 1024 → EReal)
    (hA : ∀ r f : Fin 512, A (ix2 r f) = hidden a (X r) ⟨o + f, by omega⟩) (hB : ∀ r f : Fin 512, B (ix2 r f) = hidden a (X r) ⟨o + 512 + f, by omega⟩)
    (hw : ∀ k d : Fin 1024, w (ix2 k d) = a.w2 ⟨o + k, by omega⟩ d) (r : Fin 512) (d : Fin 1024) :
    ∑ x : Fin 512, A (ix2 r x) * w (ix2 ⟨x, by omega⟩ d) + ∑ x : Fin 512, B (ix2 r x) * w (ix2 ⟨512 + x, by omega⟩ d) = quarter a (X r) d o ho := by
  unfold quarter
  refine Eq.trans ?_ (Fin.sum_univ_add (a := 512) (b := 512) (fun k : Fin (512 + 512) => hidden a (X r) ⟨o + k, by omega⟩ * a.w2 ⟨o + k, by omega⟩ d)).symm
  simp only [hA, hB, hw]
  refine congrArg₂ (· + ·) rfl (Finset.sum_congr rfl fun k _ => ?_)
  congr 2 <;> first | rfl | (exact Fin.ext (by simp [Fin.natAdd]; omega))

/-- A quarter of the second product added to what is there, at an index. -/
theorem quarter_block {A B : Vec Ideal S512x512 .bf16} {w : Vec Ideal S1024x1024 .bf16} {c : Vec Ideal S512x1024 .f32} {o : ℕ} (ho : o ≤ 3072) (X : Fin 512 → Fin 1024 → EReal)
    (hA : ∀ r f : Fin 512, A (ix2 r f) = hidden a (X r) ⟨o + f, by omega⟩) (hB : ∀ r f : Fin 512, B (ix2 r f) = hidden a (X r) ⟨o + 512 + f, by omega⟩)
    (hw : ∀ k d : Fin 1024, w (ix2 k d) = a.w2 ⟨o + k, by omega⟩ d) (r : Fin 512) (d : Fin 1024) :
    k0_pay156 A B w c (ix2 r d) = c (ix2 r d) + quarter a (X r) d o ho := by
  pointwise [k0_pay156]
  exact congrArg (c (ix2 r d) + ·) (quarter_halves ho X hA hB hw r d)

/-- The first quarter of the second product and the residual, at an index. -/
theorem first_quarter {A B : Vec Ideal S512x512 .bf16} {w : Vec Ideal S1024x1024 .bf16} {c : Vec Ideal S512x1024 .f32} (X : Fin 512 → Fin 1024 → EReal)
    (hA : ∀ r f : Fin 512, A (ix2 r f) = hidden a (X r) ⟨0 + f, by omega⟩) (hB : ∀ r f : Fin 512, B (ix2 r f) = hidden a (X r) ⟨0 + 512 + f, by omega⟩)
    (hw : ∀ k d : Fin 1024, w (ix2 k d) = a.w2 ⟨0 + k, by omega⟩ d) (r : Fin 512) (d : Fin 1024) :
    k0_pay118 A B w c (ix2 r d) = alpha * c (ix2 r d) + quarter a (X r) d 0 (by omega) := by
  pointwise [k0_pay118]
  exact congrArg (alpha * c (ix2 r d) + ·) (quarter_halves (by omega) X hA hB hw r d)

/-- The second normalisation, at an index. -/
theorem second_norm {y : Vec Ideal S512x1024 .f32} {g β : Vec Ideal S1x1024 .f32} (hg : ∀ j, g (ix2 0 j) = a.ln2G j) (hβ : ∀ j, β (ix2 0 j) = a.ln2B j) (r : Fin 512) (d : Fin 1024) :
    k0_pay67 (k0_pay62 g) (k0_pay63 β) (k0_pay64 y) (k0_pay65 y) k0_pay66 (ix3 0 r d) = outRow a (fun k => y (ix2 r k)) d := by
  pointwise [k0_pay67, k0_pay62, k0_pay63, k0_pay64, k0_pay65, k0_pay66]
  unfold outRow lnRow
  simp only [hg, hβ]
  rfl

/-- The four quarters make the second product. -/
theorem quarters (x : Fin 1024 → EReal) (d : Fin 1024) :
    alpha * x d + quarter a x d 0 (by omega) + quarter a x d 1024 (by omega) + quarter a x d 2048 (by omega) + quarter a x d 3072 (by omega) = y2Row a x d := by
  unfold y2Row
  have h := Fin.sum_univ_add (a := 3072) (b := 1024) (fun f : Fin (3072 + 1024) => hidden a x f * a.w2 f d)
  have h' := Fin.sum_univ_add (a := 2048) (b := 1024) (fun f : Fin (2048 + 1024) => hidden a x (Fin.castAdd 1024 f : Fin (3072 + 1024)) * a.w2 (Fin.castAdd 1024 f : Fin (3072 + 1024)) d)
  have h'' := Fin.sum_univ_add (a := 1024) (b := 1024) (fun f : Fin (1024 + 1024) => hidden a x (Fin.castAdd 1024 (Fin.castAdd 1024 f : Fin (2048 + 1024)) : Fin (3072 + 1024)) * a.w2 (Fin.castAdd 1024 (Fin.castAdd 1024 f : Fin (2048 + 1024)) : Fin (3072 + 1024)) d)
  refine Eq.trans ?_ (congrArg (alpha * x d + ·) (h.trans (congrArg (· + _) (h'.trans (congrArg (· + _) h'')))).symm)
  simp only [add_assoc]
  unfold quarter
  refine congrArg₂ (· + ·) rfl (congrArg₂ (· + ·) ?_ rfl)
  refine Finset.sum_congr rfl fun k _ => ?_
  congr 2 <;> exact Fin.ext (Nat.zero_add _)

end Cert.Proof

end
-- ==== Proof.Bias.lean ====
module

public import proofs.«01_k».proof.Proof.Gen.KernelIdeal.Frame.RunA
public import proofs.«01_k».proof.Proof.Gen.KernelIdeal.Frame.RunB
public import proofs.«01_k».proof.Proof.Block

/-! The table of distances the first step fills. -/

@[expose] public section

set_option maxRecDepth 16384

noncomputable section

namespace Cert.Proof

open Idealize.ShloMosaic
open Cert.KernelIdeal Cert.KernelIdeal.Gen

/-- The distance of a query and a key of a block's window, as a word. -/
theorem pay2_apply (κ' : Fin 384) (i : Fin 128) : k0_pay2 (ix2 κ' i) = BitVec.ofNat 32 ((i.val : ℤ) + 128 - κ').natAbs := by
  pointwise [k0_pay2]
  have hx : IntOp.subi (IntOp.subi (BitVec.ofNat 32 κ'.val) 128#32) (BitVec.ofNat 32 i.val) = BitVec.ofInt 32 ((κ'.val : ℤ) - 128 - i) := by
    simp only [IntOp.subi]
    rw [sub_eq_add_neg, sub_eq_add_neg, BitVec.ofInt_add, BitVec.ofInt_add, BitVec.ofInt_neg, BitVec.ofInt_neg, BitVec.ofInt_natCast, BitVec.ofInt_natCast, BitVec.sub_eq_add_neg, BitVec.sub_eq_add_neg]
    rfl
  rw [hx]
  unfold IntOp.absi
  by_cases h : 128 + i.val ≤ κ'.val
  · have e : BitVec.ofInt 32 ((κ'.val : ℤ) - 128 - i) = BitVec.ofNat 32 (κ'.val - 128 - i) := by
      rw [← BitVec.ofInt_natCast]; congr 1; omega
    have hm : (BitVec.ofNat 32 (κ'.val - 128 - i)).msb = false := by
      rw [BitVec.msb_eq_false_iff_two_mul_lt, BitVec.toNat_ofNat]; omega
    rw [e, hm, if_neg (by simp)]
    congr 1; omega
  · have e : BitVec.ofInt 32 ((κ'.val : ℤ) - 128 - i) = -BitVec.ofNat 32 (128 + i.val - κ') := by
      rw [← BitVec.ofInt_natCast, ← BitVec.ofInt_neg]; congr 1; omega
    have hm : (-BitVec.ofNat 32 (128 + i.val - κ')).msb = true := by
      rw [BitVec.msb_eq_true_iff_two_mul_ge, BitVec.toNat_neg, BitVec.toNat_ofNat]; omega
    rw [e, hm, if_pos rfl, BitVec.neg_neg]
    congr 1; omega

/-- The distance as a value. -/
theorem pay3_apply (κ' : Fin 384) (i : Fin 128) : k0_pay3 (F := Ideal) (ix2 κ' i) = ((dist i κ' : ℝ) : EReal) := by
  pointwise [k0_pay3]
  rw [pay2_apply]
  show ((((BitVec.ofNat 32 ((i.val : ℤ) + 128 - κ').natAbs).toInt : ℝ)) : EReal) = _
  rw [BitVec.toInt_eq_toNat_of_lt (by rw [BitVec.toNat_ofNat]; omega), BitVec.toNat_ofNat, Nat.mod_eq_of_lt (by omega)]
  rfl

/-- Which keys are within a query's reach. -/
theorem pay2_le (κ' : Fin 384) (i : Fin 128) : IntOp.cmpi CmpIPredicate.sle (k0_pay2 (ix2 κ' i)) 128#32 = if κ'.val ≤ i.val + 256 ∧ i.val ≤ κ'.val then 1#1 else 0#1 := by
  rw [pay2_apply]
  have h : ((BitVec.ofNat 32 ((i.val : ℤ) + 128 - κ').natAbs).sle 128#32) = decide (κ'.val ≤ i.val + 256 ∧ i.val ≤ κ'.val) := by
    rw [BitVec.sle_eq_decide, BitVec.toInt_eq_toNat_of_lt (by rw [BitVec.toNat_ofNat]; omega), BitVec.toNat_ofNat, Nat.mod_eq_of_lt (by omega)]
    refine decide_eq_decide.mpr ?_
    show _ ≤ (128 : ℤ) ↔ _
    omega
  unfold IntOp.cmpi
  dsimp only
  rw [h]
  by_cases hc : κ'.val ≤ i.val + 256 ∧ i.val ≤ κ'.val
  · rw [if_pos hc, decide_eq_true hc]; rfl
  · rw [if_neg hc, decide_eq_false hc]; rfl

/-- An entry of the table. -/
theorem bias_entry (h : ℕ) (κ' : Fin 384) (i : Fin 128) (w : ℝ) (hw : w = 1 / 2 ^ (h + 1)) (v : EReal) (hv : v = ((-(w * (Real.log 2)⁻¹) : ℝ) : EReal)) :
    Scalar.select (IntOp.cmpi CmpIPredicate.sle (k0_pay2 (ix2 κ' i)) 128#32) (v * k0_pay3 (F := Ideal) (ix2 κ' i)) (Ideal.ofBits .f32 0xFF800000#32)
      = if κ'.val ≤ i.val + 256 ∧ i.val ≤ κ'.val then (((Real.log 2)⁻¹ * (-slope h * dist i κ') : ℝ) : EReal) else ⊥ := by
  rw [pay2_le, pay3_apply, hv]
  by_cases hc : κ'.val ≤ i.val + 256 ∧ i.val ≤ κ'.val
  · rw [if_pos hc, if_pos hc]
    show ((_ : ℝ) : EReal) * ((_ : ℝ) : EReal) = _
    rw [← EReal.coe_mul]
    congr 1
    rw [hw]
    unfold slope
    ring
  · rw [if_neg hc, if_neg hc]
    show Ideal.ofBits .f32 0xFF800000#32 = ⊥
    simp [Ideal.ofBits, Ideal.ieee]

/-- Head 0's table. -/
theorem table_0 (κ' : Fin 384) (i : Fin 128) : k0_pay4 (F := Ideal) (ix3 0 κ' i) = if κ'.val ≤ i.val + 256 ∧ i.val ≤ κ'.val then (((Real.log 2)⁻¹ * (-slope 0 * dist i κ') : ℝ) : EReal) else ⊥ := by
  pointwise [k0_pay4]
  exact bias_entry 0 κ' i (1 / 2) (by norm_num) _ (IdealRules.named_const.ideal_named_scalar _ _ _ _ rfl)

/-- Head 1's table. -/
theorem table_1 (κ' : Fin 384) (i : Fin 128) : k0_pay5 (F := Ideal) (ix3 0 κ' i) = if κ'.val ≤ i.val + 256 ∧ i.val ≤ κ'.val then (((Real.log 2)⁻¹ * (-slope 1 * dist i κ') : ℝ) : EReal) else ⊥ := by
  pointwise [k0_pay5]
  exact bias_entry 1 κ' i (1 / 4) (by norm_num) _ (IdealRules.named_const.ideal_named_scalar _ _ _ _ rfl)

/-- Head 2's table. -/
theorem table_2 (κ' : Fin 384) (i : Fin 128) : k0_pay6 (F := Ideal) (ix3 0 κ' i) = if κ'.val ≤ i.val + 256 ∧ i.val ≤ κ'.val then (((Real.log 2)⁻¹ * (-slope 2 * dist i κ') : ℝ) : EReal) else ⊥ := by
  pointwise [k0_pay6]
  exact bias_entry 2 κ' i (1 / 8) (by norm_num) _ (IdealRules.named_const.ideal_named_scalar _ _ _ _ rfl)

/-- Head 3's table. -/
theorem table_3 (κ' : Fin 384) (i : Fin 128) : k0_pay8 (F := Ideal) k0_pay3 k0_pay7 kernelRun0_A.sl.cst_890 (ix3 0 κ' i) = if κ'.val ≤ i.val + 256 ∧ i.val ≤ κ'.val then (((Real.log 2)⁻¹ * (-slope 3 * dist i κ') : ℝ) : EReal) else ⊥ := by
  pointwise [k0_pay8, k0_pay7, kernelRun0_A.sl.cst_890]
  exact bias_entry 3 κ' i (1 / 16) (by norm_num) _ (IdealRules.named_const.ideal_named_scalar _ _ _ _ rfl)

/-- Head 4's table. -/
theorem table_4 (κ' : Fin 384) (i : Fin 128) : k0_pay9 (F := Ideal) k0_pay2 k0_pay3 (ix3 0 κ' i) = if κ'.val ≤ i.val + 256 ∧ i.val ≤ κ'.val then (((Real.log 2)⁻¹ * (-slope 4 * dist i κ') : ℝ) : EReal) else ⊥ := by
  pointwise [k0_pay9]
  exact bias_entry 4 κ' i (1 / 32) (by norm_num) _ (IdealRules.named_const.ideal_named_scalar _ _ _ _ rfl)

/-- Head 5's table. -/
theorem table_5 (κ' : Fin 384) (i : Fin 128) : k0_pay10 (F := Ideal) k0_pay2 k0_pay3 (ix3 0 κ' i) = if κ'.val ≤ i.val + 256 ∧ i.val ≤ κ'.val then (((Real.log 2)⁻¹ * (-slope 5 * dist i κ') : ℝ) : EReal) else ⊥ := by
  pointwise [k0_pay10]
  exact bias_entry 5 κ' i (1 / 64) (by norm_num) _ (IdealRules.named_const.ideal_named_scalar _ _ _ _ rfl)

/-- Head 6's table. -/
theorem table_6 (κ' : Fin 384) (i : Fin 128) : k0_pay11 (F := Ideal) k0_pay2 k0_pay3 (ix3 0 κ' i) = if κ'.val ≤ i.val + 256 ∧ i.val ≤ κ'.val then (((Real.log 2)⁻¹ * (-slope 6 * dist i κ') : ℝ) : EReal) else ⊥ := by
  pointwise [k0_pay11]
  exact bias_entry 6 κ' i (1 / 128) (by norm_num) _ (IdealRules.named_const.ideal_named_scalar _ _ _ _ rfl)

/-- Head 7's table. -/
theorem table_7 (κ' : Fin 384) (i : Fin 128) : k0_pay12 (F := Ideal) k0_pay2 k0_pay3 (ix3 0 κ' i) = if κ'.val ≤ i.val + 256 ∧ i.val ≤ κ'.val then (((Real.log 2)⁻¹ * (-slope 7 * dist i κ') : ℝ) : EReal) else ⊥ := by
  pointwise [k0_pay12]
  exact bias_entry 7 κ' i (1 / 256) (by norm_num) _ (IdealRules.named_const.ideal_named_scalar _ _ _ _ rfl)

/-- The table after its stores. -/
theorem tableA : BRows (View.canon (Val := Elt Ideal) kernelRun0_A.sl.HS5_8) := by
  intro h κ' i
  unfold kernelRun0_A.sl.HS5_8
  fin_cases h
  · iterate 7 refine (canon_skip3 _ _ _ _ _ _ (by dsimp only; omega)).trans ?_
    exact (canon_head3 _ _ _ _ _ _ 0 κ' i rfl (by omega) (by omega)).trans (table_0 κ' i)
  · iterate 6 refine (canon_skip3 _ _ _ _ _ _ (by dsimp only; omega)).trans ?_
    exact (canon_head3 _ _ _ _ _ _ 0 κ' i rfl (by omega) (by omega)).trans (table_1 κ' i)
  · iterate 5 refine (canon_skip3 _ _ _ _ _ _ (by dsimp only; omega)).trans ?_
    exact (canon_head3 _ _ _ _ _ _ 0 κ' i rfl (by omega) (by omega)).trans (table_2 κ' i)
  · iterate 4 refine (canon_skip3 _ _ _ _ _ _ (by dsimp only; omega)).trans ?_
    exact (canon_head3 _ _ _ _ _ _ 0 κ' i rfl (by omega) (by omega)).trans (table_3 κ' i)
  · iterate 3 refine (canon_skip3 _ _ _ _ _ _ (by dsimp only; omega)).trans ?_
    exact (canon_head3 _ _ _ _ _ _ 0 κ' i rfl (by omega) (by omega)).trans (table_4 κ' i)
  · iterate 2 refine (canon_skip3 _ _ _ _ _ _ (by dsimp only; omega)).trans ?_
    exact (canon_head3 _ _ _ _ _ _ 0 κ' i rfl (by omega) (by omega)).trans (table_5 κ' i)
  · iterate 1 refine (canon_skip3 _ _ _ _ _ _ (by dsimp only; omega)).trans ?_
    exact (canon_head3 _ _ _ _ _ _ 0 κ' i rfl (by omega) (by omega)).trans (table_6 κ' i)
  · exact (canon_head3 _ _ _ _ _ _ 0 κ' i rfl (by omega) (by omega)).trans (table_7 κ' i)

/-- Whether a step's tile is the first of its sequence. -/
theorem firstA (t : Fin cfg0.N) : kernelRun0_A.sl.v225 (grid0.coords t) = 0#1 ↔ min t.val 127 % 16 = 0 :=
  (by decide +kernel : ∀ t : Fin grid0.N, kernelRun0_A.sl.v225 (grid0.coords t) = 0#1 ↔ min t.val 127 % 16 = 0) t

/-- Whether a step's tile is the last of its sequence. -/
theorem lastA (t : Fin cfg0.N) : kernelRun0_A.sl.v226 (grid0.coords t) = 0#1 ↔ min t.val 127 % 16 = 15 :=
  (by decide +kernel : ∀ t : Fin grid0.N, kernelRun0_A.sl.v226 (grid0.coords t) = 0#1 ↔ min t.val 127 % 16 = 15) t

/-- Whether a later step's tile is the first of its sequence. -/
theorem firstB (t : Fin cfg0.N) : kernelRun0_B.sl.v225 (grid0.coords t) = 0#1 ↔ min t.val 127 % 16 = 0 :=
  (by decide +kernel : ∀ t : Fin grid0.N, kernelRun0_B.sl.v225 (grid0.coords t) = 0#1 ↔ min t.val 127 % 16 = 0) t

/-- Whether a later step's tile is the last of its sequence. -/
theorem lastB (t : Fin cfg0.N) : kernelRun0_B.sl.v226 (grid0.coords t) = 0#1 ↔ min t.val 127 % 16 = 15 :=
  (by decide +kernel : ∀ t : Fin grid0.N, kernelRun0_B.sl.v226 (grid0.coords t) = 0#1 ↔ min t.val 127 % 16 = 15) t

end Cert.Proof

end
-- ==== Proof.MixA.lean ====
module

public import proofs.«01_k».proof.Proof.Gen.KernelIdeal.Frame.RunA
public import proofs.«01_k».proof.Proof.Canon

/-! The blocks of mixed rows, as the arithmetic of what they read. -/

@[expose] public section

set_option maxRecDepth 16384

noncomputable section

namespace Cert.Proof

open Idealize.ShloMosaic
open Cert.KernelIdeal Cert.KernelIdeal.Gen

/-- Block 0 of the attention half. -/
theorem attnA_0 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {arg20 : Memref sig .tc .vmem S4x128x768 .bf16} {arg23 : Memref sig .tc .vmem S8x384x128 .f32} {x0 : Vec Ideal S8 .f32} {x1 : Vec Ideal S1x512x1024 .f32} {x2 : Vec Ideal S1x128x1024 .f32} {x3 : Vec Ideal S1024x1792 .bf16} {x8 : Vec Ideal S1x1024 .f32} :
    k0_pay105 (kernelRun0_A.sl.r_28 c i arg1 harg1 arg2 harg2 arg3 harg3 arg4 harg4 arg18 arg19 arg20 arg23 x0 x1 x2 x3) (kernelRun0_A.sl.r_31 c i arg1 harg1 arg2 harg2 arg3 harg3 arg4 harg4 arg18 arg19 arg20 arg23 x0 x1 x2 x3) (kernelRun0_A.sl.r_39 c i arg1 harg1 arg2 harg2 arg3 harg3 arg4 harg4 arg18 arg19 arg23 x0 x1 x2 x3) (kernelRun0_A.sl.r_43 c i arg1 harg1 arg2 harg2 arg3 harg3 arg4 harg4 arg18 arg19 arg23 x0 x1 x2 x3) (kernelRun0_A.sl.r_44 c i arg1 harg1 arg2 harg2 arg3 harg3 arg4 harg4 arg18 arg19 arg23 x0 x1 x2 x3) (kernelRun0_A.sl.r_45 c i arg1 harg1 arg2 harg2 arg3 harg3 arg4 harg4 arg18 arg19 arg23 x0 x1 x2 x3) (kernelRun0_A.sl.r_46 c i arg1 harg1 arg2 harg2 arg3 harg3 arg4 harg4 arg18 arg19 arg23 x0 x1 x2 x3) (kernelRun0_A.sl.v509 c arg2 harg2 arg3 harg3 arg4 harg4 arg20 x1 x2 x3) (kernelRun0_A.sl.v511 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8))
      = kAttn 0 (kernelRun0_A.sl.v225 i) (kernelRun0_A.sl.v226 i) (kernelRun0_A.sl.v227 c arg2 harg2 arg4 harg4 arg18 x1 x3) (kernelRun0_A.sl.v228 c arg2 harg2 arg4 harg4 arg18 x1 x3) (kernelRun0_A.sl.v373 c arg2 harg2 arg4 harg4 arg18 x1 x3) (kernelRun0_A.sl.v374 c arg2 harg2 arg4 harg4 arg18 x1 x3) (kernelRun0_A.sl.v230 c arg2 harg2 arg3 harg3 arg4 harg4 arg19 x1 x2 x3) (kernelRun0_A.sl.v232 c arg2 harg2 arg3 harg3 arg4 harg4 arg19 x1 x2 x3) (kernelRun0_A.sl.v376 c arg2 harg2 arg3 harg3 arg4 harg4 arg19 x1 x2 x3) (kernelRun0_A.sl.v378 c arg2 harg2 arg3 harg3 arg4 harg4 arg19 x1 x2 x3) (kernelRun0_A.sl.v363 c arg2 harg2 arg3 harg3 arg4 harg4 arg20 x1 x2 x3) (kernelRun0_A.sl.v365 c arg2 harg2 arg3 harg3 arg4 harg4 arg20 x1 x2 x3) (kernelRun0_A.sl.v509 c arg2 harg2 arg3 harg3 arg4 harg4 arg20 x1 x2 x3) (kernelRun0_A.sl.v511 c arg2 harg2 arg3 harg3 arg4 harg4 arg20 x1 x2 x3) (View.readCov arg23.view kernelRun0_A.sl.HS5_8 (Rect.unit (s := S8x384x128) ![0, 0, 0] S1x384x128.size inb_S8x384x128_S1x384x128_0_0_0).toLoadRect) (View.readCov arg23.view kernelRun0_A.sl.HS5_8 (Rect.unit (s := S8x384x128) ![1, 0, 0] S1x384x128.size inb_S8x384x128_S1x384x128_1_0_0).toLoadRect) (View.readCov arg23.view kernelRun0_A.sl.HS5_8 (Rect.unit (s := S8x384x128) ![2, 0, 0] S1x384x128.size inb_S8x384x128_S1x384x128_2_0_0).toLoadRect) (View.readCov arg23.view kernelRun0_A.sl.HS5_8 (Rect.unit (s := S8x384x128) ![3, 0, 0] S1x384x128.size inb_S8x384x128_S1x384x128_3_0_0).toLoadRect) (View.readCov arg23.view kernelRun0_A.sl.HS5_8 (Rect.unit (s := S8x384x128) ![4, 0, 0] S1x384x128.size inb_S8x384x128_S1x384x128_4_0_0).toLoadRect) (View.readCov arg23.view kernelRun0_A.sl.HS5_8 (Rect.unit (s := S8x384x128) ![5, 0, 0] S1x384x128.size inb_S8x384x128_S1x384x128_5_0_0).toLoadRect) (View.readCov arg23.view kernelRun0_A.sl.HS5_8 (Rect.unit (s := S8x384x128) ![6, 0, 0] S1x384x128.size inb_S8x384x128_S1x384x128_6_0_0).toLoadRect) (View.readCov arg23.view kernelRun0_A.sl.HS5_8 (Rect.unit (s := S8x384x128) ![7, 0, 0] S1x384x128.size inb_S8x384x128_S1x384x128_7_0_0).toLoadRect) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 0 of the gating half. -/
theorem gateA_0 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay115 (kernelRun0_A.sl.r_53 c arg2 harg2 arg4 harg4 arg5 harg5 arg6 harg6 arg7 harg7 arg8 harg8 arg22 x1 x3 x4 x5 x6 x7) (kernelRun0_A.sl.v619 c arg2 harg2 arg4 harg4 arg21 x1 x3) (View.readAt (Elt Ideal) arg9.view (Rect.unit (s := S1x1024) ![0, 512] S1x512.size inb_S1x1024_S1x512_0_512).toLoadRect (Memref.IsWhole.unread harg9 x8))
      = kGate (kernelRun0_A.sl.v538 c arg2 harg2 arg4 harg4 arg22 x1 x3) (kernelRun0_A.sl.v619 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 1 of the attention half. -/
theorem attnA_1 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {arg20 : Memref sig .tc .vmem S4x128x768 .bf16} {arg23 : Memref sig .tc .vmem S8x384x128 .f32} {x0 : Vec Ideal S8 .f32} {x1 : Vec Ideal S1x512x1024 .f32} {x2 : Vec Ideal S1x128x1024 .f32} {x3 : Vec Ideal S1024x1792 .bf16} {x8 : Vec Ideal S1x1024 .f32} :
    k0_pay142 (kernelRun0_A.sl.r_64 c arg1 harg1 arg2 harg2 arg3 harg3 arg4 harg4 arg18 arg19 arg20 arg23 x0 x1 x2 x3) (kernelRun0_A.sl.r_65 c arg1 harg1 arg2 harg2 arg3 harg3 arg4 harg4 arg18 arg19 arg20 arg23 x0 x1 x2 x3) (kernelRun0_A.sl.r_74 c arg1 harg1 arg2 harg2 arg3 harg3 arg4 harg4 arg18 arg19 arg23 x0 x1 x2 x3) (kernelRun0_A.sl.r_75 c arg2 harg2 arg3 harg3 arg4 harg4 arg20 x1 x2 x3) (kernelRun0_A.sl.v906 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8))
      = kAttn 1 (kernelRun0_A.sl.v225 i) (kernelRun0_A.sl.v226 i) (kernelRun0_A.sl.v647 c arg2 harg2 arg4 harg4 arg18 x1 x3) (kernelRun0_A.sl.v648 c arg2 harg2 arg4 harg4 arg18 x1 x3) (kernelRun0_A.sl.v788 c arg2 harg2 arg4 harg4 arg18 x1 x3) (kernelRun0_A.sl.v789 c arg2 harg2 arg4 harg4 arg18 x1 x3) (kernelRun0_A.sl.v650 c arg2 harg2 arg3 harg3 arg4 harg4 arg19 x1 x2 x3) (kernelRun0_A.sl.v652 c arg2 harg2 arg3 harg3 arg4 harg4 arg19 x1 x2 x3) (kernelRun0_A.sl.v791 c arg2 harg2 arg3 harg3 arg4 harg4 arg19 x1 x2 x3) (kernelRun0_A.sl.v793 c arg2 harg2 arg3 harg3 arg4 harg4 arg19 x1 x2 x3) (kernelRun0_A.sl.v778 c arg2 harg2 arg3 harg3 arg4 harg4 arg20 x1 x2 x3) (kernelRun0_A.sl.v780 c arg2 harg2 arg3 harg3 arg4 harg4 arg20 x1 x2 x3) (kernelRun0_A.sl.v904 c arg2 harg2 arg3 harg3 arg4 harg4 arg20 x1 x2 x3) (kernelRun0_A.sl.v906 c arg2 harg2 arg3 harg3 arg4 harg4 arg20 x1 x2 x3) (View.readCov arg23.view kernelRun0_A.sl.HS5_8 (Rect.unit (s := S8x384x128) ![0, 0, 0] S1x384x128.size inb_S8x384x128_S1x384x128_0_0_0).toLoadRect) (View.readCov arg23.view kernelRun0_A.sl.HS5_8 (Rect.unit (s := S8x384x128) ![1, 0, 0] S1x384x128.size inb_S8x384x128_S1x384x128_1_0_0).toLoadRect) (View.readCov arg23.view kernelRun0_A.sl.HS5_8 (Rect.unit (s := S8x384x128) ![2, 0, 0] S1x384x128.size inb_S8x384x128_S1x384x128_2_0_0).toLoadRect) (View.readCov arg23.view kernelRun0_A.sl.HS5_8 (Rect.unit (s := S8x384x128) ![3, 0, 0] S1x384x128.size inb_S8x384x128_S1x384x128_3_0_0).toLoadRect) (View.readCov arg23.view kernelRun0_A.sl.HS5_8 (Rect.unit (s := S8x384x128) ![4, 0, 0] S1x384x128.size inb_S8x384x128_S1x384x128_4_0_0).toLoadRect) (View.readCov arg23.view kernelRun0_A.sl.HS5_8 (Rect.unit (s := S8x384x128) ![5, 0, 0] S1x384x128.size inb_S8x384x128_S1x384x128_5_0_0).toLoadRect) (View.readCov arg23.view kernelRun0_A.sl.HS5_8 (Rect.unit (s := S8x384x128) ![6, 0, 0] S1x384x128.size inb_S8x384x128_S1x384x128_6_0_0).toLoadRect) (View.readCov arg23.view kernelRun0_A.sl.HS5_8 (Rect.unit (s := S8x384x128) ![7, 0, 0] S1x384x128.size inb_S8x384x128_S1x384x128_7_0_0).toLoadRect) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 1 of the gating half. -/
theorem gateA_1 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay151 (kernelRun0_A.sl.r_84 c arg2 harg2 arg4 harg4 arg5 harg5 arg6 harg6 arg7 harg7 arg8 harg8 arg21 arg22 x1 x3 x4 x5 x6 x7) (kernelRun0_A.sl.r_85 c arg9 harg9 x8)
      = kGate (kernelRun0_A.sl.v933 c arg2 harg2 arg4 harg4 arg22 x1 x3) (kernelRun0_A.sl.v1014 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 2 of the attention half. -/
theorem attnA_2 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {arg20 : Memref sig .tc .vmem S4x128x768 .bf16} {arg23 : Memref sig .tc .vmem S8x384x128 .f32} {x0 : Vec Ideal S8 .f32} {x1 : Vec Ideal S1x512x1024 .f32} {x2 : Vec Ideal S1x128x1024 .f32} {x3 : Vec Ideal S1024x1792 .bf16} {x8 : Vec Ideal S1x1024 .f32} :
    k0_pay177 (kernelRun0_A.sl.r_102 c arg1 harg1 arg2 harg2 arg3 harg3 arg4 harg4 arg18 arg19 arg20 arg23 x0 x1 x2 x3) (kernelRun0_A.sl.r_103 c arg9 harg9 x8) (kernelRun0_A.sl.r_104 c arg1 harg1 arg2 harg2 arg3 harg3 arg4 harg4 arg18 arg19 arg20 arg23 x0 x1 x2 x3)
      = kAttn 2 (kernelRun0_A.sl.v225 i) (kernelRun0_A.sl.v226 i) (kernelRun0_A.sl.v1042 c arg2 harg2 arg4 harg4 arg18 x1 x3) (kernelRun0_A.sl.v1043 c arg2 harg2 arg4 harg4 arg18 x1 x3) (kernelRun0_A.sl.v1181 c arg2 harg2 arg4 harg4 arg18 x1 x3) (kernelRun0_A.sl.v1182 c arg2 harg2 arg4 harg4 arg18 x1 x3) (kernelRun0_A.sl.v1045 c arg2 harg2 arg3 harg3 arg4 harg4 arg19 x1 x2 x3) (kernelRun0_A.sl.v1047 c arg2 harg2 arg3 harg3 arg4 harg4 arg19 x1 x2 x3) (kernelRun0_A.sl.v1184 c arg2 harg2 arg3 harg3 arg4 harg4 arg19 x1 x2 x3) (kernelRun0_A.sl.v1186 c arg2 harg2 arg3 harg3 arg4 harg4 arg19 x1 x2 x3) (kernelRun0_A.sl.v1171 c arg2 harg2 arg3 harg3 arg4 harg4 arg20 x1 x2 x3) (kernelRun0_A.sl.v1173 c arg2 harg2 arg3 harg3 arg4 harg4 arg20 x1 x2 x3) (kernelRun0_A.sl.v1297 c arg2 harg2 arg3 harg3 arg4 harg4 arg20 x1 x2 x3) (kernelRun0_A.sl.v1299 c arg2 harg2 arg3 harg3 arg4 harg4 arg20 x1 x2 x3) (View.readCov arg23.view kernelRun0_A.sl.HS5_8 (Rect.unit (s := S8x384x128) ![0, 0, 0] S1x384x128.size inb_S8x384x128_S1x384x128_0_0_0).toLoadRect) (View.readCov arg23.view kernelRun0_A.sl.HS5_8 (Rect.unit (s := S8x384x128) ![1, 0, 0] S1x384x128.size inb_S8x384x128_S1x384x128_1_0_0).toLoadRect) (View.readCov arg23.view kernelRun0_A.sl.HS5_8 (Rect.unit (s := S8x384x128) ![2, 0, 0] S1x384x128.size inb_S8x384x128_S1x384x128_2_0_0).toLoadRect) (View.readCov arg23.view kernelRun0_A.sl.HS5_8 (Rect.unit (s := S8x384x128) ![3, 0, 0] S1x384x128.size inb_S8x384x128_S1x384x128_3_0_0).toLoadRect) (View.readCov arg23.view kernelRun0_A.sl.HS5_8 (Rect.unit (s := S8x384x128) ![4, 0, 0] S1x384x128.size inb_S8x384x128_S1x384x128_4_0_0).toLoadRect) (View.readCov arg23.view kernelRun0_A.sl.HS5_8 (Rect.unit (s := S8x384x128) ![5, 0, 0] S1x384x128.size inb_S8x384x128_S1x384x128_5_0_0).toLoadRect) (View.readCov arg23.view kernelRun0_A.sl.HS5_8 (Rect.unit (s := S8x384x128) ![6, 0, 0] S1x384x128.size inb_S8x384x128_S1x384x128_6_0_0).toLoadRect) (View.readCov arg23.view kernelRun0_A.sl.HS5_8 (Rect.unit (s := S8x384x128) ![7, 0, 0] S1x384x128.size inb_S8x384x128_S1x384x128_7_0_0).toLoadRect) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 2 of the gating half. -/
theorem gateA_2 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay190 (kernelRun0_A.sl.r_114 c arg2 harg2 arg4 harg4 arg5 harg5 arg6 harg6 arg7 harg7 arg8 harg8 arg9 harg9 arg21 arg22 x1 x3 x4 x5 x6 x7 x8)
      = kGate (kernelRun0_A.sl.v1326 c arg2 harg2 arg4 harg4 arg22 x1 x3) (kernelRun0_A.sl.v1407 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 3 of the attention half. -/
theorem attnA_3 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {arg20 : Memref sig .tc .vmem S4x128x768 .bf16} {arg23 : Memref sig .tc .vmem S8x384x128 .f32} {x0 : Vec Ideal S8 .f32} {x1 : Vec Ideal S1x512x1024 .f32} {x2 : Vec Ideal S1x128x1024 .f32} {x3 : Vec Ideal S1024x1792 .bf16} {x8 : Vec Ideal S1x1024 .f32} :
    k0_pay221 (kernelRun0_A.sl.r_124 c i arg1 harg1 arg2 harg2 arg3 harg3 arg4 harg4 arg18 arg19 arg20 arg23 x0 x1 x2 x3) (kernelRun0_A.sl.r_125 c i arg1 harg1 arg2 harg2 arg3 harg3 arg4 harg4 arg18 arg19 arg20 arg23 x0 x1 x2 x3) (kernelRun0_A.sl.r_131 c i arg1 harg1 arg2 harg2 arg3 harg3 arg4 harg4 arg18 arg19 arg23 x0 x1 x2 x3) (kernelRun0_A.sl.r_134 c i arg1 harg1 arg2 harg2 arg3 harg3 arg4 harg4 arg18 arg19 arg23 x0 x1 x2 x3) (kernelRun0_A.sl.r_135 c i arg1 harg1 arg2 harg2 arg3 harg3 arg4 harg4 arg18 arg19 arg23 x0 x1 x2 x3) (kernelRun0_A.sl.r_136 c i arg1 harg1 arg2 harg2 arg3 harg3 arg4 harg4 arg18 arg19 arg23 x0 x1 x2 x3) kernelRun0_A.sl.cst_790 (kernelRun0_A.sl.v1730 c arg2 harg2 arg3 harg3 arg4 harg4 arg20 x1 x2 x3) (kernelRun0_A.sl.v1732 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8))
      = kAttn 3 (kernelRun0_A.sl.v225 i) (kernelRun0_A.sl.v226 i) (kernelRun0_A.sl.v1435 c arg2 harg2 arg4 harg4 arg18 x1 x3) (kernelRun0_A.sl.v1436 c arg2 harg2 arg4 harg4 arg18 x1 x3) (kernelRun0_A.sl.v1593 c arg2 harg2 arg4 harg4 arg18 x1 x3) (kernelRun0_A.sl.v1594 c arg2 harg2 arg4 harg4 arg18 x1 x3) (kernelRun0_A.sl.v1438 c arg2 harg2 arg3 harg3 arg4 harg4 arg19 x1 x2 x3) (kernelRun0_A.sl.v1440 c arg2 harg2 arg3 harg3 arg4 harg4 arg19 x1 x2 x3) (kernelRun0_A.sl.v1596 c arg2 harg2 arg3 harg3 arg4 harg4 arg19 x1 x2 x3) (kernelRun0_A.sl.v1598 c arg2 harg2 arg3 harg3 arg4 harg4 arg19 x1 x2 x3) (kernelRun0_A.sl.v1583 c arg2 harg2 arg3 harg3 arg4 harg4 arg20 x1 x2 x3) (kernelRun0_A.sl.v1585 c arg2 harg2 arg3 harg3 arg4 harg4 arg20 x1 x2 x3) (kernelRun0_A.sl.v1730 c arg2 harg2 arg3 harg3 arg4 harg4 arg20 x1 x2 x3) (kernelRun0_A.sl.v1732 c arg2 harg2 arg3 harg3 arg4 harg4 arg20 x1 x2 x3) (View.readCov arg23.view kernelRun0_A.sl.HS5_8 (Rect.unit (s := S8x384x128) ![0, 0, 0] S1x384x128.size inb_S8x384x128_S1x384x128_0_0_0).toLoadRect) (View.readCov arg23.view kernelRun0_A.sl.HS5_8 (Rect.unit (s := S8x384x128) ![1, 0, 0] S1x384x128.size inb_S8x384x128_S1x384x128_1_0_0).toLoadRect) (View.readCov arg23.view kernelRun0_A.sl.HS5_8 (Rect.unit (s := S8x384x128) ![2, 0, 0] S1x384x128.size inb_S8x384x128_S1x384x128_2_0_0).toLoadRect) (View.readCov arg23.view kernelRun0_A.sl.HS5_8 (Rect.unit (s := S8x384x128) ![3, 0, 0] S1x384x128.size inb_S8x384x128_S1x384x128_3_0_0).toLoadRect) (View.readCov arg23.view kernelRun0_A.sl.HS5_8 (Rect.unit (s := S8x384x128) ![4, 0, 0] S1x384x128.size inb_S8x384x128_S1x384x128_4_0_0).toLoadRect) (View.readCov arg23.view kernelRun0_A.sl.HS5_8 (Rect.unit (s := S8x384x128) ![5, 0, 0] S1x384x128.size inb_S8x384x128_S1x384x128_5_0_0).toLoadRect) (View.readCov arg23.view kernelRun0_A.sl.HS5_8 (Rect.unit (s := S8x384x128) ![6, 0, 0] S1x384x128.size inb_S8x384x128_S1x384x128_6_0_0).toLoadRect) (View.readCov arg23.view kernelRun0_A.sl.HS5_8 (Rect.unit (s := S8x384x128) ![7, 0, 0] S1x384x128.size inb_S8x384x128_S1x384x128_7_0_0).toLoadRect) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 3 of the gating half. -/
theorem gateA_3 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay229 (kernelRun0_A.sl.r_142 c arg2 harg2 arg4 harg4 arg5 harg5 arg6 harg6 arg7 harg7 arg8 harg8 arg22 x1 x3 x4 x5 x6 x7) (kernelRun0_A.sl.v1841 c arg2 harg2 arg4 harg4 arg21 x1 x3) (View.readAt (Elt Ideal) arg9.view (Rect.unit (s := S1x1024) ![0, 512] S1x512.size inb_S1x1024_S1x512_0_512).toLoadRect (Memref.IsWhole.unread harg9 x8))
      = kGate (kernelRun0_A.sl.v1759 c arg2 harg2 arg4 harg4 arg22 x1 x3) (kernelRun0_A.sl.v1841 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

end Cert.Proof

end
-- ==== Proof.StepA.lean ====
module

public import proofs.«01_k».proof.Proof.Gen.KernelIdeal.Frame.RunA
public import proofs.«01_k».proof.Proof.MixA
public import proofs.«01_k».proof.Proof.Block

/-! What a step leaves in the buffers it keeps. -/

@[expose] public section

set_option maxRecDepth 16384

noncomputable section

namespace Cert.Proof

open Idealize.ShloMosaic
open Cert.KernelIdeal Cert.KernelIdeal.Gen

open scoped BigOperators

variable {a : Args} {b : Fin 8} {T : Fin 16}
variable {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg10 : Memref sig .tc .vmem S1024x1024 .bf16} {harg10 : arg10.IsWhole} {arg11 : Memref sig .tc .vmem S1x1024 .f32} {harg11 : arg11.IsWhole} {arg12 : Memref sig .tc .vmem S1x1024 .f32} {harg12 : arg12.IsWhole} {arg13 : Memref sig .tc .vmem S1024x4096 .bf16} {harg13 : arg13.IsWhole} {arg14 : Memref sig .tc .vmem S4096x1024 .bf16} {harg14 : arg14.IsWhole} {arg15 : Memref sig .tc .vmem S1x1024 .f32} {harg15 : arg15.IsWhole} {arg16 : Memref sig .tc .vmem S1x1024 .f32} {harg16 : arg16.IsWhole} {arg17 : Memref sig .tc .vmem S1x512x1024 .f32} {harg17 : arg17.IsWhole} {arg18 : Memref sig .tc .vmem S512x512 .bf16} {harg18 : arg18.IsWhole} {arg19 : Memref sig .tc .vmem S4x768x128 .bf16} {harg19 : arg19.IsWhole} {arg20 : Memref sig .tc .vmem S4x128x768 .bf16} {harg20 : arg20.IsWhole} {arg21 : Memref sig .tc .vmem S512x512 .f32} {harg21 : arg21.IsWhole} {arg22 : Memref sig .tc .vmem S512x512 .f32} {harg22 : arg22.IsWhole} {arg23 : Memref sig .tc .vmem S8x384x128 .f32} {harg23 : arg23.IsWhole} {arg24 : Memref sig .tc .vmem S512x1024 .bf16} {harg24 : arg24.IsWhole} {arg25 : Memref sig .tc .vmem S512x1024 .f32} {harg25 : arg25.IsWhole} {arg26 : Memref sig .tc .vmem S512x1024 .f32} {harg26 : arg26.IsWhole} {arg27 : Memref sig .tc .vmem S512x1024 .bf16} {harg27 : arg27.IsWhole} {arg28 : Memref sig .tc .vmem S512x1024 .f32} {harg28 : arg28.IsWhole} {hc0 : cond0_0 i} {x0 : Vec Ideal S8 .f32} {x1 : Vec Ideal S1x512x1024 .f32} {x2 : Vec Ideal S1x128x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} {x9 : Vec Ideal S1024x1024 .bf16} {x10 : Vec Ideal S1x1024 .f32} {x11 : Vec Ideal S1x1024 .f32} {x12 : Vec Ideal S1024x4096 .bf16} {x13 : Vec Ideal S4096x1024 .bf16} {x14 : Vec Ideal S1x1024 .f32} {x15 : Vec Ideal S1x1024 .f32}

/-- The buffer of queries after its store. -/
theorem queriesA (hx : ∀ (r : Fin 512) (d : Fin 1024), x1 (ix3 0 r d) = a.x b ⟨512 * T + r, by omega⟩ d) (hw : ∀ k e, x3 (ix2 k e) = a.wIn k e) : QRows a b T (View.canon (kernelRun0_A.sl.HS0_1 c arg2 harg2 arg4 harg4 x1 x3)) := by
  intro r l
  unfold kernelRun0_A.sl.HS0_1
  refine (canon_head2 _ _ _ r l r l (by omega) (by omega)).trans ((pay20_apply _ _ r l).trans ?_)
  exact congrArg (_ * ·) (proj_of (e := ⟨l, by omega⟩) _ _ (fun k => (readAt_box3 arg2 harg2 x1 _ 0 r k 0 r k rfl (by omega) (by omega)).trans (hx r k))
    (fun k => (readAt_box2 arg4 harg4 x3 _ k ⟨l, by omega⟩ k l (by omega) (by dsimp only; omega)).trans (hw k _)))

/-- The gate's units after their store. -/
theorem unitsA (hx : ∀ (r : Fin 512) (d : Fin 1024), x1 (ix3 0 r d) = a.x b ⟨512 * T + r, by omega⟩ d) (hw : ∀ k e, x3 (ix2 k e) = a.wIn k e) : URows a b T 768 (by omega) (View.canon (kernelRun0_A.sl.HS3_1 c arg2 harg2 arg4 harg4 x1 x3)) := by
  intro r l
  unfold kernelRun0_A.sl.HS3_1
  refine (canon_head2 _ _ _ r l r l (by omega) (by omega)).trans ((pay21_apply _ _ r l).trans ?_)
  exact proj_of (e := ⟨768 + l, by omega⟩) _ _ (fun k => (readAt_box3 arg2 harg2 x1 _ 0 r k 0 r k rfl (by omega) (by omega)).trans (hx r k))
    (fun k => (readAt_box2 arg4 harg4 x3 _ k ⟨768 + l, by omega⟩ k l (by omega) rfl).trans (hw k _))

/-- The gate's values after their store. -/
theorem valuesA (hx : ∀ (r : Fin 512) (d : Fin 1024), x1 (ix3 0 r d) = a.x b ⟨512 * T + r, by omega⟩ d) (hw : ∀ k e, x3 (ix2 k e) = a.wIn k e) : URows a b T 1280 (by omega) (View.canon (kernelRun0_A.sl.HS4_1 c arg2 harg2 arg4 harg4 x1 x3)) := by
  intro r l
  unfold kernelRun0_A.sl.HS4_1
  refine (canon_head2 _ _ _ r l r l (by omega) (by omega)).trans ((pay22_apply _ _ r l).trans ?_)
  exact proj_of (e := ⟨1280 + l, by omega⟩) _ _ (fun k => (readAt_box3 arg2 harg2 x1 _ 0 r k 0 r k rfl (by omega) (by omega)).trans (hx r k))
    (fun k => (readAt_box2 arg4 harg4 x3 _ k ⟨1280 + l, by omega⟩ k l (by omega) rfl).trans (hw k _))

/-- The buffer of keys after its stores. -/
theorem keysA (hx : ∀ (r : Fin 512) (d : Fin 1024), x1 (ix3 0 r d) = a.x b ⟨512 * T + r, by omega⟩ d) (hn : ∀ (i : Fin 128) (d : Fin 1024) (h : 512 * T.val + 512 + i < 8192), x2 (ix3 0 i d) = a.x b ⟨512 * T + 512 + i, h⟩ d) (hw : ∀ k e, x3 (ix2 k e) = a.wIn k e) (hT : T.val = 0) : KRows a b T (View.canon (kernelRun0_A.sl.HS1_10 c arg2 harg2 arg3 harg3 arg4 harg4 arg19 x1 x2 x3)) := by
  unfold kernelRun0_A.sl.HS1_10
  exact keys_rows _ _ _ (fun r d => (readAt_box3 arg2 harg2 x1 _ 0 r d 0 r d rfl (by omega) (by omega)).trans (hx r d))
    (fun i d h => (readAt_box3 arg3 harg3 x2 _ 0 i d 0 i d rfl (by omega) (by omega)).trans (hn i d h))
    (fun k e => (readAt_box2 arg4 harg4 x3 _ k ⟨512 + e, by omega⟩ k e (by omega) rfl).trans (hw k _)) _ (fun h => absurd hT h) _

/-- The buffer of vals after its stores. -/
theorem valsA (hx : ∀ (r : Fin 512) (d : Fin 1024), x1 (ix3 0 r d) = a.x b ⟨512 * T + r, by omega⟩ d) (hn : ∀ (i : Fin 128) (d : Fin 1024) (h : 512 * T.val + 512 + i < 8192), x2 (ix3 0 i d) = a.x b ⟨512 * T + 512 + i, h⟩ d) (hw : ∀ k e, x3 (ix2 k e) = a.wIn k e) (hT : T.val = 0) : VRows a b T (View.canon (kernelRun0_A.sl.HS2_10 c arg2 harg2 arg3 harg3 arg4 harg4 arg20 x1 x2 x3)) := by
  unfold kernelRun0_A.sl.HS2_10
  exact vals_rows _ _ _ (fun r d => (readAt_box3 arg2 harg2 x1 _ 0 r d 0 r d rfl (by omega) (by omega)).trans (hx r d))
    (fun i d h => (readAt_box3 arg3 harg3 x2 _ 0 i d 0 i d rfl (by omega) (by omega)).trans (hn i d h))
    (fun k e => (readAt_box2 arg4 harg4 x3 _ k ⟨512 + e, by omega⟩ k e (by omega) rfl).trans (hw k _)) _ (fun h => absurd hT h) _

/-- Block 0 of attention's rows. -/
theorem headsA_0 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (h0 : (kernelRun0_A.sl.v225 i) = 0#1 ↔ T.val = 0) (h1 : (kernelRun0_A.sl.v226 i) = 0#1 ↔ T.val = 15) (n : Fin 64) (hn : n.val = 4 * T + 0) (u : Fin 128) (L : Fin 512) :
    k0_pay105 (kernelRun0_A.sl.r_28 c i arg1 harg1 arg2 harg2 arg3 harg3 arg4 harg4 arg18 arg19 arg20 arg23 x0 x1 x2 x3) (kernelRun0_A.sl.r_31 c i arg1 harg1 arg2 harg2 arg3 harg3 arg4 harg4 arg18 arg19 arg20 arg23 x0 x1 x2 x3) (kernelRun0_A.sl.r_39 c i arg1 harg1 arg2 harg2 arg3 harg3 arg4 harg4 arg18 arg19 arg23 x0 x1 x2 x3) (kernelRun0_A.sl.r_43 c i arg1 harg1 arg2 harg2 arg3 harg3 arg4 harg4 arg18 arg19 arg23 x0 x1 x2 x3) (kernelRun0_A.sl.r_44 c i arg1 harg1 arg2 harg2 arg3 harg3 arg4 harg4 arg18 arg19 arg23 x0 x1 x2 x3) (kernelRun0_A.sl.r_45 c i arg1 harg1 arg2 harg2 arg3 harg3 arg4 harg4 arg18 arg19 arg23 x0 x1 x2 x3) (kernelRun0_A.sl.r_46 c i arg1 harg1 arg2 harg2 arg3 harg3 arg4 harg4 arg18 arg19 arg23 x0 x1 x2 x3) (kernelRun0_A.sl.v509 c arg2 harg2 arg3 harg3 arg4 harg4 arg20 x1 x2 x3) (kernelRun0_A.sl.v511 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnA_0 (ix2 u L)).trans (attn_block ha 0 n hn h0 h1 (hQ.read arg18.view 0 0 n hn _ rfl rfl) (hQ.read arg18.view 0 1 n hn _ rfl rfl) (hQ.read arg18.view 0 2 n hn _ rfl rfl) (hQ.read arg18.view 0 3 n hn _ rfl rfl)
    (hK.read arg19.view 0 0 n hn _ rfl rfl) (hK.read arg19.view 0 1 n hn _ rfl rfl) (hK.read arg19.view 0 2 n hn _ rfl rfl) (hK.read arg19.view 0 3 n hn _ rfl rfl) (hV.read arg20.view 0 0 n hn _ rfl rfl) (hV.read arg20.view 0 1 n hn _ rfl rfl) (hV.read arg20.view 0 2 n hn _ rfl rfl) (hV.read arg20.view 0 3 n hn _ rfl rfl)
    (hB.readCov arg23.view 0 _ rfl) (hB.readCov arg23.view 1 _ rfl) (hB.readCov arg23.view 2 _ rfl) (hB.readCov arg23.view 3 _ rfl) (hB.readCov arg23.view 4 _ rfl) (hB.readCov arg23.view 5 _ rfl) (hB.readCov arg23.view 6 _ rfl) (hB.readCov arg23.view 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 0 of the gate's rows. -/
theorem gatesA_0 (hI : Ins a b T x0 x1 x2 x3 x4 x5 x6 x7 x8 x9 x10 x11 x12 x13 x14 x15) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (n : Fin 64) (hn : n.val = 4 * T + 0) (u : Fin 128) (L : Fin 512) :
    k0_pay115 (kernelRun0_A.sl.r_53 c arg2 harg2 arg4 harg4 arg5 harg5 arg6 harg6 arg7 harg7 arg8 harg8 arg22 x1 x3 x4 x5 x6 x7) (kernelRun0_A.sl.v619 c arg2 harg2 arg4 harg4 arg21 x1 x3) (View.readAt (Elt Ideal) arg9.view (Rect.unit (s := S1x1024) ![0, 512] S1x512.size inb_S1x1024_S1x512_0_512).toLoadRect (Memref.IsWhole.unread harg9 x8)) (ix2 u L)
      = rmsRow (Ideal.ofBits .f32 0x44000000#32) (gated a b ⟨128 * n + u, by omega⟩) a.gateG L :=
  (congrFun gateA_0 (ix2 u L)).trans (gate_block n (fun i l => (readCov_box2 arg22.view _ _ ⟨0 + i, by omega⟩ l i l rfl (by omega)).trans ((hG _ _).trans (congrArg (fun s => proj a b s ⟨1280 + l, by omega⟩) (Fin.ext (by dsimp only; omega)))))
    (fun i l => (readCov_box2 arg21.view _ _ ⟨0 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 0 of the mixed rows, read back. -/
theorem mixedA_0 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (h0 : (kernelRun0_A.sl.v225 i) = 0#1 ↔ T.val = 0) (h1 : (kernelRun0_A.sl.v226 i) = 0#1 ↔ T.val = 15) (n : Fin 64) (hn : n.val = 4 * T + 0) (u : Fin 128) (e : Fin 1024) :
    (View.readCov arg24.view (kernelRun0_A.sl.HS6_2 c i arg1 harg1 arg2 harg2 arg3 harg3 arg4 harg4 arg5 harg5 arg6 harg6 arg7 harg7 arg8 harg8 arg9 harg9 arg18 arg19 arg20 arg21 arg22 arg23 x0 x1 x2 x3 x4 x5 x6 x7 x8) (Rect.unit (s := S512x1024) ![0, 0] S128x1024.size inb_S512x1024_S128x1024_0_0).toLoadRect) (ix2 u e) = mixRow a b ⟨128 * n + u, by omega⟩ e :=
  mix_row arg24.view _ (by omega) _ _ _ n (gatesA_0 hI hU hG n hn) (headsA_0 ha hI hQ hK hV hB h0 h1 n hn) u e

/-- Block 1 of attention's rows. -/
theorem headsA_1 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (h0 : (kernelRun0_A.sl.v225 i) = 0#1 ↔ T.val = 0) (h1 : (kernelRun0_A.sl.v226 i) = 0#1 ↔ T.val = 15) (n : Fin 64) (hn : n.val = 4 * T + 1) (u : Fin 128) (L : Fin 512) :
    k0_pay142 (kernelRun0_A.sl.r_64 c arg1 harg1 arg2 harg2 arg3 harg3 arg4 harg4 arg18 arg19 arg20 arg23 x0 x1 x2 x3) (kernelRun0_A.sl.r_65 c arg1 harg1 arg2 harg2 arg3 harg3 arg4 harg4 arg18 arg19 arg20 arg23 x0 x1 x2 x3) (kernelRun0_A.sl.r_74 c arg1 harg1 arg2 harg2 arg3 harg3 arg4 harg4 arg18 arg19 arg23 x0 x1 x2 x3) (kernelRun0_A.sl.r_75 c arg2 harg2 arg3 harg3 arg4 harg4 arg20 x1 x2 x3) (kernelRun0_A.sl.v906 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnA_1 (ix2 u L)).trans (attn_block ha 1 n hn h0 h1 (hQ.read arg18.view 1 0 n hn _ rfl rfl) (hQ.read arg18.view 1 1 n hn _ rfl rfl) (hQ.read arg18.view 1 2 n hn _ rfl rfl) (hQ.read arg18.view 1 3 n hn _ rfl rfl)
    (hK.read arg19.view 1 0 n hn _ rfl rfl) (hK.read arg19.view 1 1 n hn _ rfl rfl) (hK.read arg19.view 1 2 n hn _ rfl rfl) (hK.read arg19.view 1 3 n hn _ rfl rfl) (hV.read arg20.view 1 0 n hn _ rfl rfl) (hV.read arg20.view 1 1 n hn _ rfl rfl) (hV.read arg20.view 1 2 n hn _ rfl rfl) (hV.read arg20.view 1 3 n hn _ rfl rfl)
    (hB.readCov arg23.view 0 _ rfl) (hB.readCov arg23.view 1 _ rfl) (hB.readCov arg23.view 2 _ rfl) (hB.readCov arg23.view 3 _ rfl) (hB.readCov arg23.view 4 _ rfl) (hB.readCov arg23.view 5 _ rfl) (hB.readCov arg23.view 6 _ rfl) (hB.readCov arg23.view 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 1 of the gate's rows. -/
theorem gatesA_1 (hI : Ins a b T x0 x1 x2 x3 x4 x5 x6 x7 x8 x9 x10 x11 x12 x13 x14 x15) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (n : Fin 64) (hn : n.val = 4 * T + 1) (u : Fin 128) (L : Fin 512) :
    k0_pay151 (kernelRun0_A.sl.r_84 c arg2 harg2 arg4 harg4 arg5 harg5 arg6 harg6 arg7 harg7 arg8 harg8 arg21 arg22 x1 x3 x4 x5 x6 x7) (kernelRun0_A.sl.r_85 c arg9 harg9 x8) (ix2 u L)
      = rmsRow (Ideal.ofBits .f32 0x44000000#32) (gated a b ⟨128 * n + u, by omega⟩) a.gateG L :=
  (congrFun gateA_1 (ix2 u L)).trans (gate_block n (fun i l => (readCov_box2 arg22.view _ _ ⟨128 + i, by omega⟩ l i l rfl (by omega)).trans ((hG _ _).trans (congrArg (fun s => proj a b s ⟨1280 + l, by omega⟩) (Fin.ext (by dsimp only; omega)))))
    (fun i l => (readCov_box2 arg21.view _ _ ⟨128 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 1 of the mixed rows, read back. -/
theorem mixedA_1 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (h0 : (kernelRun0_A.sl.v225 i) = 0#1 ↔ T.val = 0) (h1 : (kernelRun0_A.sl.v226 i) = 0#1 ↔ T.val = 15) (n : Fin 64) (hn : n.val = 4 * T + 1) (u : Fin 128) (e : Fin 1024) :
    (kernelRun0_A.sl.v1055 c i arg1 harg1 arg2 harg2 arg3 harg3 arg4 harg4 arg5 harg5 arg6 harg6 arg7 harg7 arg8 harg8 arg9 harg9 arg18 arg19 arg20 arg21 arg22 arg23 arg24 x0 x1 x2 x3 x4 x5 x6 x7 x8) (ix2 u e) = mixRow a b ⟨128 * n + u, by omega⟩ e :=
  mix_row arg24.view _ (by omega) _ _ _ n (gatesA_1 hI hU hG n hn) (headsA_1 ha hI hQ hK hV hB h0 h1 n hn) u e

/-- Block 2 of attention's rows. -/
theorem headsA_2 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (h0 : (kernelRun0_A.sl.v225 i) = 0#1 ↔ T.val = 0) (h1 : (kernelRun0_A.sl.v226 i) = 0#1 ↔ T.val = 15) (n : Fin 64) (hn : n.val = 4 * T + 2) (u : Fin 128) (L : Fin 512) :
    k0_pay177 (kernelRun0_A.sl.r_102 c arg1 harg1 arg2 harg2 arg3 harg3 arg4 harg4 arg18 arg19 arg20 arg23 x0 x1 x2 x3) (kernelRun0_A.sl.r_103 c arg9 harg9 x8) (kernelRun0_A.sl.r_104 c arg1 harg1 arg2 harg2 arg3 harg3 arg4 harg4 arg18 arg19 arg20 arg23 x0 x1 x2 x3) (ix2 u L)
      = rmsRow (Ideal.ofBits .f32 0x44000000#32) (attnRow a b ⟨128 * n + u, by omega⟩) a.attnG L :=
  (congrFun attnA_2 (ix2 u L)).trans (attn_block ha 2 n hn h0 h1 (hQ.read arg18.view 2 0 n hn _ rfl rfl) (hQ.read arg18.view 2 1 n hn _ rfl rfl) (hQ.read arg18.view 2 2 n hn _ rfl rfl) (hQ.read arg18.view 2 3 n hn _ rfl rfl)
    (hK.read arg19.view 2 0 n hn _ rfl rfl) (hK.read arg19.view 2 1 n hn _ rfl rfl) (hK.read arg19.view 2 2 n hn _ rfl rfl) (hK.read arg19.view 2 3 n hn _ rfl rfl) (hV.read arg20.view 2 0 n hn _ rfl rfl) (hV.read arg20.view 2 1 n hn _ rfl rfl) (hV.read arg20.view 2 2 n hn _ rfl rfl) (hV.read arg20.view 2 3 n hn _ rfl rfl)
    (hB.readCov arg23.view 0 _ rfl) (hB.readCov arg23.view 1 _ rfl) (hB.readCov arg23.view 2 _ rfl) (hB.readCov arg23.view 3 _ rfl) (hB.readCov arg23.view 4 _ rfl) (hB.readCov arg23.view 5 _ rfl) (hB.readCov arg23.view 6 _ rfl) (hB.readCov arg23.view 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 2 of the gate's rows. -/
theorem gatesA_2 (hI : Ins a b T x0 x1 x2 x3 x4 x5 x6 x7 x8 x9 x10 x11 x12 x13 x14 x15) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (n : Fin 64) (hn : n.val = 4 * T + 2) (u : Fin 128) (L : Fin 512) :
    k0_pay190 (kernelRun0_A.sl.r_114 c arg2 harg2 arg4 harg4 arg5 harg5 arg6 harg6 arg7 harg7 arg8 harg8 arg9 harg9 arg21 arg22 x1 x3 x4 x5 x6 x7 x8) (ix2 u L)
      = rmsRow (Ideal.ofBits .f32 0x44000000#32) (gated a b ⟨128 * n + u, by omega⟩) a.gateG L :=
  (congrFun gateA_2 (ix2 u L)).trans (gate_block n (fun i l => (readCov_box2 arg22.view _ _ ⟨256 + i, by omega⟩ l i l rfl (by omega)).trans ((hG _ _).trans (congrArg (fun s => proj a b s ⟨1280 + l, by omega⟩) (Fin.ext (by dsimp only; omega)))))
    (fun i l => (readCov_box2 arg21.view _ _ ⟨256 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 2 of the mixed rows, read back. -/
theorem mixedA_2 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (h0 : (kernelRun0_A.sl.v225 i) = 0#1 ↔ T.val = 0) (h1 : (kernelRun0_A.sl.v226 i) = 0#1 ↔ T.val = 15) (n : Fin 64) (hn : n.val = 4 * T + 2) (u : Fin 128) (e : Fin 1024) :
    (View.readCov arg24.view (kernelRun0_A.sl.HS6_6 c i arg1 harg1 arg2 harg2 arg3 harg3 arg4 harg4 arg5 harg5 arg6 harg6 arg7 harg7 arg8 harg8 arg9 harg9 arg18 arg19 arg20 arg21 arg22 arg23 x0 x1 x2 x3 x4 x5 x6 x7 x8) (Rect.unit (s := S512x1024) ![256, 0] S128x1024.size inb_S512x1024_S128x1024_256_0).toLoadRect) (ix2 u e) = mixRow a b ⟨128 * n + u, by omega⟩ e :=
  mix_row arg24.view _ (by omega) _ _ _ n (gatesA_2 hI hU hG n hn) (headsA_2 ha hI hQ hK hV hB h0 h1 n hn) u e

/-- Block 3 of attention's rows. -/
theorem headsA_3 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (h0 : (kernelRun0_A.sl.v225 i) = 0#1 ↔ T.val = 0) (h1 : (kernelRun0_A.sl.v226 i) = 0#1 ↔ T.val = 15) (n : Fin 64) (hn : n.val = 4 * T + 3) (u : Fin 128) (L : Fin 512) :
    k0_pay221 (kernelRun0_A.sl.r_124 c i arg1 harg1 arg2 harg2 arg3 harg3 arg4 harg4 arg18 arg19 arg20 arg23 x0 x1 x2 x3) (kernelRun0_A.sl.r_125 c i arg1 harg1 arg2 harg2 arg3 harg3 arg4 harg4 arg18 arg19 arg20 arg23 x0 x1 x2 x3) (kernelRun0_A.sl.r_131 c i arg1 harg1 arg2 harg2 arg3 harg3 arg4 harg4 arg18 arg19 arg23 x0 x1 x2 x3) (kernelRun0_A.sl.r_134 c i arg1 harg1 arg2 harg2 arg3 harg3 arg4 harg4 arg18 arg19 arg23 x0 x1 x2 x3) (kernelRun0_A.sl.r_135 c i arg1 harg1 arg2 harg2 arg3 harg3 arg4 harg4 arg18 arg19 arg23 x0 x1 x2 x3) (kernelRun0_A.sl.r_136 c i arg1 harg1 arg2 harg2 arg3 harg3 arg4 harg4 arg18 arg19 arg23 x0 x1 x2 x3) kernelRun0_A.sl.cst_790 (kernelRun0_A.sl.v1730 c arg2 harg2 arg3 harg3 arg4 harg4 arg20 x1 x2 x3) (kernelRun0_A.sl.v1732 c arg2 harg2 arg3 harg3 arg4 harg4 arg20 x1 x2 x3) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnA_3 (ix2 u L)).trans (attn_block ha 3 n hn h0 h1 (hQ.read arg18.view 3 0 n hn _ rfl rfl) (hQ.read arg18.view 3 1 n hn _ rfl rfl) (hQ.read arg18.view 3 2 n hn _ rfl rfl) (hQ.read arg18.view 3 3 n hn _ rfl rfl)
    (hK.read arg19.view 3 0 n hn _ rfl rfl) (hK.read arg19.view 3 1 n hn _ rfl rfl) (hK.read arg19.view 3 2 n hn _ rfl rfl) (hK.read arg19.view 3 3 n hn _ rfl rfl) (hV.read arg20.view 3 0 n hn _ rfl rfl) (hV.read arg20.view 3 1 n hn _ rfl rfl) (hV.read arg20.view 3 2 n hn _ rfl rfl) (hV.read arg20.view 3 3 n hn _ rfl rfl)
    (hB.readCov arg23.view 0 _ rfl) (hB.readCov arg23.view 1 _ rfl) (hB.readCov arg23.view 2 _ rfl) (hB.readCov arg23.view 3 _ rfl) (hB.readCov arg23.view 4 _ rfl) (hB.readCov arg23.view 5 _ rfl) (hB.readCov arg23.view 6 _ rfl) (hB.readCov arg23.view 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 3 of the gate's rows. -/
theorem gatesA_3 (hI : Ins a b T x0 x1 x2 x3 x4 x5 x6 x7 x8 x9 x10 x11 x12 x13 x14 x15) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (n : Fin 64) (hn : n.val = 4 * T + 3) (u : Fin 128) (L : Fin 512) :
    k0_pay229 (kernelRun0_A.sl.r_142 c arg2 harg2 arg4 harg4 arg5 harg5 arg6 harg6 arg7 harg7 arg8 harg8 arg22 x1 x3 x4 x5 x6 x7) (kernelRun0_A.sl.v1841 c arg2 harg2 arg4 harg4 arg21 x1 x3) (View.readAt (Elt Ideal) arg9.view (Rect.unit (s := S1x1024) ![0, 512] S1x512.size inb_S1x1024_S1x512_0_512).toLoadRect (Memref.IsWhole.unread harg9 x8)) (ix2 u L)
      = rmsRow (Ideal.ofBits .f32 0x44000000#32) (gated a b ⟨128 * n + u, by omega⟩) a.gateG L :=
  (congrFun gateA_3 (ix2 u L)).trans (gate_block n (fun i l => (readCov_box2 arg22.view _ _ ⟨384 + i, by omega⟩ l i l rfl (by omega)).trans ((hG _ _).trans (congrArg (fun s => proj a b s ⟨1280 + l, by omega⟩) (Fin.ext (by dsimp only; omega)))))
    (fun i l => (readCov_box2 arg21.view _ _ ⟨384 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 3 of the mixed rows, read back. -/
theorem mixedA_3 (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (h0 : (kernelRun0_A.sl.v225 i) = 0#1 ↔ T.val = 0) (h1 : (kernelRun0_A.sl.v226 i) = 0#1 ↔ T.val = 15) (n : Fin 64) (hn : n.val = 4 * T + 3) (u : Fin 128) (e : Fin 1024) :
    (kernelRun0_A.sl.v1873 c i arg1 harg1 arg2 harg2 arg3 harg3 arg4 harg4 arg5 harg5 arg6 harg6 arg7 harg7 arg8 harg8 arg9 harg9 arg18 arg19 arg20 arg21 arg22 arg23 arg24 x0 x1 x2 x3 x4 x5 x6 x7 x8) (ix2 u e) = mixRow a b ⟨128 * n + u, by omega⟩ e :=
  mix_row arg24.view _ (by omega) _ _ _ n (gatesA_3 hI hU hG n hn) (headsA_3 ha hI hQ hK hV hB h0 h1 n hn) u e

/-- The first sublayer's rows after their stores. -/
theorem rowsA (ha : a.Real) (hI : Ins a b T x0 x1 x2 x3 x4 x5 x6 x7 x8 x9 x10 x11 x12 x13 x14 x15) (hQ : QRows a b T (View.canon (kernelRun0_A.sl.HS0_1 c arg2 harg2 arg4 harg4 x1 x3))) (hK : KRows a b T (View.canon (kernelRun0_A.sl.HS1_10 c arg2 harg2 arg3 harg3 arg4 harg4 arg19 x1 x2 x3))) (hV : VRows a b T (View.canon (kernelRun0_A.sl.HS2_10 c arg2 harg2 arg3 harg3 arg4 harg4 arg20 x1 x2 x3))) (hB : BRows (View.canon (Val := Elt Ideal) kernelRun0_A.sl.HS5_8)) (hU : URows a b T 768 (by omega) (View.canon (kernelRun0_A.sl.HS3_1 c arg2 harg2 arg4 harg4 x1 x3))) (hG : URows a b T 1280 (by omega) (View.canon (kernelRun0_A.sl.HS4_1 c arg2 harg2 arg4 harg4 x1 x3))) (h0 : (kernelRun0_A.sl.v225 i) = 0#1 ↔ T.val = 0) (h1 : (kernelRun0_A.sl.v226 i) = 0#1 ↔ T.val = 15) (r : Fin 512) (d : Fin 1024) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15).2.2.2.2.1 (ix2 r d) = y1 a b ⟨512 * T + r, by omega⟩ d := by
  have hr := r.isLt
  dsimp only [kernelRun0_A]
  by_cases h384 : 384 ≤ r.val
  · refine (canon_head2 _ _ _ r d ⟨r - 384, by omega⟩ d (by dsimp only; omega) (by omega)).trans ?_
    exact ((out_block ⟨4 * T + 3, by omega⟩ (fun i d => (readAt_box3 arg2 harg2 x1 _ 0 ⟨384 + i, by omega⟩ d 0 i d rfl rfl (by omega)).trans ((hI.x _ _).trans (congrArg (fun s => a.x b s d) (Fin.ext (by dsimp only; omega))))) (mixedA_3 ha hI hQ hK hV hB hU hG h0 h1 ⟨4 * T + 3, by omega⟩ rfl)
      (fun k e => (readAt_box2 arg10 harg10 x9 _ k e k e (by omega) (by omega)).trans (hI.wOut k e)) ⟨r - 384, by omega⟩ d).trans (congrArg (fun s => y1 a b s d) (Fin.ext (by dsimp only; omega))))
  refine (canon_skip2 _ _ _ r d (by omega)).trans ?_
  by_cases h256 : 256 ≤ r.val
  · refine (canon_head2 _ _ _ r d ⟨r - 256, by omega⟩ d (by dsimp only; omega) (by omega)).trans ?_
    exact ((out_block ⟨4 * T + 2, by omega⟩ (fun i d => (readAt_box3 arg2 harg2 x1 _ 0 ⟨256 + i, by omega⟩ d 0 i d rfl rfl (by omega)).trans ((hI.x _ _).trans (congrArg (fun s => a.x b s d) (Fin.ext (by dsimp only; omega))))) (mixedA_2 ha hI hQ hK hV hB hU hG h0 h1 ⟨4 * T + 2, by omega⟩ rfl)
      (fun k e => (readAt_box2 arg10 harg10 x9 _ k e k e (by omega) (by omega)).trans (hI.wOut k e)) ⟨r - 256, by omega⟩ d).trans (congrArg (fun s => y1 a b s d) (Fin.ext (by dsimp only; omega))))
  refine (canon_skip2 _ _ _ r d (by omega)).trans ?_
  by_cases h128 : 128 ≤ r.val
  · refine (canon_head2 _ _ _ r d ⟨r - 128, by omega⟩ d (by dsimp only; omega) (by omega)).trans ?_
    exact ((out_block ⟨4 * T + 1, by omega⟩ (fun i d => (readAt_box3 arg2 harg2 x1 _ 0 ⟨128 + i, by omega⟩ d 0 i d rfl rfl (by omega)).trans ((hI.x _ _).trans (congrArg (fun s => a.x b s d) (Fin.ext (by dsimp only; omega))))) (mixedA_1 ha hI hQ hK hV hB hU hG h0 h1 ⟨4 * T + 1, by omega⟩ rfl)
      (fun k e => (readAt_box2 arg10 harg10 x9 _ k e k e (by omega) (by omega)).trans (hI.wOut k e)) ⟨r - 128, by omega⟩ d).trans (congrArg (fun s => y1 a b s d) (Fin.ext (by dsimp only; omega))))
  refine (canon_skip2 _ _ _ r d (by omega)).trans ?_
  refine (canon_head2 _ _ _ r d ⟨r - 0, by omega⟩ d (by dsimp only; omega) (by omega)).trans ?_
  exact ((out_block ⟨4 * T + 0, by omega⟩ (fun i d => (readAt_box3 arg2 harg2 x1 _ 0 ⟨0 + i, by omega⟩ d 0 i d rfl rfl (by omega)).trans ((hI.x _ _).trans (congrArg (fun s => a.x b s d) (Fin.ext (by dsimp only; omega))))) (mixedA_0 ha hI hQ hK hV hB hU hG h0 h1 ⟨4 * T + 0, by omega⟩ rfl)
      (fun k e => (readAt_box2 arg10 harg10 x9 _ k e k e (by omega) (by omega)).trans (hI.wOut k e)) ⟨r - 0, by omega⟩ d).trans (congrArg (fun s => y1 a b s d) (Fin.ext (by dsimp only; omega))))

end Cert.Proof

end
-- ==== Proof.MixB.lean ====
module

public import proofs.«01_k».proof.Proof.Gen.KernelIdeal.Frame.RunB
public import proofs.«01_k».proof.Proof.Canon

/-! The blocks of mixed rows, as the arithmetic of what they read. -/

@[expose] public section

set_option maxRecDepth 16384

noncomputable section

namespace Cert.Proof

open Idealize.ShloMosaic
open Cert.KernelIdeal Cert.KernelIdeal.Gen

/-- Block 0 of the attention half. -/
theorem attnB_0 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {harg19 : arg19.IsWhole} {arg20 : Memref sig .tc .vmem S4x128x768 .bf16} {harg20 : arg20.IsWhole} {arg23 : Memref sig .tc .vmem S8x384x128 .f32} {harg23 : arg23.IsWhole} {x0 : Vec Ideal S8 .f32} {x1 : Vec Ideal S1x512x1024 .f32} {x2 : Vec Ideal S1x128x1024 .f32} {x3 : Vec Ideal S1024x1792 .bf16} {x8 : Vec Ideal S1x1024 .f32} {xs1 : Vec Ideal S4x768x128 .bf16} {xs2 : Vec Ideal S4x128x768 .bf16} {xs5 : Vec Ideal S8x384x128 .f32} :
    k0_pay105 (kernelRun0_B.sl.r_28 c i arg1 harg1 arg2 harg2 arg3 harg3 arg4 harg4 arg18 arg19 harg19 arg20 harg20 arg23 harg23 x0 x1 x2 x3 xs1 xs2 xs5) (kernelRun0_B.sl.r_31 c i arg1 harg1 arg2 harg2 arg3 harg3 arg4 harg4 arg18 arg19 harg19 arg20 harg20 arg23 harg23 x0 x1 x2 x3 xs1 xs2 xs5) (kernelRun0_B.sl.r_39 c i arg1 harg1 arg2 harg2 arg3 harg3 arg4 harg4 arg18 arg19 harg19 arg23 harg23 x0 x1 x2 x3 xs1 xs5) (kernelRun0_B.sl.r_43 c i arg1 harg1 arg2 harg2 arg3 harg3 arg4 harg4 arg18 arg19 harg19 arg23 harg23 x0 x1 x2 x3 xs1 xs5) (kernelRun0_B.sl.r_44 c i arg1 harg1 arg2 harg2 arg3 harg3 arg4 harg4 arg18 arg19 harg19 arg23 harg23 x0 x1 x2 x3 xs1 xs5) (kernelRun0_B.sl.r_45 c i arg1 harg1 arg2 harg2 arg3 harg3 arg4 harg4 arg18 arg19 harg19 arg23 harg23 x0 x1 x2 x3 xs1 xs5) (kernelRun0_B.sl.r_46 c i arg1 harg1 arg2 harg2 arg3 harg3 arg4 harg4 arg18 arg19 harg19 arg23 harg23 x0 x1 x2 x3 xs1 xs5) (kernelRun0_B.sl.v509 c arg2 harg2 arg3 harg3 arg4 harg4 arg20 harg20 x1 x2 x3 xs2) (kernelRun0_B.sl.v511 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8))
      = kAttn 0 (kernelRun0_B.sl.v225 i) (kernelRun0_B.sl.v226 i) (kernelRun0_B.sl.v227 c arg2 harg2 arg4 harg4 arg18 x1 x3) (kernelRun0_B.sl.v228 c arg2 harg2 arg4 harg4 arg18 x1 x3) (kernelRun0_B.sl.v373 c arg2 harg2 arg4 harg4 arg18 x1 x3) (kernelRun0_B.sl.v374 c arg2 harg2 arg4 harg4 arg18 x1 x3) (kernelRun0_B.sl.v230 c arg2 harg2 arg3 harg3 arg4 harg4 arg19 harg19 x1 x2 x3 xs1) (kernelRun0_B.sl.v232 c arg2 harg2 arg3 harg3 arg4 harg4 arg19 harg19 x1 x2 x3 xs1) (kernelRun0_B.sl.v376 c arg2 harg2 arg3 harg3 arg4 harg4 arg19 harg19 x1 x2 x3 xs1) (kernelRun0_B.sl.v378 c arg2 harg2 arg3 harg3 arg4 harg4 arg19 harg19 x1 x2 x3 xs1) (kernelRun0_B.sl.v363 c arg2 harg2 arg3 harg3 arg4 harg4 arg20 harg20 x1 x2 x3 xs2) (kernelRun0_B.sl.v365 c arg2 harg2 arg3 harg3 arg4 harg4 arg20 harg20 x1 x2 x3 xs2) (kernelRun0_B.sl.v509 c arg2 harg2 arg3 harg3 arg4 harg4 arg20 harg20 x1 x2 x3 xs2) (kernelRun0_B.sl.v511 c arg2 harg2 arg3 harg3 arg4 harg4 arg20 harg20 x1 x2 x3 xs2) (View.readAt (Elt Ideal) arg23.view (Rect.unit (s := S8x384x128) ![0, 0, 0] S1x384x128.size inb_S8x384x128_S1x384x128_0_0_0).toLoadRect (Memref.IsWhole.unread harg23 xs5)) (View.readAt (Elt Ideal) arg23.view (Rect.unit (s := S8x384x128) ![1, 0, 0] S1x384x128.size inb_S8x384x128_S1x384x128_1_0_0).toLoadRect (Memref.IsWhole.unread harg23 xs5)) (View.readAt (Elt Ideal) arg23.view (Rect.unit (s := S8x384x128) ![2, 0, 0] S1x384x128.size inb_S8x384x128_S1x384x128_2_0_0).toLoadRect (Memref.IsWhole.unread harg23 xs5)) (View.readAt (Elt Ideal) arg23.view (Rect.unit (s := S8x384x128) ![3, 0, 0] S1x384x128.size inb_S8x384x128_S1x384x128_3_0_0).toLoadRect (Memref.IsWhole.unread harg23 xs5)) (View.readAt (Elt Ideal) arg23.view (Rect.unit (s := S8x384x128) ![4, 0, 0] S1x384x128.size inb_S8x384x128_S1x384x128_4_0_0).toLoadRect (Memref.IsWhole.unread harg23 xs5)) (View.readAt (Elt Ideal) arg23.view (Rect.unit (s := S8x384x128) ![5, 0, 0] S1x384x128.size inb_S8x384x128_S1x384x128_5_0_0).toLoadRect (Memref.IsWhole.unread harg23 xs5)) (View.readAt (Elt Ideal) arg23.view (Rect.unit (s := S8x384x128) ![6, 0, 0] S1x384x128.size inb_S8x384x128_S1x384x128_6_0_0).toLoadRect (Memref.IsWhole.unread harg23 xs5)) (View.readAt (Elt Ideal) arg23.view (Rect.unit (s := S8x384x128) ![7, 0, 0] S1x384x128.size inb_S8x384x128_S1x384x128_7_0_0).toLoadRect (Memref.IsWhole.unread harg23 xs5)) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 0 of the gating half. -/
theorem gateB_0 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay115 (kernelRun0_B.sl.r_53 c arg2 harg2 arg4 harg4 arg5 harg5 arg6 harg6 arg7 harg7 arg8 harg8 arg22 x1 x3 x4 x5 x6 x7) (kernelRun0_B.sl.v619 c arg2 harg2 arg4 harg4 arg21 x1 x3) (View.readAt (Elt Ideal) arg9.view (Rect.unit (s := S1x1024) ![0, 512] S1x512.size inb_S1x1024_S1x512_0_512).toLoadRect (Memref.IsWhole.unread harg9 x8))
      = kGate (kernelRun0_B.sl.v538 c arg2 harg2 arg4 harg4 arg22 x1 x3) (kernelRun0_B.sl.v619 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 1 of the attention half. -/
theorem attnB_1 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {harg19 : arg19.IsWhole} {arg20 : Memref sig .tc .vmem S4x128x768 .bf16} {harg20 : arg20.IsWhole} {arg23 : Memref sig .tc .vmem S8x384x128 .f32} {harg23 : arg23.IsWhole} {x0 : Vec Ideal S8 .f32} {x1 : Vec Ideal S1x512x1024 .f32} {x2 : Vec Ideal S1x128x1024 .f32} {x3 : Vec Ideal S1024x1792 .bf16} {x8 : Vec Ideal S1x1024 .f32} {xs1 : Vec Ideal S4x768x128 .bf16} {xs2 : Vec Ideal S4x128x768 .bf16} {xs5 : Vec Ideal S8x384x128 .f32} :
    k0_pay142 (kernelRun0_B.sl.r_64 c arg1 harg1 arg2 harg2 arg3 harg3 arg4 harg4 arg18 arg19 harg19 arg20 harg20 arg23 harg23 x0 x1 x2 x3 xs1 xs2 xs5) (kernelRun0_B.sl.r_65 c arg1 harg1 arg2 harg2 arg3 harg3 arg4 harg4 arg18 arg19 harg19 arg20 harg20 arg23 harg23 x0 x1 x2 x3 xs1 xs2 xs5) (kernelRun0_B.sl.r_74 c arg1 harg1 arg2 harg2 arg3 harg3 arg4 harg4 arg18 arg19 harg19 arg23 harg23 x0 x1 x2 x3 xs1 xs5) (kernelRun0_B.sl.r_75 c arg2 harg2 arg3 harg3 arg4 harg4 arg20 harg20 x1 x2 x3 xs2) (kernelRun0_B.sl.v906 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8))
      = kAttn 1 (kernelRun0_B.sl.v225 i) (kernelRun0_B.sl.v226 i) (kernelRun0_B.sl.v647 c arg2 harg2 arg4 harg4 arg18 x1 x3) (kernelRun0_B.sl.v648 c arg2 harg2 arg4 harg4 arg18 x1 x3) (kernelRun0_B.sl.v788 c arg2 harg2 arg4 harg4 arg18 x1 x3) (kernelRun0_B.sl.v789 c arg2 harg2 arg4 harg4 arg18 x1 x3) (kernelRun0_B.sl.v650 c arg2 harg2 arg3 harg3 arg4 harg4 arg19 harg19 x1 x2 x3 xs1) (kernelRun0_B.sl.v652 c arg2 harg2 arg3 harg3 arg4 harg4 arg19 harg19 x1 x2 x3 xs1) (kernelRun0_B.sl.v791 c arg2 harg2 arg3 harg3 arg4 harg4 arg19 harg19 x1 x2 x3 xs1) (kernelRun0_B.sl.v793 c arg2 harg2 arg3 harg3 arg4 harg4 arg19 harg19 x1 x2 x3 xs1) (kernelRun0_B.sl.v778 c arg2 harg2 arg3 harg3 arg4 harg4 arg20 harg20 x1 x2 x3 xs2) (kernelRun0_B.sl.v780 c arg2 harg2 arg3 harg3 arg4 harg4 arg20 harg20 x1 x2 x3 xs2) (kernelRun0_B.sl.v904 c arg2 harg2 arg3 harg3 arg4 harg4 arg20 harg20 x1 x2 x3 xs2) (kernelRun0_B.sl.v906 c arg2 harg2 arg3 harg3 arg4 harg4 arg20 harg20 x1 x2 x3 xs2) (View.readAt (Elt Ideal) arg23.view (Rect.unit (s := S8x384x128) ![0, 0, 0] S1x384x128.size inb_S8x384x128_S1x384x128_0_0_0).toLoadRect (Memref.IsWhole.unread harg23 xs5)) (View.readAt (Elt Ideal) arg23.view (Rect.unit (s := S8x384x128) ![1, 0, 0] S1x384x128.size inb_S8x384x128_S1x384x128_1_0_0).toLoadRect (Memref.IsWhole.unread harg23 xs5)) (View.readAt (Elt Ideal) arg23.view (Rect.unit (s := S8x384x128) ![2, 0, 0] S1x384x128.size inb_S8x384x128_S1x384x128_2_0_0).toLoadRect (Memref.IsWhole.unread harg23 xs5)) (View.readAt (Elt Ideal) arg23.view (Rect.unit (s := S8x384x128) ![3, 0, 0] S1x384x128.size inb_S8x384x128_S1x384x128_3_0_0).toLoadRect (Memref.IsWhole.unread harg23 xs5)) (View.readAt (Elt Ideal) arg23.view (Rect.unit (s := S8x384x128) ![4, 0, 0] S1x384x128.size inb_S8x384x128_S1x384x128_4_0_0).toLoadRect (Memref.IsWhole.unread harg23 xs5)) (View.readAt (Elt Ideal) arg23.view (Rect.unit (s := S8x384x128) ![5, 0, 0] S1x384x128.size inb_S8x384x128_S1x384x128_5_0_0).toLoadRect (Memref.IsWhole.unread harg23 xs5)) (View.readAt (Elt Ideal) arg23.view (Rect.unit (s := S8x384x128) ![6, 0, 0] S1x384x128.size inb_S8x384x128_S1x384x128_6_0_0).toLoadRect (Memref.IsWhole.unread harg23 xs5)) (View.readAt (Elt Ideal) arg23.view (Rect.unit (s := S8x384x128) ![7, 0, 0] S1x384x128.size inb_S8x384x128_S1x384x128_7_0_0).toLoadRect (Memref.IsWhole.unread harg23 xs5)) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 1 of the gating half. -/
theorem gateB_1 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay151 (kernelRun0_B.sl.r_84 c arg2 harg2 arg4 harg4 arg5 harg5 arg6 harg6 arg7 harg7 arg8 harg8 arg21 arg22 x1 x3 x4 x5 x6 x7) (kernelRun0_B.sl.r_85 c arg9 harg9 x8)
      = kGate (kernelRun0_B.sl.v933 c arg2 harg2 arg4 harg4 arg22 x1 x3) (kernelRun0_B.sl.v1014 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 2 of the attention half. -/
theorem attnB_2 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {harg19 : arg19.IsWhole} {arg20 : Memref sig .tc .vmem S4x128x768 .bf16} {harg20 : arg20.IsWhole} {arg23 : Memref sig .tc .vmem S8x384x128 .f32} {harg23 : arg23.IsWhole} {x0 : Vec Ideal S8 .f32} {x1 : Vec Ideal S1x512x1024 .f32} {x2 : Vec Ideal S1x128x1024 .f32} {x3 : Vec Ideal S1024x1792 .bf16} {x8 : Vec Ideal S1x1024 .f32} {xs1 : Vec Ideal S4x768x128 .bf16} {xs2 : Vec Ideal S4x128x768 .bf16} {xs5 : Vec Ideal S8x384x128 .f32} :
    k0_pay177 (kernelRun0_B.sl.r_102 c arg1 harg1 arg2 harg2 arg3 harg3 arg4 harg4 arg18 arg19 harg19 arg20 harg20 arg23 harg23 x0 x1 x2 x3 xs1 xs2 xs5) (kernelRun0_B.sl.r_103 c arg9 harg9 x8) (kernelRun0_B.sl.r_104 c arg1 harg1 arg2 harg2 arg3 harg3 arg4 harg4 arg18 arg19 harg19 arg20 harg20 arg23 harg23 x0 x1 x2 x3 xs1 xs2 xs5)
      = kAttn 2 (kernelRun0_B.sl.v225 i) (kernelRun0_B.sl.v226 i) (kernelRun0_B.sl.v1042 c arg2 harg2 arg4 harg4 arg18 x1 x3) (kernelRun0_B.sl.v1043 c arg2 harg2 arg4 harg4 arg18 x1 x3) (kernelRun0_B.sl.v1181 c arg2 harg2 arg4 harg4 arg18 x1 x3) (kernelRun0_B.sl.v1182 c arg2 harg2 arg4 harg4 arg18 x1 x3) (kernelRun0_B.sl.v1045 c arg2 harg2 arg3 harg3 arg4 harg4 arg19 harg19 x1 x2 x3 xs1) (kernelRun0_B.sl.v1047 c arg2 harg2 arg3 harg3 arg4 harg4 arg19 harg19 x1 x2 x3 xs1) (kernelRun0_B.sl.v1184 c arg2 harg2 arg3 harg3 arg4 harg4 arg19 harg19 x1 x2 x3 xs1) (kernelRun0_B.sl.v1186 c arg2 harg2 arg3 harg3 arg4 harg4 arg19 harg19 x1 x2 x3 xs1) (kernelRun0_B.sl.v1171 c arg2 harg2 arg3 harg3 arg4 harg4 arg20 harg20 x1 x2 x3 xs2) (kernelRun0_B.sl.v1173 c arg2 harg2 arg3 harg3 arg4 harg4 arg20 harg20 x1 x2 x3 xs2) (kernelRun0_B.sl.v1297 c arg2 harg2 arg3 harg3 arg4 harg4 arg20 harg20 x1 x2 x3 xs2) (kernelRun0_B.sl.v1299 c arg2 harg2 arg3 harg3 arg4 harg4 arg20 harg20 x1 x2 x3 xs2) (View.readAt (Elt Ideal) arg23.view (Rect.unit (s := S8x384x128) ![0, 0, 0] S1x384x128.size inb_S8x384x128_S1x384x128_0_0_0).toLoadRect (Memref.IsWhole.unread harg23 xs5)) (View.readAt (Elt Ideal) arg23.view (Rect.unit (s := S8x384x128) ![1, 0, 0] S1x384x128.size inb_S8x384x128_S1x384x128_1_0_0).toLoadRect (Memref.IsWhole.unread harg23 xs5)) (View.readAt (Elt Ideal) arg23.view (Rect.unit (s := S8x384x128) ![2, 0, 0] S1x384x128.size inb_S8x384x128_S1x384x128_2_0_0).toLoadRect (Memref.IsWhole.unread harg23 xs5)) (View.readAt (Elt Ideal) arg23.view (Rect.unit (s := S8x384x128) ![3, 0, 0] S1x384x128.size inb_S8x384x128_S1x384x128_3_0_0).toLoadRect (Memref.IsWhole.unread harg23 xs5)) (View.readAt (Elt Ideal) arg23.view (Rect.unit (s := S8x384x128) ![4, 0, 0] S1x384x128.size inb_S8x384x128_S1x384x128_4_0_0).toLoadRect (Memref.IsWhole.unread harg23 xs5)) (View.readAt (Elt Ideal) arg23.view (Rect.unit (s := S8x384x128) ![5, 0, 0] S1x384x128.size inb_S8x384x128_S1x384x128_5_0_0).toLoadRect (Memref.IsWhole.unread harg23 xs5)) (View.readAt (Elt Ideal) arg23.view (Rect.unit (s := S8x384x128) ![6, 0, 0] S1x384x128.size inb_S8x384x128_S1x384x128_6_0_0).toLoadRect (Memref.IsWhole.unread harg23 xs5)) (View.readAt (Elt Ideal) arg23.view (Rect.unit (s := S8x384x128) ![7, 0, 0] S1x384x128.size inb_S8x384x128_S1x384x128_7_0_0).toLoadRect (Memref.IsWhole.unread harg23 xs5)) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 2 of the gating half. -/
theorem gateB_2 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay190 (kernelRun0_B.sl.r_114 c arg2 harg2 arg4 harg4 arg5 harg5 arg6 harg6 arg7 harg7 arg8 harg8 arg9 harg9 arg21 arg22 x1 x3 x4 x5 x6 x7 x8)
      = kGate (kernelRun0_B.sl.v1326 c arg2 harg2 arg4 harg4 arg22 x1 x3) (kernelRun0_B.sl.v1407 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

/-- Block 3 of the attention half. -/
theorem attnB_3 {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg9 : Memref sig .tc .vmem S1x1024 .f32} {harg9 : arg9.IsWhole} {arg18 : Memref sig .tc .vmem S512x512 .bf16} {arg19 : Memref sig .tc .vmem S4x768x128 .bf16} {harg19 : arg19.IsWhole} {arg20 : Memref sig .tc .vmem S4x128x768 .bf16} {harg20 : arg20.IsWhole} {arg23 : Memref sig .tc .vmem S8x384x128 .f32} {harg23 : arg23.IsWhole} {x0 : Vec Ideal S8 .f32} {x1 : Vec Ideal S1x512x1024 .f32} {x2 : Vec Ideal S1x128x1024 .f32} {x3 : Vec Ideal S1024x1792 .bf16} {x8 : Vec Ideal S1x1024 .f32} {xs1 : Vec Ideal S4x768x128 .bf16} {xs2 : Vec Ideal S4x128x768 .bf16} {xs5 : Vec Ideal S8x384x128 .f32} :
    k0_pay221 (kernelRun0_B.sl.r_124 c i arg1 harg1 arg2 harg2 arg3 harg3 arg4 harg4 arg18 arg19 harg19 arg20 harg20 arg23 harg23 x0 x1 x2 x3 xs1 xs2 xs5) (kernelRun0_B.sl.r_125 c i arg1 harg1 arg2 harg2 arg3 harg3 arg4 harg4 arg18 arg19 harg19 arg20 harg20 arg23 harg23 x0 x1 x2 x3 xs1 xs2 xs5) (kernelRun0_B.sl.r_131 c i arg1 harg1 arg2 harg2 arg3 harg3 arg4 harg4 arg18 arg19 harg19 arg23 harg23 x0 x1 x2 x3 xs1 xs5) (kernelRun0_B.sl.r_134 c i arg1 harg1 arg2 harg2 arg3 harg3 arg4 harg4 arg18 arg19 harg19 arg23 harg23 x0 x1 x2 x3 xs1 xs5) (kernelRun0_B.sl.r_135 c i arg1 harg1 arg2 harg2 arg3 harg3 arg4 harg4 arg18 arg19 harg19 arg23 harg23 x0 x1 x2 x3 xs1 xs5) (kernelRun0_B.sl.r_136 c i arg1 harg1 arg2 harg2 arg3 harg3 arg4 harg4 arg18 arg19 harg19 arg23 harg23 x0 x1 x2 x3 xs1 xs5) kernelRun0_B.sl.cst_790 (kernelRun0_B.sl.v1730 c arg2 harg2 arg3 harg3 arg4 harg4 arg20 harg20 x1 x2 x3 xs2) (kernelRun0_B.sl.v1732 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8))
      = kAttn 3 (kernelRun0_B.sl.v225 i) (kernelRun0_B.sl.v226 i) (kernelRun0_B.sl.v1435 c arg2 harg2 arg4 harg4 arg18 x1 x3) (kernelRun0_B.sl.v1436 c arg2 harg2 arg4 harg4 arg18 x1 x3) (kernelRun0_B.sl.v1593 c arg2 harg2 arg4 harg4 arg18 x1 x3) (kernelRun0_B.sl.v1594 c arg2 harg2 arg4 harg4 arg18 x1 x3) (kernelRun0_B.sl.v1438 c arg2 harg2 arg3 harg3 arg4 harg4 arg19 harg19 x1 x2 x3 xs1) (kernelRun0_B.sl.v1440 c arg2 harg2 arg3 harg3 arg4 harg4 arg19 harg19 x1 x2 x3 xs1) (kernelRun0_B.sl.v1596 c arg2 harg2 arg3 harg3 arg4 harg4 arg19 harg19 x1 x2 x3 xs1) (kernelRun0_B.sl.v1598 c arg2 harg2 arg3 harg3 arg4 harg4 arg19 harg19 x1 x2 x3 xs1) (kernelRun0_B.sl.v1583 c arg2 harg2 arg3 harg3 arg4 harg4 arg20 harg20 x1 x2 x3 xs2) (kernelRun0_B.sl.v1585 c arg2 harg2 arg3 harg3 arg4 harg4 arg20 harg20 x1 x2 x3 xs2) (kernelRun0_B.sl.v1730 c arg2 harg2 arg3 harg3 arg4 harg4 arg20 harg20 x1 x2 x3 xs2) (kernelRun0_B.sl.v1732 c arg2 harg2 arg3 harg3 arg4 harg4 arg20 harg20 x1 x2 x3 xs2) (View.readAt (Elt Ideal) arg23.view (Rect.unit (s := S8x384x128) ![0, 0, 0] S1x384x128.size inb_S8x384x128_S1x384x128_0_0_0).toLoadRect (Memref.IsWhole.unread harg23 xs5)) (View.readAt (Elt Ideal) arg23.view (Rect.unit (s := S8x384x128) ![1, 0, 0] S1x384x128.size inb_S8x384x128_S1x384x128_1_0_0).toLoadRect (Memref.IsWhole.unread harg23 xs5)) (View.readAt (Elt Ideal) arg23.view (Rect.unit (s := S8x384x128) ![2, 0, 0] S1x384x128.size inb_S8x384x128_S1x384x128_2_0_0).toLoadRect (Memref.IsWhole.unread harg23 xs5)) (View.readAt (Elt Ideal) arg23.view (Rect.unit (s := S8x384x128) ![3, 0, 0] S1x384x128.size inb_S8x384x128_S1x384x128_3_0_0).toLoadRect (Memref.IsWhole.unread harg23 xs5)) (View.readAt (Elt Ideal) arg23.view (Rect.unit (s := S8x384x128) ![4, 0, 0] S1x384x128.size inb_S8x384x128_S1x384x128_4_0_0).toLoadRect (Memref.IsWhole.unread harg23 xs5)) (View.readAt (Elt Ideal) arg23.view (Rect.unit (s := S8x384x128) ![5, 0, 0] S1x384x128.size inb_S8x384x128_S1x384x128_5_0_0).toLoadRect (Memref.IsWhole.unread harg23 xs5)) (View.readAt (Elt Ideal) arg23.view (Rect.unit (s := S8x384x128) ![6, 0, 0] S1x384x128.size inb_S8x384x128_S1x384x128_6_0_0).toLoadRect (Memref.IsWhole.unread harg23 xs5)) (View.readAt (Elt Ideal) arg23.view (Rect.unit (s := S8x384x128) ![7, 0, 0] S1x384x128.size inb_S8x384x128_S1x384x128_7_0_0).toLoadRect (Memref.IsWhole.unread harg23 xs5)) (View.readAt (Elt Ideal) arg1.view (Rect.unit (s := S8) ![0] S1.size inb_S8_S1_0).toLoadRect (Memref.IsWhole.unread harg1 x0) (Shape.Idx.first (by decide))) (View.readAt (Elt Ideal) arg1.view (Rect.unit (s := S8) ![1] S1.size inb_S8_S1_1).toLoadRect (Memref.IsWhole.unread harg1 x0) (Shape.Idx.first (by decide))) (View.readAt (Elt Ideal) arg1.view (Rect.unit (s := S8) ![2] S1.size inb_S8_S1_2).toLoadRect (Memref.IsWhole.unread harg1 x0) (Shape.Idx.first (by decide))) (View.readAt (Elt Ideal) arg1.view (Rect.unit (s := S8) ![3] S1.size inb_S8_S1_3).toLoadRect (Memref.IsWhole.unread harg1 x0) (Shape.Idx.first (by decide))) (View.readAt (Elt Ideal) arg1.view (Rect.unit (s := S8) ![4] S1.size inb_S8_S1_4).toLoadRect (Memref.IsWhole.unread harg1 x0) (Shape.Idx.first (by decide))) (View.readAt (Elt Ideal) arg1.view (Rect.unit (s := S8) ![5] S1.size inb_S8_S1_5).toLoadRect (Memref.IsWhole.unread harg1 x0) (Shape.Idx.first (by decide))) (View.readAt (Elt Ideal) arg1.view (Rect.unit (s := S8) ![6] S1.size inb_S8_S1_6).toLoadRect (Memref.IsWhole.unread harg1 x0) (Shape.Idx.first (by decide))) (View.readAt (Elt Ideal) arg1.view (Rect.unit (s := S8) ![7] S1.size inb_S8_S1_7).toLoadRect (Memref.IsWhole.unread harg1 x0) (Shape.Idx.first (by decide))) (View.readAt (Elt Ideal) arg9.view (Rect.unit (s := S1x1024) ![0, 0] S1x512.size inb_S1x1024_S1x512_0_0).toLoadRect (Memref.IsWhole.unread harg9 x8)) := rfl

/-- Block 3 of the gating half. -/
theorem gateB_3 {c : Dev nD} {arg2 : Memref sig .tc .vmem S1x512x1024 .f32} {harg2 : arg2.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg21 : Memref sig .tc .vmem S512x512 .f32} {arg22 : Memref sig .tc .vmem S512x512 .f32} {x1 : Vec Ideal S1x512x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} :
    k0_pay229 (kernelRun0_B.sl.r_142 c arg2 harg2 arg4 harg4 arg5 harg5 arg6 harg6 arg7 harg7 arg8 harg8 arg22 x1 x3 x4 x5 x6 x7) (kernelRun0_B.sl.v1841 c arg2 harg2 arg4 harg4 arg21 x1 x3) (View.readAt (Elt Ideal) arg9.view (Rect.unit (s := S1x1024) ![0, 512] S1x512.size inb_S1x1024_S1x512_0_512).toLoadRect (Memref.IsWhole.unread harg9 x8))
      = kGate (kernelRun0_B.sl.v1759 c arg2 harg2 arg4 harg4 arg22 x1 x3) (kernelRun0_B.sl.v1841 c arg2 harg2 arg4 harg4 arg21 x1 x3) (View.readAt (Elt Ideal) arg5.view (Rect.unit (s := S1x512) ![0, 0] S1x512.size inb_S1x512_S1x512_0_0).toLoadRect (Memref.IsWhole.unread harg5 x4)) (View.readAt (Elt Ideal) arg6.view (Rect.unit (s := S1x512) ![0, 0] S1x512.size inb_S1x512_S1x512_0_0).toLoadRect (Memref.IsWhole.unread harg6 x5)) (View.readAt (Elt Ideal) arg7.view (Rect.unit (s := S4x128x256) ![0, 0, 0] S1x128x256.size inb_S4x128x256_S1x128x256_0_0_0).toLoadRect (Memref.IsWhole.unread harg7 x6)) (View.readAt (Elt Ideal) arg7.view (Rect.unit (s := S4x128x256) ![1, 0, 0] S1x128x256.size inb_S4x128x256_S1x128x256_1_0_0).toLoadRect (Memref.IsWhole.unread harg7 x6)) (View.readAt (Elt Ideal) arg7.view (Rect.unit (s := S4x128x256) ![2, 0, 0] S1x128x256.size inb_S4x128x256_S1x128x256_2_0_0).toLoadRect (Memref.IsWhole.unread harg7 x6)) (View.readAt (Elt Ideal) arg7.view (Rect.unit (s := S4x128x256) ![3, 0, 0] S1x128x256.size inb_S4x128x256_S1x128x256_3_0_0).toLoadRect (Memref.IsWhole.unread harg7 x6)) (View.readAt (Elt Ideal) arg8.view (Rect.unit (s := S128x512) ![0, 0] S128x512.size inb_S128x512_S128x512_0_0).toLoadRect (Memref.IsWhole.unread harg8 x7)) (View.readAt (Elt Ideal) arg9.view (Rect.unit (s := S1x1024) ![0, 512] S1x512.size inb_S1x1024_S1x512_0_512).toLoadRect (Memref.IsWhole.unread harg9 x8)) := rfl

end Cert.Proof

end
-- ==== Proof.StepB.lean ====
module

public import proofs.«01_k».proof.Proof.Gen.KernelIdeal.Frame.RunB
public import proofs.«01_k».proof.Proof.MixB
public import proofs.«01_k».proof.Proof.Block

/-! What a step leaves in the buffers it keeps. -/

@[expose] public section

set_option maxRecDepth 16384

noncomputable section

namespace Cert.Proof

open Idealize.ShloMosaic
open Cert.KernelIdeal Cert.KernelIdeal.Gen

open scoped BigOperators

variable {a : Args} {b : Fin 8} {T : Fin 16}
variable {c : Dev nD} {i : grid0.Coords} {arg1 : Memref sig .tc .smem S8 .f32} {harg1 : arg1.IsWhole} {arg2 : Memref sig .tc .vmem S1x512x1024 .f32} {harg2 : arg2.IsWhole} {arg3 : Memref sig .tc .vmem S1x128x1024 .f32} {harg3 : arg3.IsWhole} {arg4 : Memref sig .tc .vmem S1024x1792 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x256 .bf16} {harg7 : arg7.IsWhole} {arg8 : Memref sig .tc .vmem S128x512 .f32} {harg8 : arg8.IsWhole} {arg9 : Memref sig .tc .vmem S1x1024 .f32} {harg9 : arg9.IsWhole} {arg10 : Memref sig .tc .vmem S1024x1024 .bf16} {harg10 : arg10.IsWhole} {arg11 : Memref sig .tc .vmem S1x1024 .f32} {harg11 : arg11.IsWhole} {arg12 : Memref sig .tc .vmem S1x1024 .f32} {harg12 : arg12.IsWhole} {arg13 : Memref sig .tc .vmem S1024x4096 .bf16} {harg13 : arg13.IsWhole} {arg14 : Memref sig .tc .vmem S4096x1024 .bf16} {harg14 : arg14.IsWhole} {arg15 : Memref sig .tc .vmem S1x1024 .f32} {harg15 : arg15.IsWhole} {arg16 : Memref sig .tc .vmem S1x1024 .f32} {harg16 : arg16.IsWhole} {arg17 : Memref sig .tc .vmem S1x512x1024 .f32} {harg17 : arg17.IsWhole} {arg18 : Memref sig .tc .vmem S512x512 .bf16} {harg18 : arg18.IsWhole} {arg19 : Memref sig .tc .vmem S4x768x128 .bf16} {harg19 : arg19.IsWhole} {arg20 : Memref sig .tc .vmem S4x128x768 .bf16} {harg20 : arg20.IsWhole} {arg21 : Memref sig .tc .vmem S512x512 .f32} {harg21 : arg21.IsWhole} {arg22 : Memref sig .tc .vmem S512x512 .f32} {harg22 : arg22.IsWhole} {arg23 : Memref sig .tc .vmem S8x384x128 .f32} {harg23 : arg23.IsWhole} {arg24 : Memref sig .tc .vmem S512x1024 .bf16} {harg24 : arg24.IsWhole} {arg25 : Memref sig .tc .vmem S512x1024 .f32} {harg25 : arg25.IsWhole} {arg26 : Memref sig .tc .vmem S512x1024 .f32} {harg26 : arg26.IsWhole} {arg27 : Memref sig .tc .vmem S512x1024 .bf16} {harg27 : arg27.IsWhole} {arg28 : Memref sig .tc .vmem S512x1024 .f32} {harg28 : arg28.IsWhole} {hc0 : ¬cond0_0 i} {x0 : Vec Ideal S8 .f32} {x1 : Vec Ideal S1x512x1024 .f32} {x2 : Vec Ideal S1x128x1024 .f32} {x3 : Vec Ideal S1024x1792 .bf16} {x4 : Vec Ideal S1x512 .f32} {x5 : Vec Ideal S1x512 .f32} {x6 : Vec Ideal S4x128x256 .bf16} {x7 : Vec Ideal S128x512 .f32} {x8 : Vec Ideal S1x1024 .f32} {x9 : Vec Ideal S1024x1024 .bf16} {x10 : Vec Ideal S1x1024 .f32} {x11 : Vec Ideal S1x1024 .f32} {x12 : Vec Ideal S1024x4096 .bf16} {x13 : Vec Ideal S4096x1024 .bf16} {x14 : Vec Ideal S1x1024 .f32} {x15 : Vec Ideal S1x1024 .f32} {xs1 : Vec Ideal S4x768x128 .bf16} {xs2 : Vec Ideal S4x128x768 .bf16} {xs5 : Vec Ideal S8x384x128 .f32} {xs7 : Vec Ideal S512x1024 .f32} {xs10 : Vec Ideal S512x1024 .f32}

/-- The buffer of queries after its store. -/
theorem queriesB (hx : ∀ (r : Fin 512) (d : Fin 1024), x1 (ix3 0 r d) = a.x b ⟨512 * T + r, by omega⟩ d) (hw : ∀ k e, x3 (ix2 k e) = a.wIn k e) : QRows a b T (View.canon (kernelRun0_B.sl.HS0_1 c arg2 harg2 arg4 harg4 x1 x3)) := by
  intro r l
  unfold kernelRun0_B.sl.HS0_1
  refine (canon_head2 _ _ _ r l r l (by omega) (by omega)).trans ((pay20_apply _ _ r l).trans ?_)
  exact congrArg (_ * ·) (proj_of (e := ⟨l, by omega⟩) _ _ (fun k => (readAt_box3 arg2 harg2 x1 _ 0 r k 0 r k rfl (by omega) (by omega)).trans (hx r k))
    (fun k => (readAt_box2 arg4 harg4 x3 _ k ⟨l, by omega⟩ k l (by omega) (by dsimp only; omega)).trans (hw k _)))

/-- The gate's units after their store. -/
theorem unitsB (hx : ∀ (r : Fin 512) (d : Fin 1024), x1 (ix3 0 r d) = a.x b ⟨512 * T + r, by omega⟩ d) (hw : ∀ k e, x3 (ix2 k e) = a.wIn k e) : URows a b T 768 (by omega) (View.canon (kernelRun0_B.sl.HS3_1 c arg2 harg2 arg4 harg4 x1 x3)) := by
  intro r l
  unfold kernelRun0_B.sl.HS3_1
  refine (canon_head2 _ _ _ r l r l (by omega) (by omega)).trans ((pay21_apply _ _ r l).trans ?_)
  exact proj_of (e := ⟨768 + l, by omega⟩) _ _ (fun k => (readAt_box3 arg2 harg2 x1 _ 0 r k 0 r k rfl (by omega) (by omega)).trans (hx r k))
    (fun k => (readAt_box2 arg4 harg4 x3 _ k ⟨768 + l, by omega⟩ k l (by omega) rfl).trans (hw k _))

/-- The gate's values after their store. -/
theorem valuesB (hx : ∀ (r : Fin 512) (d : Fin 1024), x1 (ix3 0 r d) = a.x b ⟨512 * T + r, by omega⟩ d) (hw : ∀ k e, x3 (ix2 k e) = a.wIn k e) : URows a b T 1280 (by omega) (View.canon (kernelRun0_B.sl.HS4_1 c arg2 harg2 arg4 harg4 x1 x3)) := by
  intro r l
  unfold kernelRun0_B.sl.HS4_1
  refine (canon_head2 _ _ _ r l r l (by omega) (by omega)).trans ((pay22_apply _ _ r l).trans ?_)
  exact proj_of (e := ⟨1280 + l, by omega⟩) _ _ (fun k => (readAt_box3 arg2 harg2 x1 _ 0 r k 0 r k rfl (by omega) (by omega)).trans (hx r k))
    (fun k => (readAt_box2 arg4 harg4 x3 _ k ⟨1280 + l, by omega⟩ k l (by omega) rfl).trans (hw k _))

/-- The buffer of keys after its stores. -/
theorem keysB (hx : ∀ (r : Fin 512) (d : Fin 1024), x1 (ix3 0 r d) = a.x b ⟨512 * T + r, by omega⟩ d) (hn : ∀ (i : Fin 128) (d : Fin 1024) (h : 512 * T.val + 512 + i < 8192), x2 (ix3 0 i d) = a.x b ⟨512 * T + 512 + i, h⟩ d) (hw : ∀ k e, x3 (ix2 k e) = a.wIn k e) (hc : T.val ≠ 0 → ∀ (p : Fin 4) (i l : Fin 128), xs1 (ix3 p ⟨512 + i, by omega⟩ l) = KF a b T p i l) : KRows a b T (View.canon (kernelRun0_B.sl.HS1_9 c arg2 harg2 arg3 harg3 arg4 harg4 arg19 harg19 x1 x2 x3 xs1)) := by
  unfold kernelRun0_B.sl.HS1_9
  exact keys_rows _ _ _ (fun r d => (readAt_box3 arg2 harg2 x1 _ 0 r d 0 r d rfl (by omega) (by omega)).trans (hx r d))
    (fun i d h => (readAt_box3 arg3 harg3 x2 _ 0 i d 0 i d rfl (by omega) (by omega)).trans (hn i d h))
    (fun k e => (readAt_box2 arg4 harg4 x3 _ k ⟨512 + e, by omega⟩ k e (by omega) rfl).trans (hw k _)) _ (fun h p i l => (readAt_box3 arg19 harg19 xs1 _ p ⟨512 + i, by omega⟩ l p i l (by omega) rfl (by omega)).trans (hc h p i l)) _

/-- The buffer of vals after its stores. -/
theorem valsB (hx : ∀ (r : Fin 512) (d : Fin 1024), x1 (ix3 0 r d) = a.x b ⟨512 * T + r, by omega⟩ d) (hn : ∀ (i : Fin 128) (d : Fin 1024) (h : 512 * T.val + 512 + i < 8192), x2 (ix3 0 i d) = a.x b ⟨512 * T + 512 + i, h⟩ d) (hw : ∀ k e, x3 (ix2 k e) = a.wIn k e) (hc : T.val ≠ 0 → ∀ (p : Fin 4) (i l : Fin 128), xs2 (ix3 p l ⟨512 + i, by omega⟩) = VF a b T p i l) : VRows a b T (View.canon (kernelRun0_B.sl.HS2_9 c arg2 harg2 arg3 harg3 arg4 harg4 arg20 harg20 x1 x2 x3 xs2)) := by
  unfold kernelRun0_B.sl.HS2_9
  exact vals_rows _ _ _ (fun r d => (readAt_box3 arg2 harg2 x1 _ 0 r d 0 r d rfl (by omega) (by omega)).trans (hx r d))
    (fun i d h => (readAt_box3 arg3 harg3 x2 _ 0 i d 0 i d rfl (by omega) (by omega)).trans (hn i d h))
    (fun k e => (readAt_box2 arg4 harg4 x3 _ k ⟨512 + e, by omega⟩ k e (by omega) rfl).trans (hw k _)) _ (fun h p i l => (readAt_box3 arg20 harg20 xs2 _ p l ⟨512 + i, by omega⟩ p l i (by omega) (by omega) rfl).trans (hc h p i l)) _

/-- Block 0 of attention's rows. -/
theorem headsB_0 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (h0 : (kernelRun0_B.sl.v225 i) = 0#1 ↔ T.val = 0) (h1 : (kernelRun0_B.sl.v226 i) = 0#1 ↔ T.val = 15) (n : Fin 64) (hn : n.val = 4 * T + 0) (u : Fin 128) (L : Fin 512) :
    k0_pay105 (kernelRun0_B.sl.r_28 c i arg1 harg1 arg2 harg2 arg3 harg3 arg4 harg4 arg18 arg19 harg19 arg20 harg20 arg23 harg23 x0 x1 x2 x3 xs1 xs2 xs5) (kernelRun0_B.sl.r_31 c i arg1 harg1 arg2 harg2 arg3 harg3 arg4 harg4 arg18 arg19 harg19 arg20 harg20 arg23 harg23 x0 x1 x2 x3 xs1 xs2 xs5) (kernelRun0_B.sl.r_39 c i arg1 harg1 arg2 harg2 arg3 harg3 arg4 harg4 arg18 arg19 harg19 arg23 harg23 x0 x1 x2 x3 xs1 xs5) (kernelRun0_B.sl.r_43 c i arg1 harg1 arg2 harg2 arg3 harg3 arg4 harg4 arg18 arg19 harg19 arg23 harg23 x0 x1 x2 x3 xs1 xs5) (kernelRun0_B.sl.r_44 c i arg1 harg1 arg2 harg2 arg3 harg3 arg4 harg4 arg18 arg19 harg19 arg23 harg23 x0 x1 x2 x3 xs1 xs5) (kernelRun0_B.sl.r_45 c i arg1 harg1 arg2 harg2 arg3 harg3 arg4 harg4 arg18 arg19 harg19 arg23 harg23 x0 x1 x2 x3 xs1 xs5) (kernelRun0_B.sl.r_46 c i arg1 harg1 arg2 harg2 arg3 harg3 arg4 harg4 arg18 arg19 harg19 arg23 harg23 x0 x1 x2 x3 xs1 xs5) (kernelRun0_B.sl.v509 c arg2 harg2 arg3 harg3 arg4 harg4 arg20 harg20 x1 x2 x3 xs2) (kernelRun0_B.sl.v511 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnB_0 (ix2 u L)).trans (attn_block ha 0 n hn h0 h1 (hQ.read arg18.view 0 0 n hn _ rfl rfl) (hQ.read arg18.view 0 1 n hn _ rfl rfl) (hQ.read arg18.view 0 2 n hn _ rfl rfl) (hQ.read arg18.view 0 3 n hn _ rfl rfl)
    (hK.read arg19.view 0 0 n hn _ rfl rfl) (hK.read arg19.view 0 1 n hn _ rfl rfl) (hK.read arg19.view 0 2 n hn _ rfl rfl) (hK.read arg19.view 0 3 n hn _ rfl rfl) (hV.read arg20.view 0 0 n hn _ rfl rfl) (hV.read arg20.view 0 1 n hn _ rfl rfl) (hV.read arg20.view 0 2 n hn _ rfl rfl) (hV.read arg20.view 0 3 n hn _ rfl rfl)
    (hB.read arg23 harg23 0 _ rfl) (hB.read arg23 harg23 1 _ rfl) (hB.read arg23 harg23 2 _ rfl) (hB.read arg23 harg23 3 _ rfl) (hB.read arg23 harg23 4 _ rfl) (hB.read arg23 harg23 5 _ rfl) (hB.read arg23 harg23 6 _ rfl) (hB.read arg23 harg23 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 0 of the gate's rows. -/
theorem gatesB_0 (hI : Ins a b T x0 x1 x2 x3 x4 x5 x6 x7 x8 x9 x10 x11 x12 x13 x14 x15) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (n : Fin 64) (hn : n.val = 4 * T + 0) (u : Fin 128) (L : Fin 512) :
    k0_pay115 (kernelRun0_B.sl.r_53 c arg2 harg2 arg4 harg4 arg5 harg5 arg6 harg6 arg7 harg7 arg8 harg8 arg22 x1 x3 x4 x5 x6 x7) (kernelRun0_B.sl.v619 c arg2 harg2 arg4 harg4 arg21 x1 x3) (View.readAt (Elt Ideal) arg9.view (Rect.unit (s := S1x1024) ![0, 512] S1x512.size inb_S1x1024_S1x512_0_512).toLoadRect (Memref.IsWhole.unread harg9 x8)) (ix2 u L)
      = rmsRow (Ideal.ofBits .f32 0x44000000#32) (gated a b ⟨128 * n + u, by omega⟩) a.gateG L :=
  (congrFun gateB_0 (ix2 u L)).trans (gate_block n (fun i l => (readCov_box2 arg22.view _ _ ⟨0 + i, by omega⟩ l i l rfl (by omega)).trans ((hG _ _).trans (congrArg (fun s => proj a b s ⟨1280 + l, by omega⟩) (Fin.ext (by dsimp only; omega)))))
    (fun i l => (readCov_box2 arg21.view _ _ ⟨0 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 0 of the mixed rows, read back. -/
theorem mixedB_0 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (h0 : (kernelRun0_B.sl.v225 i) = 0#1 ↔ T.val = 0) (h1 : (kernelRun0_B.sl.v226 i) = 0#1 ↔ T.val = 15) (n : Fin 64) (hn : n.val = 4 * T + 0) (u : Fin 128) (e : Fin 1024) :
    (View.readCov arg24.view (kernelRun0_B.sl.HS6_2 c i arg1 harg1 arg2 harg2 arg3 harg3 arg4 harg4 arg5 harg5 arg6 harg6 arg7 harg7 arg8 harg8 arg9 harg9 arg18 arg19 harg19 arg20 harg20 arg21 arg22 arg23 harg23 x0 x1 x2 x3 x4 x5 x6 x7 x8 xs1 xs2 xs5) (Rect.unit (s := S512x1024) ![0, 0] S128x1024.size inb_S512x1024_S128x1024_0_0).toLoadRect) (ix2 u e) = mixRow a b ⟨128 * n + u, by omega⟩ e :=
  mix_row arg24.view _ (by omega) _ _ _ n (gatesB_0 hI hU hG n hn) (headsB_0 ha hI hQ hK hV hB h0 h1 n hn) u e

/-- Block 1 of attention's rows. -/
theorem headsB_1 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (h0 : (kernelRun0_B.sl.v225 i) = 0#1 ↔ T.val = 0) (h1 : (kernelRun0_B.sl.v226 i) = 0#1 ↔ T.val = 15) (n : Fin 64) (hn : n.val = 4 * T + 1) (u : Fin 128) (L : Fin 512) :
    k0_pay142 (kernelRun0_B.sl.r_64 c arg1 harg1 arg2 harg2 arg3 harg3 arg4 harg4 arg18 arg19 harg19 arg20 harg20 arg23 harg23 x0 x1 x2 x3 xs1 xs2 xs5) (kernelRun0_B.sl.r_65 c arg1 harg1 arg2 harg2 arg3 harg3 arg4 harg4 arg18 arg19 harg19 arg20 harg20 arg23 harg23 x0 x1 x2 x3 xs1 xs2 xs5) (kernelRun0_B.sl.r_74 c arg1 harg1 arg2 harg2 arg3 harg3 arg4 harg4 arg18 arg19 harg19 arg23 harg23 x0 x1 x2 x3 xs1 xs5) (kernelRun0_B.sl.r_75 c arg2 harg2 arg3 harg3 arg4 harg4 arg20 harg20 x1 x2 x3 xs2) (kernelRun0_B.sl.v906 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnB_1 (ix2 u L)).trans (attn_block ha 1 n hn h0 h1 (hQ.read arg18.view 1 0 n hn _ rfl rfl) (hQ.read arg18.view 1 1 n hn _ rfl rfl) (hQ.read arg18.view 1 2 n hn _ rfl rfl) (hQ.read arg18.view 1 3 n hn _ rfl rfl)
    (hK.read arg19.view 1 0 n hn _ rfl rfl) (hK.read arg19.view 1 1 n hn _ rfl rfl) (hK.read arg19.view 1 2 n hn _ rfl rfl) (hK.read arg19.view 1 3 n hn _ rfl rfl) (hV.read arg20.view 1 0 n hn _ rfl rfl) (hV.read arg20.view 1 1 n hn _ rfl rfl) (hV.read arg20.view 1 2 n hn _ rfl rfl) (hV.read arg20.view 1 3 n hn _ rfl rfl)
    (hB.read arg23 harg23 0 _ rfl) (hB.read arg23 harg23 1 _ rfl) (hB.read arg23 harg23 2 _ rfl) (hB.read arg23 harg23 3 _ rfl) (hB.read arg23 harg23 4 _ rfl) (hB.read arg23 harg23 5 _ rfl) (hB.read arg23 harg23 6 _ rfl) (hB.read arg23 harg23 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 1 of the gate's rows. -/
theorem gatesB_1 (hI : Ins a b T x0 x1 x2 x3 x4 x5 x6 x7 x8 x9 x10 x11 x12 x13 x14 x15) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (n : Fin 64) (hn : n.val = 4 * T + 1) (u : Fin 128) (L : Fin 512) :
    k0_pay151 (kernelRun0_B.sl.r_84 c arg2 harg2 arg4 harg4 arg5 harg5 arg6 harg6 arg7 harg7 arg8 harg8 arg21 arg22 x1 x3 x4 x5 x6 x7) (kernelRun0_B.sl.r_85 c arg9 harg9 x8) (ix2 u L)
      = rmsRow (Ideal.ofBits .f32 0x44000000#32) (gated a b ⟨128 * n + u, by omega⟩) a.gateG L :=
  (congrFun gateB_1 (ix2 u L)).trans (gate_block n (fun i l => (readCov_box2 arg22.view _ _ ⟨128 + i, by omega⟩ l i l rfl (by omega)).trans ((hG _ _).trans (congrArg (fun s => proj a b s ⟨1280 + l, by omega⟩) (Fin.ext (by dsimp only; omega)))))
    (fun i l => (readCov_box2 arg21.view _ _ ⟨128 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 1 of the mixed rows, read back. -/
theorem mixedB_1 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (h0 : (kernelRun0_B.sl.v225 i) = 0#1 ↔ T.val = 0) (h1 : (kernelRun0_B.sl.v226 i) = 0#1 ↔ T.val = 15) (n : Fin 64) (hn : n.val = 4 * T + 1) (u : Fin 128) (e : Fin 1024) :
    (kernelRun0_B.sl.v1055 c i arg1 harg1 arg2 harg2 arg3 harg3 arg4 harg4 arg5 harg5 arg6 harg6 arg7 harg7 arg8 harg8 arg9 harg9 arg18 arg19 harg19 arg20 harg20 arg21 arg22 arg23 harg23 arg24 x0 x1 x2 x3 x4 x5 x6 x7 x8 xs1 xs2 xs5) (ix2 u e) = mixRow a b ⟨128 * n + u, by omega⟩ e :=
  mix_row arg24.view _ (by omega) _ _ _ n (gatesB_1 hI hU hG n hn) (headsB_1 ha hI hQ hK hV hB h0 h1 n hn) u e

/-- Block 2 of attention's rows. -/
theorem headsB_2 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (h0 : (kernelRun0_B.sl.v225 i) = 0#1 ↔ T.val = 0) (h1 : (kernelRun0_B.sl.v226 i) = 0#1 ↔ T.val = 15) (n : Fin 64) (hn : n.val = 4 * T + 2) (u : Fin 128) (L : Fin 512) :
    k0_pay177 (kernelRun0_B.sl.r_102 c arg1 harg1 arg2 harg2 arg3 harg3 arg4 harg4 arg18 arg19 harg19 arg20 harg20 arg23 harg23 x0 x1 x2 x3 xs1 xs2 xs5) (kernelRun0_B.sl.r_103 c arg9 harg9 x8) (kernelRun0_B.sl.r_104 c arg1 harg1 arg2 harg2 arg3 harg3 arg4 harg4 arg18 arg19 harg19 arg20 harg20 arg23 harg23 x0 x1 x2 x3 xs1 xs2 xs5) (ix2 u L)
      = rmsRow (Ideal.ofBits .f32 0x44000000#32) (attnRow a b ⟨128 * n + u, by omega⟩) a.attnG L :=
  (congrFun attnB_2 (ix2 u L)).trans (attn_block ha 2 n hn h0 h1 (hQ.read arg18.view 2 0 n hn _ rfl rfl) (hQ.read arg18.view 2 1 n hn _ rfl rfl) (hQ.read arg18.view 2 2 n hn _ rfl rfl) (hQ.read arg18.view 2 3 n hn _ rfl rfl)
    (hK.read arg19.view 2 0 n hn _ rfl rfl) (hK.read arg19.view 2 1 n hn _ rfl rfl) (hK.read arg19.view 2 2 n hn _ rfl rfl) (hK.read arg19.view 2 3 n hn _ rfl rfl) (hV.read arg20.view 2 0 n hn _ rfl rfl) (hV.read arg20.view 2 1 n hn _ rfl rfl) (hV.read arg20.view 2 2 n hn _ rfl rfl) (hV.read arg20.view 2 3 n hn _ rfl rfl)
    (hB.read arg23 harg23 0 _ rfl) (hB.read arg23 harg23 1 _ rfl) (hB.read arg23 harg23 2 _ rfl) (hB.read arg23 harg23 3 _ rfl) (hB.read arg23 harg23 4 _ rfl) (hB.read arg23 harg23 5 _ rfl) (hB.read arg23 harg23 6 _ rfl) (hB.read arg23 harg23 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 2 of the gate's rows. -/
theorem gatesB_2 (hI : Ins a b T x0 x1 x2 x3 x4 x5 x6 x7 x8 x9 x10 x11 x12 x13 x14 x15) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (n : Fin 64) (hn : n.val = 4 * T + 2) (u : Fin 128) (L : Fin 512) :
    k0_pay190 (kernelRun0_B.sl.r_114 c arg2 harg2 arg4 harg4 arg5 harg5 arg6 harg6 arg7 harg7 arg8 harg8 arg9 harg9 arg21 arg22 x1 x3 x4 x5 x6 x7 x8) (ix2 u L)
      = rmsRow (Ideal.ofBits .f32 0x44000000#32) (gated a b ⟨128 * n + u, by omega⟩) a.gateG L :=
  (congrFun gateB_2 (ix2 u L)).trans (gate_block n (fun i l => (readCov_box2 arg22.view _ _ ⟨256 + i, by omega⟩ l i l rfl (by omega)).trans ((hG _ _).trans (congrArg (fun s => proj a b s ⟨1280 + l, by omega⟩) (Fin.ext (by dsimp only; omega)))))
    (fun i l => (readCov_box2 arg21.view _ _ ⟨256 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 2 of the mixed rows, read back. -/
theorem mixedB_2 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (h0 : (kernelRun0_B.sl.v225 i) = 0#1 ↔ T.val = 0) (h1 : (kernelRun0_B.sl.v226 i) = 0#1 ↔ T.val = 15) (n : Fin 64) (hn : n.val = 4 * T + 2) (u : Fin 128) (e : Fin 1024) :
    (View.readCov arg24.view (kernelRun0_B.sl.HS6_6 c i arg1 harg1 arg2 harg2 arg3 harg3 arg4 harg4 arg5 harg5 arg6 harg6 arg7 harg7 arg8 harg8 arg9 harg9 arg18 arg19 harg19 arg20 harg20 arg21 arg22 arg23 harg23 x0 x1 x2 x3 x4 x5 x6 x7 x8 xs1 xs2 xs5) (Rect.unit (s := S512x1024) ![256, 0] S128x1024.size inb_S512x1024_S128x1024_256_0).toLoadRect) (ix2 u e) = mixRow a b ⟨128 * n + u, by omega⟩ e :=
  mix_row arg24.view _ (by omega) _ _ _ n (gatesB_2 hI hU hG n hn) (headsB_2 ha hI hQ hK hV hB h0 h1 n hn) u e

/-- Block 3 of attention's rows. -/
theorem headsB_3 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (h0 : (kernelRun0_B.sl.v225 i) = 0#1 ↔ T.val = 0) (h1 : (kernelRun0_B.sl.v226 i) = 0#1 ↔ T.val = 15) (n : Fin 64) (hn : n.val = 4 * T + 3) (u : Fin 128) (L : Fin 512) :
    k0_pay221 (kernelRun0_B.sl.r_124 c i arg1 harg1 arg2 harg2 arg3 harg3 arg4 harg4 arg18 arg19 harg19 arg20 harg20 arg23 harg23 x0 x1 x2 x3 xs1 xs2 xs5) (kernelRun0_B.sl.r_125 c i arg1 harg1 arg2 harg2 arg3 harg3 arg4 harg4 arg18 arg19 harg19 arg20 harg20 arg23 harg23 x0 x1 x2 x3 xs1 xs2 xs5) (kernelRun0_B.sl.r_131 c i arg1 harg1 arg2 harg2 arg3 harg3 arg4 harg4 arg18 arg19 harg19 arg23 harg23 x0 x1 x2 x3 xs1 xs5) (kernelRun0_B.sl.r_134 c i arg1 harg1 arg2 harg2 arg3 harg3 arg4 harg4 arg18 arg19 harg19 arg23 harg23 x0 x1 x2 x3 xs1 xs5) (kernelRun0_B.sl.r_135 c i arg1 harg1 arg2 harg2 arg3 harg3 arg4 harg4 arg18 arg19 harg19 arg23 harg23 x0 x1 x2 x3 xs1 xs5) (kernelRun0_B.sl.r_136 c i arg1 harg1 arg2 harg2 arg3 harg3 arg4 harg4 arg18 arg19 harg19 arg23 harg23 x0 x1 x2 x3 xs1 xs5) kernelRun0_B.sl.cst_790 (kernelRun0_B.sl.v1730 c arg2 harg2 arg3 harg3 arg4 harg4 arg20 harg20 x1 x2 x3 xs2) (kernelRun0_B.sl.v1732 c arg2 harg2 arg3 harg3 arg4 harg4 arg20 harg20 x1 x2 x3 xs2) (View.readAt (Elt Ideal) arg9.view (Rect.unit (s := S1x1024) ![0, 0] S1x512.size inb_S1x1024_S1x512_0_0).toLoadRect (Memref.IsWhole.unread harg9 x8)) (ix2 u L)
      = rmsRow (Ideal.ofBits .f32 0x44000000#32) (attnRow a b ⟨128 * n + u, by omega⟩) a.attnG L :=
  (congrFun attnB_3 (ix2 u L)).trans (attn_block ha 3 n hn h0 h1 (hQ.read arg18.view 3 0 n hn _ rfl rfl) (hQ.read arg18.view 3 1 n hn _ rfl rfl) (hQ.read arg18.view 3 2 n hn _ rfl rfl) (hQ.read arg18.view 3 3 n hn _ rfl rfl)
    (hK.read arg19.view 3 0 n hn _ rfl rfl) (hK.read arg19.view 3 1 n hn _ rfl rfl) (hK.read arg19.view 3 2 n hn _ rfl rfl) (hK.read arg19.view 3 3 n hn _ rfl rfl) (hV.read arg20.view 3 0 n hn _ rfl rfl) (hV.read arg20.view 3 1 n hn _ rfl rfl) (hV.read arg20.view 3 2 n hn _ rfl rfl) (hV.read arg20.view 3 3 n hn _ rfl rfl)
    (hB.read arg23 harg23 0 _ rfl) (hB.read arg23 harg23 1 _ rfl) (hB.read arg23 harg23 2 _ rfl) (hB.read arg23 harg23 3 _ rfl) (hB.read arg23 harg23 4 _ rfl) (hB.read arg23 harg23 5 _ rfl) (hB.read arg23 harg23 6 _ rfl) (hB.read arg23 harg23 7 _ rfl)
    ((congrFun (congrArg (View.ld · _) (harg1.read_unread x0)) _).trans ((congrArg x0 (funext fun d => by fin_cases d; rfl)).trans (hI.sink 0))) ((congrFun (congrArg (View.ld · _) (harg1.read_unread x0)) _).trans ((congrArg x0 (funext fun d => by fin_cases d; rfl)).trans (hI.sink 1))) ((congrFun (congrArg (View.ld · _) (harg1.read_unread x0)) _).trans ((congrArg x0 (funext fun d => by fin_cases d; rfl)).trans (hI.sink 2))) ((congrFun (congrArg (View.ld · _) (harg1.read_unread x0)) _).trans ((congrArg x0 (funext fun d => by fin_cases d; rfl)).trans (hI.sink 3))) ((congrFun (congrArg (View.ld · _) (harg1.read_unread x0)) _).trans ((congrArg x0 (funext fun d => by fin_cases d; rfl)).trans (hI.sink 4))) ((congrFun (congrArg (View.ld · _) (harg1.read_unread x0)) _).trans ((congrArg x0 (funext fun d => by fin_cases d; rfl)).trans (hI.sink 5))) ((congrFun (congrArg (View.ld · _) (harg1.read_unread x0)) _).trans ((congrArg x0 (funext fun d => by fin_cases d; rfl)).trans (hI.sink 6))) ((congrFun (congrArg (View.ld · _) (harg1.read_unread x0)) _).trans ((congrArg x0 (funext fun d => by fin_cases d; rfl)).trans (hI.sink 7)))
    (fun L => (readAt_box2 arg9 harg9 x8 _ 0 ⟨L, by omega⟩ 0 L rfl (by dsimp only; omega)).trans (hI.attnG L)) u L)

/-- Block 3 of the gate's rows. -/
theorem gatesB_3 (hI : Ins a b T x0 x1 x2 x3 x4 x5 x6 x7 x8 x9 x10 x11 x12 x13 x14 x15) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (n : Fin 64) (hn : n.val = 4 * T + 3) (u : Fin 128) (L : Fin 512) :
    k0_pay229 (kernelRun0_B.sl.r_142 c arg2 harg2 arg4 harg4 arg5 harg5 arg6 harg6 arg7 harg7 arg8 harg8 arg22 x1 x3 x4 x5 x6 x7) (kernelRun0_B.sl.v1841 c arg2 harg2 arg4 harg4 arg21 x1 x3) (View.readAt (Elt Ideal) arg9.view (Rect.unit (s := S1x1024) ![0, 512] S1x512.size inb_S1x1024_S1x512_0_512).toLoadRect (Memref.IsWhole.unread harg9 x8)) (ix2 u L)
      = rmsRow (Ideal.ofBits .f32 0x44000000#32) (gated a b ⟨128 * n + u, by omega⟩) a.gateG L :=
  (congrFun gateB_3 (ix2 u L)).trans (gate_block n (fun i l => (readCov_box2 arg22.view _ _ ⟨384 + i, by omega⟩ l i l rfl (by omega)).trans ((hG _ _).trans (congrArg (fun s => proj a b s ⟨1280 + l, by omega⟩) (Fin.ext (by dsimp only; omega)))))
    (fun i l => (readCov_box2 arg21.view _ _ ⟨384 + i, by omega⟩ l i l rfl (by omega)).trans ((hU _ _).trans (congrArg (fun s => proj a b s ⟨768 + l, by omega⟩) (Fin.ext (by dsimp only; omega)))))
    (fun l => (readAt_box2 arg5 harg5 x4 _ 0 l 0 l rfl (by omega)).trans (hI.lnG l)) (fun l => (readAt_box2 arg6 harg6 x5 _ 0 l 0 l rfl (by omega)).trans (hI.lnB l))
    (fun i s => (readAt_box3 arg7 harg7 x6 _ 0 i s 0 i s rfl (by omega) (by omega)).trans (hI.ws 0 i s)) (fun i s => (readAt_box3 arg7 harg7 x6 _ 1 i s 0 i s rfl (by omega) (by omega)).trans (hI.ws 1 i s)) (fun i s => (readAt_box3 arg7 harg7 x6 _ 2 i s 0 i s rfl (by omega) (by omega)).trans (hI.ws 2 i s)) (fun i s => (readAt_box3 arg7 harg7 x6 _ 3 i s 0 i s rfl (by omega) (by omega)).trans (hI.ws 3 i s))
    (fun i l => (readAt_box2 arg8 harg8 x7 _ i l i l (by omega) (by omega)).trans (hI.bs i l))
    (fun L => (readAt_box2 arg9 harg9 x8 _ 0 ⟨512 + L, by omega⟩ 0 L rfl rfl).trans (hI.gateG L)) u L)

/-- Block 3 of the mixed rows, read back. -/
theorem mixedB_3 (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (h0 : (kernelRun0_B.sl.v225 i) = 0#1 ↔ T.val = 0) (h1 : (kernelRun0_B.sl.v226 i) = 0#1 ↔ T.val = 15) (n : Fin 64) (hn : n.val = 4 * T + 3) (u : Fin 128) (e : Fin 1024) :
    (kernelRun0_B.sl.v1873 c i arg1 harg1 arg2 harg2 arg3 harg3 arg4 harg4 arg5 harg5 arg6 harg6 arg7 harg7 arg8 harg8 arg9 harg9 arg18 arg19 harg19 arg20 harg20 arg21 arg22 arg23 harg23 arg24 x0 x1 x2 x3 x4 x5 x6 x7 x8 xs1 xs2 xs5) (ix2 u e) = mixRow a b ⟨128 * n + u, by omega⟩ e :=
  mix_row arg24.view _ (by omega) _ _ _ n (gatesB_3 hI hU hG n hn) (headsB_3 ha hI hQ hK hV hB h0 h1 n hn) u e

/-- The first sublayer's rows after their stores. -/
theorem rowsB (ha : a.Real) (hI : Ins a b T x0 x1 x2 x3 x4 x5 x6 x7 x8 x9 x10 x11 x12 x13 x14 x15) (hQ : QRows a b T (View.canon (kernelRun0_B.sl.HS0_1 c arg2 harg2 arg4 harg4 x1 x3))) (hK : KRows a b T (View.canon (kernelRun0_B.sl.HS1_9 c arg2 harg2 arg3 harg3 arg4 harg4 arg19 harg19 x1 x2 x3 xs1))) (hV : VRows a b T (View.canon (kernelRun0_B.sl.HS2_9 c arg2 harg2 arg3 harg3 arg4 harg4 arg20 harg20 x1 x2 x3 xs2))) (hB : BRows xs5) (hU : URows a b T 768 (by omega) (View.canon (kernelRun0_B.sl.HS3_1 c arg2 harg2 arg4 harg4 x1 x3))) (hG : URows a b T 1280 (by omega) (View.canon (kernelRun0_B.sl.HS4_1 c arg2 harg2 arg4 harg4 x1 x3))) (h0 : (kernelRun0_B.sl.v225 i) = 0#1 ↔ T.val = 0) (h1 : (kernelRun0_B.sl.v226 i) = 0#1 ↔ T.val = 15) (r : Fin 512) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 xs1 xs2 xs5 xs7 xs10).2.2.2.2.1 (ix2 r d) = y1 a b ⟨512 * T + r, by omega⟩ d := by
  have hr := r.isLt
  dsimp only [kernelRun0_B]
  by_cases h384 : 384 ≤ r.val
  · refine (canon_head2 _ _ _ r d ⟨r - 384, by omega⟩ d (by dsimp only; omega) (by omega)).trans ?_
    exact ((out_block ⟨4 * T + 3, by omega⟩ (fun i d => (readAt_box3 arg2 harg2 x1 _ 0 ⟨384 + i, by omega⟩ d 0 i d rfl rfl (by omega)).trans ((hI.x _ _).trans (congrArg (fun s => a.x b s d) (Fin.ext (by dsimp only; omega))))) (mixedB_3 ha hI hQ hK hV hB hU hG h0 h1 ⟨4 * T + 3, by omega⟩ rfl)
      (fun k e => (readAt_box2 arg10 harg10 x9 _ k e k e (by omega) (by omega)).trans (hI.wOut k e)) ⟨r - 384, by omega⟩ d).trans (congrArg (fun s => y1 a b s d) (Fin.ext (by dsimp only; omega))))
  refine (canon_skip2 _ _ _ r d (by omega)).trans ?_
  by_cases h256 : 256 ≤ r.val
  · refine (canon_head2 _ _ _ r d ⟨r - 256, by omega⟩ d (by dsimp only; omega) (by omega)).trans ?_
    exact ((out_block ⟨4 * T + 2, by omega⟩ (fun i d => (readAt_box3 arg2 harg2 x1 _ 0 ⟨256 + i, by omega⟩ d 0 i d rfl rfl (by omega)).trans ((hI.x _ _).trans (congrArg (fun s => a.x b s d) (Fin.ext (by dsimp only; omega))))) (mixedB_2 ha hI hQ hK hV hB hU hG h0 h1 ⟨4 * T + 2, by omega⟩ rfl)
      (fun k e => (readAt_box2 arg10 harg10 x9 _ k e k e (by omega) (by omega)).trans (hI.wOut k e)) ⟨r - 256, by omega⟩ d).trans (congrArg (fun s => y1 a b s d) (Fin.ext (by dsimp only; omega))))
  refine (canon_skip2 _ _ _ r d (by omega)).trans ?_
  by_cases h128 : 128 ≤ r.val
  · refine (canon_head2 _ _ _ r d ⟨r - 128, by omega⟩ d (by dsimp only; omega) (by omega)).trans ?_
    exact ((out_block ⟨4 * T + 1, by omega⟩ (fun i d => (readAt_box3 arg2 harg2 x1 _ 0 ⟨128 + i, by omega⟩ d 0 i d rfl rfl (by omega)).trans ((hI.x _ _).trans (congrArg (fun s => a.x b s d) (Fin.ext (by dsimp only; omega))))) (mixedB_1 ha hI hQ hK hV hB hU hG h0 h1 ⟨4 * T + 1, by omega⟩ rfl)
      (fun k e => (readAt_box2 arg10 harg10 x9 _ k e k e (by omega) (by omega)).trans (hI.wOut k e)) ⟨r - 128, by omega⟩ d).trans (congrArg (fun s => y1 a b s d) (Fin.ext (by dsimp only; omega))))
  refine (canon_skip2 _ _ _ r d (by omega)).trans ?_
  refine (canon_head2 _ _ _ r d ⟨r - 0, by omega⟩ d (by dsimp only; omega) (by omega)).trans ?_
  exact ((out_block ⟨4 * T + 0, by omega⟩ (fun i d => (readAt_box3 arg2 harg2 x1 _ 0 ⟨0 + i, by omega⟩ d 0 i d rfl rfl (by omega)).trans ((hI.x _ _).trans (congrArg (fun s => a.x b s d) (Fin.ext (by dsimp only; omega))))) (mixedB_0 ha hI hQ hK hV hB hU hG h0 h1 ⟨4 * T + 0, by omega⟩ rfl)
      (fun k e => (readAt_box2 arg10 harg10 x9 _ k e k e (by omega) (by omega)).trans (hI.wOut k e)) ⟨r - 0, by omega⟩ d).trans (congrArg (fun s => y1 a b s d) (Fin.ext (by dsimp only; omega))))

/-- The first sublayer's normalised rows, kept. -/
theorem keptB (hg : ∀ j, x10 (ix2 0 j) = a.ln1G j) (hβ : ∀ j, x11 (ix2 0 j) = a.ln1B j) (r : Fin 512) (d : Fin 1024) : (kernelRun0_B.sl.v672 c arg11 harg11 arg12 harg12 arg25 harg25 arg26 x10 x11 xs7) (ix2 r d) = x1Row a (fun k => xs7 (ix2 r k)) d := by
  refine (readCov_box2 arg26.view _ _ r d r d (by omega) (by omega)).trans ?_
  unfold kernelRun0_B.sl.HS8_1
  refine (canon_head2 _ _ _ r d r d (by omega) (by omega)).trans ((first_norm_kept (fun j => (readAt_box2 arg11 harg11 x10 _ 0 j 0 j rfl (by omega)).trans (hg j)) (fun j => (readAt_box2 arg12 harg12 x11 _ 0 j 0 j rfl (by omega)).trans (hβ j)) r d).trans ?_)
  exact congrArg (fun y => x1Row a y d) (funext fun k => readAt_box2 arg25 harg25 xs7 _ r k r k (by omega) (by omega))

/-- The first sublayer's normalised rows, narrow. -/
theorem narrowB (hg : ∀ j, x10 (ix2 0 j) = a.ln1G j) (hβ : ∀ j, x11 (ix2 0 j) = a.ln1B j) (r : Fin 512) (d : Fin 1024) : (kernelRun0_B.sl.v236 c arg11 harg11 arg12 harg12 arg25 harg25 arg27 x10 x11 xs7) (ix2 r d) = x1Row a (fun k => xs7 (ix2 r k)) d := by
  refine (readCov_box2 arg27.view _ _ r d r d (by omega) (by omega)).trans ?_
  unfold kernelRun0_B.sl.HS9_1
  refine (canon_head2 _ _ _ r d r d (by omega) (by omega)).trans ((first_norm_narrow (fun j => (readAt_box2 arg11 harg11 x10 _ 0 j 0 j rfl (by omega)).trans (hg j)) (fun j => (readAt_box2 arg12 harg12 x11 _ 0 j 0 j rfl (by omega)).trans (hβ j)) r d).trans ?_)
  exact congrArg (fun y => x1Row a y d) (funext fun k => readAt_box2 arg25 harg25 xs7 _ r k r k (by omega) (by omega))

/-- The hidden rows from column 0 on. -/
theorem hiddenB_0 (hg : ∀ j, x10 (ix2 0 j) = a.ln1G j) (hβ : ∀ j, x11 (ix2 0 j) = a.ln1B j) (hw1 : ∀ k e, x12 (ix2 k e) = a.w1 k e) (r f : Fin 512) : (kernelRun0_B.sl.r_18 c arg11 harg11 arg12 harg12 arg13 harg13 arg25 harg25 arg27 x10 x11 x12 xs7) (ix2 r f) = hidden a (x1Row a (fun k => xs7 (ix2 r k))) ⟨0 + f, by omega⟩ :=
  hid_block (by omega) (fun r => x1Row a (fun k => xs7 (ix2 r k))) (fun r d => narrowB hg hβ r d) (fun k f => (readAt_box2 arg13 harg13 x12 _ k ⟨0 + f, by omega⟩ k f (by omega) rfl).trans (hw1 _ _)) r f

/-- The hidden rows from column 512 on. -/
theorem hiddenB_512 (hg : ∀ j, x10 (ix2 0 j) = a.ln1G j) (hβ : ∀ j, x11 (ix2 0 j) = a.ln1B j) (hw1 : ∀ k e, x12 (ix2 k e) = a.w1 k e) (r f : Fin 512) : (kernelRun0_B.sl.r_33 c arg11 harg11 arg12 harg12 arg13 harg13 arg25 harg25 arg27 x10 x11 x12 xs7) (ix2 r f) = hidden a (x1Row a (fun k => xs7 (ix2 r k))) ⟨512 + f, by omega⟩ :=
  hid_block (by omega) (fun r => x1Row a (fun k => xs7 (ix2 r k))) (fun r d => narrowB hg hβ r d) (fun k f => (readAt_box2 arg13 harg13 x12 _ k ⟨512 + f, by omega⟩ k f (by omega) rfl).trans (hw1 _ _)) r f

/-- The hidden rows from column 1024 on. -/
theorem hiddenB_1024 (hg : ∀ j, x10 (ix2 0 j) = a.ln1G j) (hβ : ∀ j, x11 (ix2 0 j) = a.ln1B j) (hw1 : ∀ k e, x12 (ix2 k e) = a.w1 k e) (r f : Fin 512) : (kernelRun0_B.sl.r_52 c arg11 harg11 arg12 harg12 arg13 harg13 arg25 harg25 arg27 x10 x11 x12 xs7) (ix2 r f) = hidden a (x1Row a (fun k => xs7 (ix2 r k))) ⟨1024 + f, by omega⟩ :=
  hid_block (by omega) (fun r => x1Row a (fun k => xs7 (ix2 r k))) (fun r d => narrowB hg hβ r d) (fun k f => (readAt_box2 arg13 harg13 x12 _ k ⟨1024 + f, by omega⟩ k f (by omega) rfl).trans (hw1 _ _)) r f

/-- The hidden rows from column 1536 on. -/
theorem hiddenB_1536 (hg : ∀ j, x10 (ix2 0 j) = a.ln1G j) (hβ : ∀ j, x11 (ix2 0 j) = a.ln1B j) (hw1 : ∀ k e, x12 (ix2 k e) = a.w1 k e) (r f : Fin 512) : (kernelRun0_B.sl.r_67 c arg11 harg11 arg12 harg12 arg13 harg13 arg25 harg25 arg27 x10 x11 x12 xs7) (ix2 r f) = hidden a (x1Row a (fun k => xs7 (ix2 r k))) ⟨1536 + f, by omega⟩ :=
  hid_block (by omega) (fun r => x1Row a (fun k => xs7 (ix2 r k))) (fun r d => narrowB hg hβ r d) (fun k f => (readAt_box2 arg13 harg13 x12 _ k ⟨1536 + f, by omega⟩ k f (by omega) rfl).trans (hw1 _ _)) r f

/-- The hidden rows from column 2048 on. -/
theorem hiddenB_2048 (hg : ∀ j, x10 (ix2 0 j) = a.ln1G j) (hβ : ∀ j, x11 (ix2 0 j) = a.ln1B j) (hw1 : ∀ k e, x12 (ix2 k e) = a.w1 k e) (r f : Fin 512) : (kernelRun0_B.sl.r_83 c arg11 harg11 arg12 harg12 arg13 harg13 arg25 harg25 arg27 x10 x11 x12 xs7) (ix2 r f) = hidden a (x1Row a (fun k => xs7 (ix2 r k))) ⟨2048 + f, by omega⟩ :=
  hid_block (by omega) (fun r => x1Row a (fun k => xs7 (ix2 r k))) (fun r d => narrowB hg hβ r d) (fun k f => (readAt_box2 arg13 harg13 x12 _ k ⟨2048 + f, by omega⟩ k f (by omega) rfl).trans (hw1 _ _)) r f

/-- The hidden rows from column 2560 on. -/
theorem hiddenB_2560 (hg : ∀ j, x10 (ix2 0 j) = a.ln1G j) (hβ : ∀ j, x11 (ix2 0 j) = a.ln1B j) (hw1 : ∀ k e, x12 (ix2 k e) = a.w1 k e) (r f : Fin 512) : (kernelRun0_B.sl.r_97 c arg11 harg11 arg12 harg12 arg13 harg13 arg25 harg25 arg27 x10 x11 x12 xs7) (ix2 r f) = hidden a (x1Row a (fun k => xs7 (ix2 r k))) ⟨2560 + f, by omega⟩ :=
  hid_block (by omega) (fun r => x1Row a (fun k => xs7 (ix2 r k))) (fun r d => narrowB hg hβ r d) (fun k f => (readAt_box2 arg13 harg13 x12 _ k ⟨2560 + f, by omega⟩ k f (by omega) rfl).trans (hw1 _ _)) r f

/-- The hidden rows from column 3072 on. -/
theorem hiddenB_3072 (hg : ∀ j, x10 (ix2 0 j) = a.ln1G j) (hβ : ∀ j, x11 (ix2 0 j) = a.ln1B j) (hw1 : ∀ k e, x12 (ix2 k e) = a.w1 k e) (r f : Fin 512) : (k0_pay188 (kernelRun0_B.sl.v236 c arg11 harg11 arg12 harg12 arg25 harg25 arg27 x10 x11 xs7) (View.readAt (Elt Ideal) arg13.view (Rect.unit (s := S1024x4096) ![0, 3072] S1024x512.size inb_S1024x4096_S1024x512_0_3072).toLoadRect (Memref.IsWhole.unread harg13 x12))) (ix2 r f) = hidden a (x1Row a (fun k => xs7 (ix2 r k))) ⟨3072 + f, by omega⟩ :=
  hid_block (by omega) (fun r => x1Row a (fun k => xs7 (ix2 r k))) (fun r d => narrowB hg hβ r d) (fun k f => (readAt_box2 arg13 harg13 x12 _ k ⟨3072 + f, by omega⟩ k f (by omega) rfl).trans (hw1 _ _)) r f

/-- The hidden rows from column 3584 on. -/
theorem hiddenB_3584 (hg : ∀ j, x10 (ix2 0 j) = a.ln1G j) (hβ : ∀ j, x11 (ix2 0 j) = a.ln1B j) (hw1 : ∀ k e, x12 (ix2 k e) = a.w1 k e) (r f : Fin 512) : (k0_pay195 (kernelRun0_B.sl.r_116 c arg11 harg11 arg12 harg12 arg13 harg13 arg25 harg25 arg27 x10 x11 x12 xs7) k0_pay194) (ix2 r f) = hidden a (x1Row a (fun k => xs7 (ix2 r k))) ⟨3584 + f, by omega⟩ :=
  hid_block (by omega) (fun r => x1Row a (fun k => xs7 (ix2 r k))) (fun r d => narrowB hg hβ r d) (fun k f => (readAt_box2 arg13 harg13 x12 _ k ⟨3584 + f, by omega⟩ k f (by omega) rfl).trans (hw1 _ _)) r f

/-- The second sublayer's rows after the first quarter. -/
theorem accB_1 (hg : ∀ j, x10 (ix2 0 j) = a.ln1G j) (hβ : ∀ j, x11 (ix2 0 j) = a.ln1B j) (hw1 : ∀ k e, x12 (ix2 k e) = a.w1 k e) (hw2 : ∀ k e, x13 (ix2 k e) = a.w2 k e) (r : Fin 512) (d : Fin 1024) : View.canon (kernelRun0_B.sl.HS10_1 c arg11 harg11 arg12 harg12 arg13 harg13 arg14 harg14 arg25 harg25 arg26 arg27 x10 x11 x12 x13 xs7) (ix2 r d) = alpha * x1Row a (fun k => xs7 (ix2 r k)) d + quarter a (x1Row a (fun k => xs7 (ix2 r k))) d 0 (by omega) := by
  unfold kernelRun0_B.sl.HS10_1
  refine (canon_head2 _ _ _ r d r d (by omega) (by omega)).trans ((first_quarter (fun r => x1Row a (fun k => xs7 (ix2 r k))) (hiddenB_0 hg hβ hw1) (hiddenB_512 hg hβ hw1) (fun k d => (readAt_box2 arg14 harg14 x13 _ ⟨0 + k, by omega⟩ d k d rfl (by omega)).trans (hw2 _ _)) r d).trans ?_)
  exact congrArg (fun z => alpha * z + _) (keptB hg hβ r d)

/-- The second sublayer's rows after 2 quarters. -/
theorem accB_2 (hg : ∀ j, x10 (ix2 0 j) = a.ln1G j) (hβ : ∀ j, x11 (ix2 0 j) = a.ln1B j) (hw1 : ∀ k e, x12 (ix2 k e) = a.w1 k e) (hw2 : ∀ k e, x13 (ix2 k e) = a.w2 k e) (r : Fin 512) (d : Fin 1024) : View.canon (kernelRun0_B.sl.HS10_2 c arg11 harg11 arg12 harg12 arg13 harg13 arg14 harg14 arg25 harg25 arg26 arg27 arg28 x10 x11 x12 x13 xs7) (ix2 r d) = alpha * x1Row a (fun k => xs7 (ix2 r k)) d + quarter a (x1Row a (fun k => xs7 (ix2 r k))) d 0 (by omega) + quarter a (x1Row a (fun k => xs7 (ix2 r k))) d 1024 (by omega) := by
  unfold kernelRun0_B.sl.HS10_2
  refine (canon_head2 _ _ _ r d r d (by omega) (by omega)).trans ((quarter_block (by omega) (fun r => x1Row a (fun k => xs7 (ix2 r k))) (hiddenB_1024 hg hβ hw1) (hiddenB_1536 hg hβ hw1) (fun k d => (readAt_box2 arg14 harg14 x13 _ ⟨1024 + k, by omega⟩ d k d rfl (by omega)).trans (hw2 _ _)) r d).trans ?_)
  exact congrArg (· + _) ((readCov_box2 arg28.view _ _ r d r d (by omega) (by omega)).trans (accB_1 hg hβ hw1 hw2 r d))

/-- The second sublayer's rows after 3 quarters. -/
theorem accB_3 (hg : ∀ j, x10 (ix2 0 j) = a.ln1G j) (hβ : ∀ j, x11 (ix2 0 j) = a.ln1B j) (hw1 : ∀ k e, x12 (ix2 k e) = a.w1 k e) (hw2 : ∀ k e, x13 (ix2 k e) = a.w2 k e) (r : Fin 512) (d : Fin 1024) : View.canon (kernelRun0_B.sl.HS10_3 c arg11 harg11 arg12 harg12 arg13 harg13 arg14 harg14 arg25 harg25 arg26 arg27 arg28 x10 x11 x12 x13 xs7) (ix2 r d) = alpha * x1Row a (fun k => xs7 (ix2 r k)) d + quarter a (x1Row a (fun k => xs7 (ix2 r k))) d 0 (by omega) + quarter a (x1Row a (fun k => xs7 (ix2 r k))) d 1024 (by omega) + quarter a (x1Row a (fun k => xs7 (ix2 r k))) d 2048 (by omega) := by
  unfold kernelRun0_B.sl.HS10_3
  refine (canon_head2 _ _ _ r d r d (by omega) (by omega)).trans ((quarter_block (by omega) (fun r => x1Row a (fun k => xs7 (ix2 r k))) (hiddenB_2048 hg hβ hw1) (hiddenB_2560 hg hβ hw1) (fun k d => (readAt_box2 arg14 harg14 x13 _ ⟨2048 + k, by omega⟩ d k d rfl (by omega)).trans (hw2 _ _)) r d).trans ?_)
  exact congrArg (· + _) ((readCov_box2 arg28.view _ _ r d r d (by omega) (by omega)).trans (accB_2 hg hβ hw1 hw2 r d))

/-- The second sublayer's rows after 4 quarters. -/
theorem accB_4 (hg : ∀ j, x10 (ix2 0 j) = a.ln1G j) (hβ : ∀ j, x11 (ix2 0 j) = a.ln1B j) (hw1 : ∀ k e, x12 (ix2 k e) = a.w1 k e) (hw2 : ∀ k e, x13 (ix2 k e) = a.w2 k e) (r : Fin 512) (d : Fin 1024) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 xs1 xs2 xs5 xs7 xs10).2.2.2.2.2.1 (ix2 r d) = alpha * x1Row a (fun k => xs7 (ix2 r k)) d + quarter a (x1Row a (fun k => xs7 (ix2 r k))) d 0 (by omega) + quarter a (x1Row a (fun k => xs7 (ix2 r k))) d 1024 (by omega) + quarter a (x1Row a (fun k => xs7 (ix2 r k))) d 2048 (by omega) + quarter a (x1Row a (fun k => xs7 (ix2 r k))) d 3072 (by omega) := by
  dsimp only [kernelRun0_B]
  refine (canon_head2 _ _ _ r d r d (by omega) (by omega)).trans ((quarter_block (by omega) (fun r => x1Row a (fun k => xs7 (ix2 r k))) (hiddenB_3072 hg hβ hw1) (hiddenB_3584 hg hβ hw1) (fun k d => (readAt_box2 arg14 harg14 x13 _ ⟨3072 + k, by omega⟩ d k d rfl (by omega)).trans (hw2 _ _)) r d).trans ?_)
  exact congrArg (· + _) ((readCov_box2 arg28.view _ _ r d r d (by omega) (by omega)).trans (accB_3 hg hβ hw1 hw2 r d))

/-- The second sublayer's rows after their stores. -/
theorem accB (hg : ∀ j, x10 (ix2 0 j) = a.ln1G j) (hβ : ∀ j, x11 (ix2 0 j) = a.ln1B j) (hw1 : ∀ k e, x12 (ix2 k e) = a.w1 k e) (hw2 : ∀ k e, x13 (ix2 k e) = a.w2 k e) (r : Fin 512) (d : Fin 1024) : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 xs1 xs2 xs5 xs7 xs10).2.2.2.2.2.1 (ix2 r d) = y2Row a (x1Row a (fun k => xs7 (ix2 r k))) d :=
  (accB_4 hg hβ hw1 hw2 r d).trans (quarters _ d)

/-- The output block after its store. -/
theorem outB (hg : ∀ j, x14 (ix2 0 j) = a.ln2G j) (hβ : ∀ j, x15 (ix2 0 j) = a.ln2B j) (r : Fin 512) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 hc0 x0 x1 x2 x3 x4 x5 x6 x7 x8 x9 x10 x11 x12 x13 x14 x15 xs1 xs2 xs5 xs7 xs10).1 (ix3 0 r d) = outRow a (fun k => xs10 (ix2 r k)) d := by
  dsimp only [kernelRun0_B]
  refine (canon_head3 _ _ _ 0 r d 0 r d rfl (by omega) (by omega)).trans ((second_norm (fun j => (readAt_box2 arg15 harg15 x14 _ 0 j 0 j rfl (by omega)).trans (hg j)) (fun j => (readAt_box2 arg16 harg16 x15 _ 0 j 0 j rfl (by omega)).trans (hβ j)) r d).trans ?_)
  exact congrArg (fun y => outRow a y d) (funext fun k => readAt_box2 arg28 harg28 xs10 _ r k r k (by omega) (by omega))

end Cert.Proof

end
-- ==== Proof.Run.lean ====
module

public import proofs.«01_k».proof.Proof.Gen.KernelIdeal.Frame
public import proofs.«01_k».proof.Proof.Inputs
public import proofs.«01_k».proof.Proof.Bias
public import proofs.«01_k».proof.Proof.StepA
public import proofs.«01_k».proof.Proof.StepB

/-! What the buffers hold after every step of the run. -/

@[expose] public section

set_option maxRecDepth 16384

noncomputable section

namespace Cert.Proof

open Idealize.ShloMosaic Idealize.ShloMosaic.TcCoe
open Cert.KernelIdeal Cert.KernelIdeal.Gen

variable (m : (ℓ : Loc nD τ sig) → Buf (Elt Ideal) ℓ) (c : Dev nD)

/-- The batch entry of a step's tile. -/
def bt (n : ℕ) (h : n < 128) : Fin 8 := ⟨n / 16, by omega⟩
/-- The place of a step's tile in its sequence. -/
def tt (n : ℕ) (h : n < 128) : Fin 16 := ⟨n % 16, by omega⟩

/-- Keys after the first step. -/
theorem keys_A (t : Fin cfg0.N) (h0 : t.val % 130 = 0) (h : t.val < 128) :
    KRows (args m c) (bt t.val h) (tt t.val h) (outsAt0 m c t.val t.isLt).2.1 := by
  have hI := ins m c t h
  rw [outsAt0_A m c t h0]
  dsimp only [sout0_A_1]
  rw [View.read_writes_junk_eq_canon]
  exact keysA hI.x hI.next hI.wIn (show t.val % 16 = 0 by omega)

/-- Values after the first step. -/
theorem vals_A (t : Fin cfg0.N) (h0 : t.val % 130 = 0) (h : t.val < 128) :
    VRows (args m c) (bt t.val h) (tt t.val h) (outsAt0 m c t.val t.isLt).2.2.1 := by
  have hI := ins m c t h
  rw [outsAt0_A m c t h0]
  dsimp only [sout0_A_2]
  rw [View.read_writes_junk_eq_canon]
  exact valsA hI.x hI.next hI.wIn (show t.val % 16 = 0 by omega)

/-- The table after the first step. -/
theorem table_A (t : Fin cfg0.N) (h0 : t.val % 130 = 0) : BRows (outsAt0 m c t.val t.isLt).2.2.2.1 := by
  rw [outsAt0_A m c t h0]
  dsimp only [sout0_A_5]
  rw [View.read_writes_junk_eq_canon]
  exact tableA

/-- The table after a later step. -/
theorem table_B (t : Fin cfg0.N) (h0 : ¬t.val % 130 = 0) (h' : t.val - 1 < cfg0.N) (hB : BRows (outsAt0 m c (t.val - 1) h').2.2.2.1) : BRows (outsAt0 m c t.val t.isLt).2.2.2.1 := by
  rw [outsAt0_B m c t h0]
  exact hB

/-- Keys after a later step. -/
theorem keys_B (t : Fin cfg0.N) (h0 : ¬t.val % 130 = 0) (h : t.val < 128) (h' : t.val - 1 < cfg0.N)
    (hc : t.val % 16 ≠ 0 → ∀ (p : Fin 4) (i l : Fin 128), (outsAt0 m c (t.val - 1) h').2.1 (ix3 p ⟨512 + i, by omega⟩ l) = KF (args m c) (bt t.val h) (tt t.val h) p i l) :
    KRows (args m c) (bt t.val h) (tt t.val h) (outsAt0 m c t.val t.isLt).2.1 := by
  have hI := ins m c t h
  rw [outsAt0_B m c t h0]
  dsimp only [sout0_B_1]
  rw [View.read_writes_junk_eq_canon]
  exact keysB hI.x hI.next hI.wIn hc

/-- Values after a later step. -/
theorem vals_B (t : Fin cfg0.N) (h0 : ¬t.val % 130 = 0) (h : t.val < 128) (h' : t.val - 1 < cfg0.N)
    (hc : t.val % 16 ≠ 0 → ∀ (p : Fin 4) (i l : Fin 128), (outsAt0 m c (t.val - 1) h').2.2.1 (ix3 p l ⟨512 + i, by omega⟩) = VF (args m c) (bt t.val h) (tt t.val h) p i l) :
    VRows (args m c) (bt t.val h) (tt t.val h) (outsAt0 m c t.val t.isLt).2.2.1 := by
  have hI := ins m c t h
  rw [outsAt0_B m c t h0]
  dsimp only [sout0_B_2]
  rw [View.read_writes_junk_eq_canon]
  exact valsB hI.x hI.next hI.wIn hc

/-- Attention's and the gate's rows after the first step. -/
theorem rows_A (ha : (args m c).Real) (t : Fin cfg0.N) (h0 : t.val % 130 = 0) (h : t.val < 128) (r : Fin 512) (d : Fin 1024) :
    (outsAt0 m c t.val t.isLt).2.2.2.2.1 (ix2 r d) = y1 (args m c) (bt t.val h) ⟨512 * (t.val % 16) + r, by omega⟩ d := by
  have hI := ins m c t h
  have hz : t.val % 16 = 0 := by omega
  rw [outsAt0_A m c t h0]
  dsimp only [sout0_A_7]
  rw [View.read_writes_junk_eq_canon]
  exact rowsA ha hI (queriesA hI.x hI.wIn) (keysA hI.x hI.next hI.wIn hz) (valsA hI.x hI.next hI.wIn hz) tableA (unitsA hI.x hI.wIn) (valuesA hI.x hI.wIn)
    ((firstA t).trans (by dsimp only; omega)) ((lastA t).trans (by dsimp only; omega)) r d

/-- Attention's and the gate's rows after a later step. -/
theorem rows_B (ha : (args m c).Real) (t : Fin cfg0.N) (h0 : ¬t.val % 130 = 0) (h : t.val < 128) (h' : t.val - 1 < cfg0.N)
    (hk : t.val % 16 ≠ 0 → ∀ (p : Fin 4) (i l : Fin 128), (outsAt0 m c (t.val - 1) h').2.1 (ix3 p ⟨512 + i, by omega⟩ l) = KF (args m c) (bt t.val h) (tt t.val h) p i l)
    (hv : t.val % 16 ≠ 0 → ∀ (p : Fin 4) (i l : Fin 128), (outsAt0 m c (t.val - 1) h').2.2.1 (ix3 p l ⟨512 + i, by omega⟩) = VF (args m c) (bt t.val h) (tt t.val h) p i l)
    (hB : BRows (outsAt0 m c (t.val - 1) h').2.2.2.1) (r : Fin 512) (d : Fin 1024) :
    (outsAt0 m c t.val t.isLt).2.2.2.2.1 (ix2 r d) = y1 (args m c) (bt t.val h) ⟨512 * (t.val % 16) + r, by omega⟩ d := by
  have hI := ins m c t h
  rw [outsAt0_B m c t h0]
  dsimp only [sout0_B_7]
  rw [View.read_writes_junk_eq_canon]
  exact rowsB ha hI (queriesB hI.x hI.wIn) (keysB hI.x hI.next hI.wIn hk) (valsB hI.x hI.next hI.wIn hv) hB (unitsB hI.x hI.wIn) (valuesB hI.x hI.wIn)
    ((firstB t).trans (by dsimp only; omega)) ((lastB t).trans (by dsimp only; omega)) r d

/-- The feed-forward layer's rows after a later step. -/
theorem acc_B (t : Fin cfg0.N) (h0 : ¬t.val % 130 = 0) (h' : t.val - 1 < cfg0.N) (r : Fin 512) (d : Fin 1024) :
    (outsAt0 m c t.val t.isLt).2.2.2.2.2 (ix2 r d) = y2Row (args m c) (x1Row (args m c) fun k => (outsAt0 m c (t.val - 1) h').2.2.2.2.1 (ix2 r k)) d := by
  rw [outsAt0_B m c t h0]
  dsimp only [sout0_B_10]
  rw [View.read_writes_junk_eq_canon]
  exact accB (iblk10_apply m c t) (iblk11_apply m c t) (iblk12_apply m c t) (iblk13_apply m c t) r d

/-- The result's rows after a later step. -/
theorem out_B (t : Fin cfg0.N) (h0 : ¬t.val % 130 = 0) (h' : t.val - 1 < cfg0.N) (r : Fin 512) (d : Fin 1024) :
    (outsAt0 m c t.val t.isLt).1 (ix3 0 r d) = outRow (args m c) (fun k => (outsAt0 m c (t.val - 1) h').2.2.2.2.2 (ix2 r k)) d := by
  rw [outsAt0_B m c t h0]
  dsimp only [out0_B_16]
  rw [View.read_writes_junk_eq_canon]
  exact outB (iblk14_apply m c t) (iblk15_apply m c t) r d

end Cert.Proof

end
-- ==== Proof.Array.lean ====
module

public import proofs.«01_k».proof.Proof.Gen.KernelIdeal.Value
public import proofs.«01_k».proof.Proof.Run

/-! The kernel's result, read at an index, is the layer. -/

@[expose] public section

set_option maxRecDepth 16384

noncomputable section

namespace Cert.Proof

open Idealize.ShloMosaic Idealize.ShloMosaic.TcCoe
open Cert.KernelIdeal Cert.KernelIdeal.Gen

variable (m : (ℓ : Loc nD τ sig) → Buf (Elt Ideal) ℓ) (c : Dev nD)

/-- One position of a sequence, seen from two windows. -/
theorem keyed_shift (a : Args) (b b' : Fin 8) (n κ n' κ' : ℕ) (e : Fin 1792) (hb : b = b') (h : 128 * n + κ = 128 * n' + κ') : keyed a b n κ e = keyed a b' n' κ' e := by
  subst hb
  unfold keyed
  simp only [h]

/-- The next tile finds this tile's last keys where it wants them. -/
theorem keys_carry (a : Args) (n : ℕ) (h : n + 1 < 128) (K : Vec Ideal S4x768x128 .bf16) (hK : KRows a (bt n (by omega)) (tt n (by omega)) K) (hz : (n + 1) % 16 ≠ 0)
    (p : Fin 4) (i l : Fin 128) : K (ix3 p ⟨512 + i, by omega⟩ l) = KF a (bt (n + 1) h) (tt (n + 1) h) p i l := by
  rw [hK p ⟨512 + i, by omega⟩ l (by dsimp only; omega) (by dsimp only [tt]; omega)]
  unfold KF
  rw [keyed_shift a (bt n (by omega)) (bt (n + 1) h) (4 * (tt n (by omega)).val) (512 + i) (4 * (tt (n + 1) h).val) i _ (Fin.ext (by dsimp only [bt]; omega)) (by dsimp only [tt]; omega)]

/-- The next tile finds this tile's last values where it wants them. -/
theorem vals_carry (a : Args) (n : ℕ) (h : n + 1 < 128) (V : Vec Ideal S4x128x768 .bf16) (hV : VRows a (bt n (by omega)) (tt n (by omega)) V) (hz : (n + 1) % 16 ≠ 0)
    (p : Fin 4) (i l : Fin 128) : V (ix3 p l ⟨512 + i, by omega⟩) = VF a (bt (n + 1) h) (tt (n + 1) h) p i l := by
  rw [hV p ⟨512 + i, by omega⟩ l (by dsimp only; omega) (by dsimp only [tt]; omega)]
  unfold VF
  rw [keyed_shift a (bt n (by omega)) (bt (n + 1) h) (4 * (tt n (by omega)).val) (512 + i) (4 * (tt (n + 1) h).val) i _ (Fin.ext (by dsimp only [bt]; omega)) (by dsimp only [tt]; omega)]

/-- The keys after every step that has a tile. -/
theorem keys_run : ∀ (n : ℕ) (hn : n < cfg0.N) (h : n < 128), KRows (args m c) (bt n h) (tt n h) (outsAt0 m c n hn).2.1
  | 0, hn, h => keys_A m c ⟨0, hn⟩ rfl h
  | n + 1, hn, h => keys_B m c ⟨n + 1, hn⟩ (by dsimp only; omega) h (Nat.lt_of_succ_lt hn) (keys_carry _ n h _ (keys_run n (Nat.lt_of_succ_lt hn) (by omega)))

/-- The values after every step that has a tile. -/
theorem vals_run : ∀ (n : ℕ) (hn : n < cfg0.N) (h : n < 128), VRows (args m c) (bt n h) (tt n h) (outsAt0 m c n hn).2.2.1
  | 0, hn, h => vals_A m c ⟨0, hn⟩ rfl h
  | n + 1, hn, h => vals_B m c ⟨n + 1, hn⟩ (by dsimp only; omega) h (Nat.lt_of_succ_lt hn) (vals_carry _ n h _ (vals_run n (Nat.lt_of_succ_lt hn) (by omega)))

/-- The table after every step. -/
theorem table_run : ∀ (n : ℕ) (hn : n < cfg0.N), BRows (outsAt0 m c n hn).2.2.2.1
  | 0, hn => table_A m c ⟨0, hn⟩ rfl
  | n + 1, hn => table_B m c ⟨n + 1, hn⟩ (by have := lt_of_lt_of_eq hn N_0; dsimp only; omega) (Nat.lt_of_succ_lt hn) (table_run n (Nat.lt_of_succ_lt hn))

variable {m c}

/-- The token-mixing rows after every step that has a tile. -/
theorem rows_run (ha : (args m c).Real) : ∀ (n : ℕ) (hn : n < cfg0.N) (h : n < 128) (r : Fin 512) (d : Fin 1024),
    (outsAt0 m c n hn).2.2.2.2.1 (ix2 r d) = y1 (args m c) (bt n h) ⟨512 * (n % 16) + r, by omega⟩ d
  | 0, hn, h => rows_A m c ha ⟨0, hn⟩ rfl h
  | n + 1, hn, h => rows_B m c ha ⟨n + 1, hn⟩ (by dsimp only; omega) h (Nat.lt_of_succ_lt hn) (keys_carry _ n h _ (keys_run m c n (Nat.lt_of_succ_lt hn) (by omega)))
      (vals_carry _ n h _ (vals_run m c n (Nat.lt_of_succ_lt hn) (by omega))) (table_run m c n (Nat.lt_of_succ_lt hn))

/-- What a step writes is the layer of the tile two steps before. -/
theorem out_run (ha : (args m c).Real) (n : ℕ) (hn : n + 2 < cfg0.N) (h : n < 128) (r : Fin 512) (d : Fin 1024) :
    (outsAt0 m c (n + 2) hn).1 (ix3 0 r d) = layer (args m c) (bt n h) ⟨512 * (n % 16) + r, by omega⟩ d := by
  have h1 : n + 1 < cfg0.N := Nat.lt_of_succ_lt hn
  have h2 : n < cfg0.N := Nat.lt_of_succ_lt h1
  refine (out_B m c ⟨n + 2, hn⟩ (by dsimp only; omega) h1 r d).trans ?_
  unfold layer
  refine congrArg (fun y => outRow (args m c) y d) (funext fun k => ?_)
  refine (acc_B m c ⟨n + 1, h1⟩ (by dsimp only; omega) h2 r k).trans ?_
  exact congrArg (fun y => y2Row (args m c) (x1Row (args m c) y) k) (funext fun k => rows_run ha n h2 h r k)

/-- What a step writes, at any index of its block. -/
theorem out_at (ha : (args m c).Real) (n : ℕ) (hn : n < cfg0.N) (h2 : 2 ≤ n) (h : n < 130) (y : S1x512x1024.Idx) :
    (outsAt0 m c n hn).1 y = layer (args m c) (bt (n - 2) (by omega)) ⟨512 * ((n - 2) % 16) + (y 1).val, by have : (y 1).val < 512 := (y 1).isLt; omega⟩ (y 2) := by
  obtain ⟨k, rfl⟩ : ∃ k, n = k + 2 := ⟨n - 2, by omega⟩
  have hy : y = ix3 0 (y 1) (y 2) := by
    funext a
    fin_cases a
    · exact Fin.ext (by have : (y 0).val < 1 := (y 0).isLt; show (y 0).val = 0; omega)
    · rfl
    · rfl
  rw [hy]
  exact out_run ha k hn (by omega) (y 1) (y 2)

/-- The steps whose block is written back are those from the third on. -/
theorem flush_ge : ∀ t : Fin cfg0.N, (cfg0.win 16).flush t = true → 2 ≤ t.val :=
  (by decide +kernel : ∀ t : Fin grid0.N, (cfg0.win 16).flush t = true → 2 ≤ t.val)

/-- The kernel's result is the layer of its arguments. -/
theorem result (ha : (args m c).Real) :
    (dats m 0 c).arrAt 16 cfg0.N = fun i : S8x8192x1024.Idx => layer (args m c) (i 0) (i 1) (i 2) := by
  refine (dats m 0 c).arrAt_eq_of_covers 16 _ (by decide +kernel) fun t hf y => ?_
  have h2 := flush_ge t hf
  have hN : t.val < 130 := lt_of_lt_of_eq t.isLt N_0
  blk_simp
  rw [after0_16]
  refine (out_at ha t.val t.isLt h2 hN y).trans ?_
  refine congr (congr (congrArg _ ?_) ?_) ?_
  · refine Fin.ext ?_
    blk_simp [index16]
    idx_bounds y
    dsimp only [bt]
    omega
  · refine Fin.ext ?_
    blk_simp [index16]
    show 512 * ((t.val - 2) % 16) + (y 1).val = _
    omega
  · refine Fin.ext ?_
    blk_simp [index16]

end Cert.Proof

end
-- ==== Proof.Final.lean ====
module

public import proofs.«01_k».proof.Defs
public import proofs.«01_k».proof.Proof.Array
public import proofs.«01_k».proof.Proof.Ref

/-! The two programs return one array. -/

@[expose] public section

set_option maxRecDepth 16384

noncomputable section

namespace Cert.Proof

open Idealize.ShloMosaic Idealize.ShloMosaic.TcCoe Idealize.SL.Sem Idealize.ShloMosaic.StableHlo
open Cert.KernelIdeal Cert.KernelIdeal.Gen

/-- The precondition's broadcasts are allowed. -/
theorem preFacts : Cert.Pre_finite_scores.Facts := ⟨by decide, by decide, by decide⟩

/-- A value whose magnitude is below infinity is real. -/
theorem real_of_finite (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The precondition makes the activations, the combined projection and the sinks real. -/
theorem args_real (m : (ℓ : Loc nD τ sig) → Buf (Elt Ideal) ℓ) (c : Dev nD)
    (h : Cert.Pre_KernelIdeal_finite_scores (hPre_finite_scores := preFacts) m) : (args m c).Real where
  x b s k := real_of_finite _ (congrFun (h c).1 (ix3 b s k))
  wIn k e := real_of_finite _ (congrFun (h c).2.1 (ix3 0 k e))
  sink g := real_of_finite _ (congrFun (h c).2.2 (ix2 0 g))

/-- The named constants are the floats nearest them. -/
theorem preserves : Cert.preserves_Kernel_KernelIdeal :=
  by
  unfold Cert.preserves_Kernel_KernelIdeal
  refine ⟨?_, ?_, ?_, ?_, ?_, ?_, ?_, ?_, ?_, ?_, ?_⟩ <;> exact IdealRules.named_const.statement _ _ _ _ _ rfl

/-- The reference's result is the layer of its arguments. -/
theorem reference_run (m : (ℓ : Loc Cert.ReferenceIdeal.nD Cert.ReferenceIdeal.τ Cert.ReferenceIdeal.sig) → Buf (Elt Ideal) ℓ) (c : Dev nD) :
    Cert.ReferenceIdeal.Read.val_main_v245 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      = fun i : S8x8192x1024.Idx => layer (argsOf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) (i 0) (i 1) (i 2) := by
  funext i
  have hi : i = ix3 (i 0) (i 1) (i 2) := funext fun a => by match a with | ⟨0, _⟩ => rfl | ⟨1, _⟩ => rfl | ⟨2, _⟩ => rfl
  rw [hi]
  exact reference_eq _ _ _ _ _ _ _ _ _ _ _ _ _ _ _ _ (i 0) (i 1) (i 2)

/-- THE KERNEL AND THE REFERENCE RETURN ONE ARRAY. -/
theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hpre hargs
  refine ⟨fun c => fun i : S8x8192x1024.Idx => layer (args m c) (i 0) (i 1) (i 2), ?_, ?_⟩
  · refine (θ_run _ _ _).mono (fun r h c => ?_) (Cert.KernelIdeal.Value.run_blocks m g)
    exact ⟨(h c).1.trans (result (args_real m c hpre)), (h c).2⟩
  · refine (θ_run _ _ _).mono (fun r h c => ?_) (Cert.ReferenceIdeal.Value.run m' g')
    refine ⟨(h c).1.trans ?_, (h c).2⟩
    obtain ⟨h0, h1, h2, h3, h4, h5, h6, h7, h8, h9, h10, h11, h12, h13, h14, h15⟩ := hargs c
    refine (Cert.ReferenceIdeal.Read.val_main_v245_eq (launchContents m' c)).trans ?_
    refine (reference_run m' c).trans ?_
    rw [h0, h1, h2, h3, h4, h5, h6, h7, h8, h9, h10, h11, h12, h13, h14, h15]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ref
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, preserves, algebraic⟩

end Cert.Proof

end
